-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v102) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x128x128 : S_.BroadcastsInDim S1x4096x128x128 (![] : Fin 0 → Fin S1x4096x128x128.rank)

variable [Facts]

def fn {F : FTy → Type} [FloatOps F] (main_arg0 : FVec F S1x256x1024 .f32) (main_arg1 : FVec F S1024x1024 .f32) (main_arg2 : FVec F S1x4096x128x128 .f32) (main_arg3 : FVec F S1x4096x128x128 .f32) (main_arg4 : FVec F S1024x1024 .f32) : IVec S1x256x1024 1 × IVec S1024x1024 1 × IVec S1x4096x128x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x128x128 .f32 := Host.absf main_arg2
  let main_cst_1 : FVec F S_ .f32 := constant S_ .f32 0x7F800000#32
  let main_v7 : FVec F S1x4096x128x128 .f32 := broadcastInDim S1x4096x128x128 ![] bcast_S_S1x4096x128x128 main_cst_1
  let main_v8 : IVec S1x4096x128x128 1 := cmpf .olt main_v6 main_v7
  (main_v2, main_v5, main_v8)
-- ==== Pre_scores_finite_ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S_ : Shape := ⟨0, ![]⟩

class Facts : Prop where
  bcast_S_S1x256x1024 : S_.BroadcastsInDim S1x256x1024 (![] : Fin 0 → Fin S1x256x1024.rank)
  bcast_S_S1024x16384 : S_.BroadcastsInDim S1024x16384 (![] : Fin 0 → Fin S1024x16384.rank)
  bcast_S_S1x4096x128x128 : S_.BroadcastsInDim S1x4096x128x128 (![] : Fin 0 → Fin S1x4096x128x128.rank)

variable [Facts]

def fn {F : FTy → Type} [FloatOps F] (main_arg0 : FVec F S1x256x1024 .f32) (main_arg1 : FVec F S1024x16384 .f32) (main_arg2 : FVec F S1x4096x128x128 .f32) (main_arg3 : FVec F S1x4096x128x128 .f32) (main_arg4 : FVec F S16384x1024 .f32) : IVec S1x256x1024 1 × IVec S1024x16384 1 × IVec S1x4096x128x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  let main_v6 : FVec F S1x4096x128x128 .f32 := Host.absf main_arg2
  let main_cst_1 : FVec F S_ .f32 := constant S_ .f32 0x7F800000#32
  let main_v7 : FVec F S1x4096x128x128 .f32 := broadcastInDim S1x4096x128x128 ![] bcast_S_S1x4096x128x128 main_cst_1
  let main_v8 : IVec S1x4096x128x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x128x128 : Shape := ⟨4, ![1, 4096, 128, 128]⟩
abbrev S256x1024 : Shape := ⟨2, ![256, 1024]⟩
abbrev S8x4096x128 : Shape := ⟨3, ![8, 4096, 128]⟩
abbrev S16x16x1024 : Shape := ⟨3, ![16, 16, 1024]⟩
abbrev S8 : Shape := ⟨1, ![8]⟩
abbrev S16 : Shape := ⟨1, ![16]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S1x4096x1x128 : Shape := ⟨4, ![1, 4096, 1, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x16x1024 : Shape := ⟨3, ![1, 16, 1024]⟩
abbrev S16x1024 : Shape := ⟨2, ![16, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x128x128, .f32⟩
  | .hbm, ⟨3, _⟩ => ⟨S1x4096x128x128, .f32⟩
  | .hbm, ⟨4, _⟩ => ⟨S1024x1024, .f32⟩
  | .hbm, ⟨5, _⟩ => ⟨S256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S8x4096x128, .f32⟩
  | .local _ .vmem, ⟨5, _⟩ => ⟨S8x4096x128, .f32⟩
  | .local _ .vmem, ⟨6, _⟩ => ⟨S256x1024, .bf16⟩
  | .local _ .vmem, ⟨7, _⟩ => ⟨S256x1024, .f32⟩
  | .local _ .vmem, ⟨8, _⟩ => ⟨S256x1024, .bf16⟩
  | .local _ .vmem, ⟨9, _⟩ => ⟨S16x16x1024, .bf16⟩
  | .local _ .vmem, ⟨10, _⟩ => ⟨S16x16x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_137 : BitVec 32) : Fin 4 → Nat :=
  let c0_i32_139 : BitVec 32 := 0#32
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_136 : BitVec 32 := 8#32
  let v199 : BitVec 32 := Scalar.muli v2 c8_i32_136
  let v200 : BitVec 32 := Scalar.addi v199 c0_i32_137
  let c0_i32_145 : BitVec 32 := 0#32
  ![0, 0, v200.toNat, 0]
def k0_off2 (d0 : Dev nD) (c1_i32_465 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v583 : BitVec 32 := Scalar.addi v2 c1_i32_465
  let c16_i32_466 : BitVec 32 := 16#32
  let c0_i32_467 : BitVec 32 := 0#32
  let v584 : BitVec 1 := Scalar.cmpi .eq c16_i32_466 c0_i32_467
  let c1_i32_468 : BitVec 32 := 1#32
  let v585 : BitVec 32 := Scalar.select v584 c1_i32_468 c16_i32_466
  let v586 : BitVec 32 := Scalar.remsi v583 v585
  let c0_i32_470 : BitVec 32 := 0#32
  let v588 : BitVec 1 := Scalar.cmpi .slt v586 c0_i32_470
  let c0_i32_471 : BitVec 32 := 0#32
  let v589 : BitVec 1 := Scalar.cmpi .slt v585 c0_i32_471
  let v590 : BitVec 1 := Scalar.xori v588 v589
  let c0_i32_469 : BitVec 32 := 0#32
  let v587 : BitVec 1 := Scalar.cmpi .ne v586 c0_i32_469
  let v591 : BitVec 1 := Scalar.andi v590 v587
  let v592 : BitVec 32 := Scalar.addi v586 v585
  let v593 : BitVec 32 := Scalar.select v591 v592 v586
  ![v593.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_475 : BitVec 32 := 0#32
  let c0_i32_476 : BitVec 32 := 0#32
  ![v2.toNat, 0, 0]
def k0_off5 (d0 : Dev nD) (c1_i32_465 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v583 : BitVec 32 := Scalar.addi v2 c1_i32_465
  let c16_i32_466 : BitVec 32 := 16#32
  let c0_i32_467 : BitVec 32 := 0#32
  let v584 : BitVec 1 := Scalar.cmpi .eq c16_i32_466 c0_i32_467
  let c1_i32_468 : BitVec 32 := 1#32
  let v585 : BitVec 32 := Scalar.select v584 c1_i32_468 c16_i32_466
  let v586 : BitVec 32 := Scalar.remsi v583 v585
  let c0_i32_470 : BitVec 32 := 0#32
  let v588 : BitVec 1 := Scalar.cmpi .slt v586 c0_i32_470
  let c0_i32_471 : BitVec 32 := 0#32
  let v589 : BitVec 1 := Scalar.cmpi .slt v585 c0_i32_471
  let v590 : BitVec 1 := Scalar.xori v588 v589
  let c0_i32_469 : BitVec 32 := 0#32
  let v587 : BitVec 1 := Scalar.cmpi .ne v586 c0_i32_469
  let v591 : BitVec 1 := Scalar.andi v590 v587
  let v592 : BitVec 32 := Scalar.addi v586 v585
  let v593 : BitVec 32 := Scalar.select v591 v592 v586
  let c16_i32_472 : BitVec 32 := 16#32
  let v594 : BitVec 32 := Scalar.muli v593 c16_i32_472
  let c0_i32_477 : BitVec 32 := 0#32
  ![v594.toNat, 0]
def k0_dev16 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_465 : BitVec 32 := 1#32
  let v583 : BitVec 32 := Scalar.addi v2 c1_i32_465
  let c16_i32_466 : BitVec 32 := 16#32
  let c0_i32_467 : BitVec 32 := 0#32
  let v584 : BitVec 1 := Scalar.cmpi .eq c16_i32_466 c0_i32_467
  let c1_i32_468 : BitVec 32 := 1#32
  let v585 : BitVec 32 := Scalar.select v584 c1_i32_468 c16_i32_466
  let v586 : BitVec 32 := Scalar.remsi v583 v585
  let c0_i32_470 : BitVec 32 := 0#32
  let v588 : BitVec 1 := Scalar.cmpi .slt v586 c0_i32_470
  let c0_i32_471 : BitVec 32 := 0#32
  let v589 : BitVec 1 := Scalar.cmpi .slt v585 c0_i32_471
  let v590 : BitVec 1 := Scalar.xori v588 v589
  let c0_i32_469 : BitVec 32 := 0#32
  let v587 : BitVec 1 := Scalar.cmpi .ne v586 c0_i32_469
  let v591 : BitVec 1 := Scalar.andi v590 v587
  let v592 : BitVec 32 := Scalar.addi v586 v585
  let v593 : BitVec 32 := Scalar.select v591 v592 v586
  let c1_i32_473 : BitVec 32 := 1#32
  let v595 : BitVec 32 := Scalar.muli v593 c1_i32_473
  let v596 : BitVec 32 := Scalar.addi c0_i32_474 v595
  v596.toNat
def k0_dev17 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_478 : BitVec 32 := 2#32
  let v604 : BitVec 32 := Scalar.addi v2 c2_i32_478
  let c16_i32_479 : BitVec 32 := 16#32
  let c0_i32_480 : BitVec 32 := 0#32
  let v605 : BitVec 1 := Scalar.cmpi .eq c16_i32_479 c0_i32_480
  let c1_i32_481 : BitVec 32 := 1#32
  let v606 : BitVec 32 := Scalar.select v605 c1_i32_481 c16_i32_479
  let v607 : BitVec 32 := Scalar.remsi v604 v606
  let c0_i32_483 : BitVec 32 := 0#32
  let v609 : BitVec 1 := Scalar.cmpi .slt v607 c0_i32_483
  let c0_i32_484 : BitVec 32 := 0#32
  let v610 : BitVec 1 := Scalar.cmpi .slt v606 c0_i32_484
  let v611 : BitVec 1 := Scalar.xori v609 v610
  let c0_i32_482 : BitVec 32 := 0#32
  let v608 : BitVec 1 := Scalar.cmpi .ne v607 c0_i32_482
  let v612 : BitVec 1 := Scalar.andi v611 v608
  let v613 : BitVec 32 := Scalar.addi v607 v606
  let v614 : BitVec 32 := Scalar.select v612 v613 v607
  let c1_i32_486 : BitVec 32 := 1#32
  let v616 : BitVec 32 := Scalar.muli v614 c1_i32_486
  let v617 : BitVec 32 := Scalar.addi c0_i32_487 v616
  v617.toNat
def k0_dev18 (d0 : Dev nD) : Nat :=
  let c0_i32_500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_491 : BitVec 32 := 3#32
  let v625 : BitVec 32 := Scalar.addi v2 c3_i32_491
  let c16_i32_492 : BitVec 32 := 16#32
  let c0_i32_493 : BitVec 32 := 0#32
  let v626 : BitVec 1 := Scalar.cmpi .eq c16_i32_492 c0_i32_493
  let c1_i32_494 : BitVec 32 := 1#32
  let v627 : BitVec 32 := Scalar.select v626 c1_i32_494 c16_i32_492
  let v628 : BitVec 32 := Scalar.remsi v625 v627
  let c0_i32_496 : BitVec 32 := 0#32
  let v630 : BitVec 1 := Scalar.cmpi .slt v628 c0_i32_496
  let c0_i32_497 : BitVec 32 := 0#32
  let v631 : BitVec 1 := Scalar.cmpi .slt v627 c0_i32_497
  let v632 : BitVec 1 := Scalar.xori v630 v631
  let c0_i32_495 : BitVec 32 := 0#32
  let v629 : BitVec 1 := Scalar.cmpi .ne v628 c0_i32_495
  let v633 : BitVec 1 := Scalar.andi v632 v629
  let v634 : BitVec 32 := Scalar.addi v628 v627
  let v635 : BitVec 32 := Scalar.select v633 v634 v628
  let c1_i32_499 : BitVec 32 := 1#32
  let v637 : BitVec 32 := Scalar.muli v635 c1_i32_499
  let v638 : BitVec 32 := Scalar.addi c0_i32_500 v637
  v638.toNat
def k0_dev19 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_504 : BitVec 32 := 4#32
  let v646 : BitVec 32 := Scalar.addi v2 c4_i32_504
  let c16_i32_505 : BitVec 32 := 16#32
  let c0_i32_506 : BitVec 32 := 0#32
  let v647 : BitVec 1 := Scalar.cmpi .eq c16_i32_505 c0_i32_506
  let c1_i32_507 : BitVec 32 := 1#32
  let v648 : BitVec 32 := Scalar.select v647 c1_i32_507 c16_i32_505
  let v649 : BitVec 32 := Scalar.remsi v646 v648
  let c0_i32_509 : BitVec 32 := 0#32
  let v651 : BitVec 1 := Scalar.cmpi .slt v649 c0_i32_509
  let c0_i32_510 : BitVec 32 := 0#32
  let v652 : BitVec 1 := Scalar.cmpi .slt v648 c0_i32_510
  let v653 : BitVec 1 := Scalar.xori v651 v652
  let c0_i32_508 : BitVec 32 := 0#32
  let v650 : BitVec 1 := Scalar.cmpi .ne v649 c0_i32_508
  let v654 : BitVec 1 := Scalar.andi v653 v650
  let v655 : BitVec 32 := Scalar.addi v649 v648
  let v656 : BitVec 32 := Scalar.select v654 v655 v649
  let c1_i32_512 : BitVec 32 := 1#32
  let v658 : BitVec 32 := Scalar.muli v656 c1_i32_512
  let v659 : BitVec 32 := Scalar.addi c0_i32_513 v658
  v659.toNat
def k0_dev20 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_517 : BitVec 32 := 5#32
  let v667 : BitVec 32 := Scalar.addi v2 c5_i32_517
  let c16_i32_518 : BitVec 32 := 16#32
  let c0_i32_519 : BitVec 32 := 0#32
  let v668 : BitVec 1 := Scalar.cmpi .eq c16_i32_518 c0_i32_519
  let c1_i32_520 : BitVec 32 := 1#32
  let v669 : BitVec 32 := Scalar.select v668 c1_i32_520 c16_i32_518
  let v670 : BitVec 32 := Scalar.remsi v667 v669
  let c0_i32_522 : BitVec 32 := 0#32
  let v672 : BitVec 1 := Scalar.cmpi .slt v670 c0_i32_522
  let c0_i32_523 : BitVec 32 := 0#32
  let v673 : BitVec 1 := Scalar.cmpi .slt v669 c0_i32_523
  let v674 : BitVec 1 := Scalar.xori v672 v673
  let c0_i32_521 : BitVec 32 := 0#32
  let v671 : BitVec 1 := Scalar.cmpi .ne v670 c0_i32_521
  let v675 : BitVec 1 := Scalar.andi v674 v671
  let v676 : BitVec 32 := Scalar.addi v670 v669
  let v677 : BitVec 32 := Scalar.select v675 v676 v670
  let c1_i32_525 : BitVec 32 := 1#32
  let v679 : BitVec 32 := Scalar.muli v677 c1_i32_525
  let v680 : BitVec 32 := Scalar.addi c0_i32_526 v679
  v680.toNat
def k0_dev21 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_530 : BitVec 32 := 6#32
  let v688 : BitVec 32 := Scalar.addi v2 c6_i32_530
  let c16_i32_531 : BitVec 32 := 16#32
  let c0_i32_532 : BitVec 32 := 0#32
  let v689 : BitVec 1 := Scalar.cmpi .eq c16_i32_531 c0_i32_532
  let c1_i32_533 : BitVec 32 := 1#32
  let v690 : BitVec 32 := Scalar.select v689 c1_i32_533 c16_i32_531
  let v691 : BitVec 32 := Scalar.remsi v688 v690
  let c0_i32_535 : BitVec 32 := 0#32
  let v693 : BitVec 1 := Scalar.cmpi .slt v691 c0_i32_535
  let c0_i32_536 : BitVec 32 := 0#32
  let v694 : BitVec 1 := Scalar.cmpi .slt v690 c0_i32_536
  let v695 : BitVec 1 := Scalar.xori v693 v694
  let c0_i32_534 : BitVec 32 := 0#32
  let v692 : BitVec 1 := Scalar.cmpi .ne v691 c0_i32_534
  let v696 : BitVec 1 := Scalar.andi v695 v692
  let v697 : BitVec 32 := Scalar.addi v691 v690
  let v698 : BitVec 32 := Scalar.select v696 v697 v691
  let c1_i32_538 : BitVec 32 := 1#32
  let v700 : BitVec 32 := Scalar.muli v698 c1_i32_538
  let v701 : BitVec 32 := Scalar.addi c0_i32_539 v700
  v701.toNat
def k0_dev22 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_543 : BitVec 32 := 7#32
  let v709 : BitVec 32 := Scalar.addi v2 c7_i32_543
  let c16_i32_544 : BitVec 32 := 16#32
  let c0_i32_545 : BitVec 32 := 0#32
  let v710 : BitVec 1 := Scalar.cmpi .eq c16_i32_544 c0_i32_545
  let c1_i32_546 : BitVec 32 := 1#32
  let v711 : BitVec 32 := Scalar.select v710 c1_i32_546 c16_i32_544
  let v712 : BitVec 32 := Scalar.remsi v709 v711
  let c0_i32_548 : BitVec 32 := 0#32
  let v714 : BitVec 1 := Scalar.cmpi .slt v712 c0_i32_548
  let c0_i32_549 : BitVec 32 := 0#32
  let v715 : BitVec 1 := Scalar.cmpi .slt v711 c0_i32_549
  let v716 : BitVec 1 := Scalar.xori v714 v715
  let c0_i32_547 : BitVec 32 := 0#32
  let v713 : BitVec 1 := Scalar.cmpi .ne v712 c0_i32_547
  let v717 : BitVec 1 := Scalar.andi v716 v713
  let v718 : BitVec 32 := Scalar.addi v712 v711
  let v719 : BitVec 32 := Scalar.select v717 v718 v712
  let c1_i32_551 : BitVec 32 := 1#32
  let v721 : BitVec 32 := Scalar.muli v719 c1_i32_551
  let v722 : BitVec 32 := Scalar.addi c0_i32_552 v721
  v722.toNat
def k0_dev23 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_556 : BitVec 32 := 8#32
  let v730 : BitVec 32 := Scalar.addi v2 c8_i32_556
  let c16_i32_557 : BitVec 32 := 16#32
  let c0_i32_558 : BitVec 32 := 0#32
  let v731 : BitVec 1 := Scalar.cmpi .eq c16_i32_557 c0_i32_558
  let c1_i32_559 : BitVec 32 := 1#32
  let v732 : BitVec 32 := Scalar.select v731 c1_i32_559 c16_i32_557
  let v733 : BitVec 32 := Scalar.remsi v730 v732
  let c0_i32_561 : BitVec 32 := 0#32
  let v735 : BitVec 1 := Scalar.cmpi .slt v733 c0_i32_561
  let c0_i32_562 : BitVec 32 := 0#32
  let v736 : BitVec 1 := Scalar.cmpi .slt v732 c0_i32_562
  let v737 : BitVec 1 := Scalar.xori v735 v736
  let c0_i32_560 : BitVec 32 := 0#32
  let v734 : BitVec 1 := Scalar.cmpi .ne v733 c0_i32_560
  let v738 : BitVec 1 := Scalar.andi v737 v734
  let v739 : BitVec 32 := Scalar.addi v733 v732
  let v740 : BitVec 32 := Scalar.select v738 v739 v733
  let c1_i32_564 : BitVec 32 := 1#32
  let v742 : BitVec 32 := Scalar.muli v740 c1_i32_564
  let v743 : BitVec 32 := Scalar.addi c0_i32_565 v742
  v743.toNat
def k0_dev24 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_569 : BitVec 32 := 9#32
  let v751 : BitVec 32 := Scalar.addi v2 c9_i32_569
  let c16_i32_570 : BitVec 32 := 16#32
  let c0_i32_571 : BitVec 32 := 0#32
  let v752 : BitVec 1 := Scalar.cmpi .eq c16_i32_570 c0_i32_571
  let c1_i32_572 : BitVec 32 := 1#32
  let v753 : BitVec 32 := Scalar.select v752 c1_i32_572 c16_i32_570
  let v754 : BitVec 32 := Scalar.remsi v751 v753
  let c0_i32_574 : BitVec 32 := 0#32
  let v756 : BitVec 1 := Scalar.cmpi .slt v754 c0_i32_574
  let c0_i32_575 : BitVec 32 := 0#32
  let v757 : BitVec 1 := Scalar.cmpi .slt v753 c0_i32_575
  let v758 : BitVec 1 := Scalar.xori v756 v757
  let c0_i32_573 : BitVec 32 := 0#32
  let v755 : BitVec 1 := Scalar.cmpi .ne v754 c0_i32_573
  let v759 : BitVec 1 := Scalar.andi v758 v755
  let v760 : BitVec 32 := Scalar.addi v754 v753
  let v761 : BitVec 32 := Scalar.select v759 v760 v754
  let c1_i32_577 : BitVec 32 := 1#32
  let v763 : BitVec 32 := Scalar.muli v761 c1_i32_577
  let v764 : BitVec 32 := Scalar.addi c0_i32_578 v763
  v764.toNat
def k0_dev25 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_582 : BitVec 32 := 10#32
  let v772 : BitVec 32 := Scalar.addi v2 c10_i32_582
  let c16_i32_583 : BitVec 32 := 16#32
  let c0_i32_584 : BitVec 32 := 0#32
  let v773 : BitVec 1 := Scalar.cmpi .eq c16_i32_583 c0_i32_584
  let c1_i32_585 : BitVec 32 := 1#32
  let v774 : BitVec 32 := Scalar.select v773 c1_i32_585 c16_i32_583
  let v775 : BitVec 32 := Scalar.remsi v772 v774
  let c0_i32_587 : BitVec 32 := 0#32
  let v777 : BitVec 1 := Scalar.cmpi .slt v775 c0_i32_587
  let c0_i32_588 : BitVec 32 := 0#32
  let v778 : BitVec 1 := Scalar.cmpi .slt v774 c0_i32_588
  let v779 : BitVec 1 := Scalar.xori v777 v778
  let c0_i32_586 : BitVec 32 := 0#32
  let v776 : BitVec 1 := Scalar.cmpi .ne v775 c0_i32_586
  let v780 : BitVec 1 := Scalar.andi v779 v776
  let v781 : BitVec 32 := Scalar.addi v775 v774
  let v782 : BitVec 32 := Scalar.select v780 v781 v775
  let c1_i32_590 : BitVec 32 := 1#32
  let v784 : BitVec 32 := Scalar.muli v782 c1_i32_590
  let v785 : BitVec 32 := Scalar.addi c0_i32_591 v784
  v785.toNat
def k0_dev26 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_595 : BitVec 32 := 11#32
  let v793 : BitVec 32 := Scalar.addi v2 c11_i32_595
  let c16_i32_596 : BitVec 32 := 16#32
  let c0_i32_597 : BitVec 32 := 0#32
  let v794 : BitVec 1 := Scalar.cmpi .eq c16_i32_596 c0_i32_597
  let c1_i32_598 : BitVec 32 := 1#32
  let v795 : BitVec 32 := Scalar.select v794 c1_i32_598 c16_i32_596
  let v796 : BitVec 32 := Scalar.remsi v793 v795
  let c0_i32_600 : BitVec 32 := 0#32
  let v798 : BitVec 1 := Scalar.cmpi .slt v796 c0_i32_600
  let c0_i32_601 : BitVec 32 := 0#32
  let v799 : BitVec 1 := Scalar.cmpi .slt v795 c0_i32_601
  let v800 : BitVec 1 := Scalar.xori v798 v799
  let c0_i32_599 : BitVec 32 := 0#32
  let v797 : BitVec 1 := Scalar.cmpi .ne v796 c0_i32_599
  let v801 : BitVec 1 := Scalar.andi v800 v797
  let v802 : BitVec 32 := Scalar.addi v796 v795
  let v803 : BitVec 32 := Scalar.select v801 v802 v796
  let c1_i32_603 : BitVec 32 := 1#32
  let v805 : BitVec 32 := Scalar.muli v803 c1_i32_603
  let v806 : BitVec 32 := Scalar.addi c0_i32_604 v805
  v806.toNat
def k0_dev27 (d0 : Dev nD) : Nat :=
  let c0_i32_617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_608 : BitVec 32 := 12#32
  let v814 : BitVec 32 := Scalar.addi v2 c12_i32_608
  let c16_i32_609 : BitVec 32 := 16#32
  let c0_i32_610 : BitVec 32 := 0#32
  let v815 : BitVec 1 := Scalar.cmpi .eq c16_i32_609 c0_i32_610
  let c1_i32_611 : BitVec 32 := 1#32
  let v816 : BitVec 32 := Scalar.select v815 c1_i32_611 c16_i32_609
  let v817 : BitVec 32 := Scalar.remsi v814 v816
  let c0_i32_613 : BitVec 32 := 0#32
  let v819 : BitVec 1 := Scalar.cmpi .slt v817 c0_i32_613
  let c0_i32_614 : BitVec 32 := 0#32
  let v820 : BitVec 1 := Scalar.cmpi .slt v816 c0_i32_614
  let v821 : BitVec 1 := Scalar.xori v819 v820
  let c0_i32_612 : BitVec 32 := 0#32
  let v818 : BitVec 1 := Scalar.cmpi .ne v817 c0_i32_612
  let v822 : BitVec 1 := Scalar.andi v821 v818
  let v823 : BitVec 32 := Scalar.addi v817 v816
  let v824 : BitVec 32 := Scalar.select v822 v823 v817
  let c1_i32_616 : BitVec 32 := 1#32
  let v826 : BitVec 32 := Scalar.muli v824 c1_i32_616
  let v827 : BitVec 32 := Scalar.addi c0_i32_617 v826
  v827.toNat
def k0_dev28 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_621 : BitVec 32 := 13#32
  let v835 : BitVec 32 := Scalar.addi v2 c13_i32_621
  let c16_i32_622 : BitVec 32 := 16#32
  let c0_i32_623 : BitVec 32 := 0#32
  let v836 : BitVec 1 := Scalar.cmpi .eq c16_i32_622 c0_i32_623
  let c1_i32_624 : BitVec 32 := 1#32
  let v837 : BitVec 32 := Scalar.select v836 c1_i32_624 c16_i32_622
  let v838 : BitVec 32 := Scalar.remsi v835 v837
  let c0_i32_626 : BitVec 32 := 0#32
  let v840 : BitVec 1 := Scalar.cmpi .slt v838 c0_i32_626
  let c0_i32_627 : BitVec 32 := 0#32
  let v841 : BitVec 1 := Scalar.cmpi .slt v837 c0_i32_627
  let v842 : BitVec 1 := Scalar.xori v840 v841
  let c0_i32_625 : BitVec 32 := 0#32
  let v839 : BitVec 1 := Scalar.cmpi .ne v838 c0_i32_625
  let v843 : BitVec 1 := Scalar.andi v842 v839
  let v844 : BitVec 32 := Scalar.addi v838 v837
  let v845 : BitVec 32 := Scalar.select v843 v844 v838
  let c1_i32_629 : BitVec 32 := 1#32
  let v847 : BitVec 32 := Scalar.muli v845 c1_i32_629
  let v848 : BitVec 32 := Scalar.addi c0_i32_630 v847
  v848.toNat
def k0_dev29 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_634 : BitVec 32 := 14#32
  let v856 : BitVec 32 := Scalar.addi v2 c14_i32_634
  let c16_i32_635 : BitVec 32 := 16#32
  let c0_i32_636 : BitVec 32 := 0#32
  let v857 : BitVec 1 := Scalar.cmpi .eq c16_i32_635 c0_i32_636
  let c1_i32_637 : BitVec 32 := 1#32
  let v858 : BitVec 32 := Scalar.select v857 c1_i32_637 c16_i32_635
  let v859 : BitVec 32 := Scalar.remsi v856 v858
  let c0_i32_639 : BitVec 32 := 0#32
  let v861 : BitVec 1 := Scalar.cmpi .slt v859 c0_i32_639
  let c0_i32_640 : BitVec 32 := 0#32
  let v862 : BitVec 1 := Scalar.cmpi .slt v858 c0_i32_640
  let v863 : BitVec 1 := Scalar.xori v861 v862
  let c0_i32_638 : BitVec 32 := 0#32
  let v860 : BitVec 1 := Scalar.cmpi .ne v859 c0_i32_638
  let v864 : BitVec 1 := Scalar.andi v863 v860
  let v865 : BitVec 32 := Scalar.addi v859 v858
  let v866 : BitVec 32 := Scalar.select v864 v865 v859
  let c1_i32_642 : BitVec 32 := 1#32
  let v868 : BitVec 32 := Scalar.muli v866 c1_i32_642
  let v869 : BitVec 32 := Scalar.addi c0_i32_643 v868
  v869.toNat
def k0_dev30 (d0 : Dev nD) : Nat :=
  let c0_i32_656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_647 : BitVec 32 := 15#32
  let v877 : BitVec 32 := Scalar.addi v2 c15_i32_647
  let c16_i32_648 : BitVec 32 := 16#32
  let c0_i32_649 : BitVec 32 := 0#32
  let v878 : BitVec 1 := Scalar.cmpi .eq c16_i32_648 c0_i32_649
  let c1_i32_650 : BitVec 32 := 1#32
  let v879 : BitVec 32 := Scalar.select v878 c1_i32_650 c16_i32_648
  let v880 : BitVec 32 := Scalar.remsi v877 v879
  let c0_i32_652 : BitVec 32 := 0#32
  let v882 : BitVec 1 := Scalar.cmpi .slt v880 c0_i32_652
  let c0_i32_653 : BitVec 32 := 0#32
  let v883 : BitVec 1 := Scalar.cmpi .slt v879 c0_i32_653
  let v884 : BitVec 1 := Scalar.xori v882 v883
  let c0_i32_651 : BitVec 32 := 0#32
  let v881 : BitVec 1 := Scalar.cmpi .ne v880 c0_i32_651
  let v885 : BitVec 1 := Scalar.andi v884 v881
  let v886 : BitVec 32 := Scalar.addi v880 v879
  let v887 : BitVec 32 := Scalar.select v885 v886 v880
  let c1_i32_655 : BitVec 32 := 1#32
  let v889 : BitVec 32 := Scalar.muli v887 c1_i32_655
  let v890 : BitVec 32 := Scalar.addi c0_i32_656 v889
  v890.toNat
def k0_off6 (d0 : Dev nD) (c1_i32_660 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v898 : BitVec 32 := Scalar.addi v2 c1_i32_660
  let c16_i32_661 : BitVec 32 := 16#32
  let c0_i32_662 : BitVec 32 := 0#32
  let v899 : BitVec 1 := Scalar.cmpi .eq c16_i32_661 c0_i32_662
  let c1_i32_663 : BitVec 32 := 1#32
  let v900 : BitVec 32 := Scalar.select v899 c1_i32_663 c16_i32_661
  let v901 : BitVec 32 := Scalar.remsi v898 v900
  let c0_i32_665 : BitVec 32 := 0#32
  let v903 : BitVec 1 := Scalar.cmpi .slt v901 c0_i32_665
  let c0_i32_666 : BitVec 32 := 0#32
  let v904 : BitVec 1 := Scalar.cmpi .slt v900 c0_i32_666
  let v905 : BitVec 1 := Scalar.xori v903 v904
  let c0_i32_664 : BitVec 32 := 0#32
  let v902 : BitVec 1 := Scalar.cmpi .ne v901 c0_i32_664
  let v906 : BitVec 1 := Scalar.andi v905 v902
  let v907 : BitVec 32 := Scalar.addi v901 v900
  let v908 : BitVec 32 := Scalar.select v906 v907 v901
  let c0_i32_669 : BitVec 32 := 0#32
  let c0_i32_670 : BitVec 32 := 0#32
  ![v908.toNat, 0, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_855 : BitVec 32 := 16#32
  let v1168 : BitVec 32 := Scalar.muli v2 c16_i32_855
  let v1169 : Index := Scalar.indexCast v1168
  let c0_856 : Index := 0#32
  ![v1169.toNat, 0]
def k0_off8 (d0 : Dev nD) (c1_i32_857 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1171 : BitVec 32 := Scalar.addi v2 c1_i32_857
  let c16_i32_858 : BitVec 32 := 16#32
  let c0_i32_859 : BitVec 32 := 0#32
  let v1172 : BitVec 1 := Scalar.cmpi .eq c16_i32_858 c0_i32_859
  let c1_i32_860 : BitVec 32 := 1#32
  let v1173 : BitVec 32 := Scalar.select v1172 c1_i32_860 c16_i32_858
  let v1174 : BitVec 32 := Scalar.remsi v1171 v1173
  let c0_i32_862 : BitVec 32 := 0#32
  let v1176 : BitVec 1 := Scalar.cmpi .slt v1174 c0_i32_862
  let c0_i32_863 : BitVec 32 := 0#32
  let v1177 : BitVec 1 := Scalar.cmpi .slt v1173 c0_i32_863
  let v1178 : BitVec 1 := Scalar.xori v1176 v1177
  let c0_i32_861 : BitVec 32 := 0#32
  let v1175 : BitVec 1 := Scalar.cmpi .ne v1174 c0_i32_861
  let v1179 : BitVec 1 := Scalar.andi v1178 v1175
  let v1180 : BitVec 32 := Scalar.addi v1174 v1173
  let v1181 : BitVec 32 := Scalar.select v1179 v1180 v1174
  let v1182 : Index := Scalar.indexCast v1181
  let c0_864 : Index := 0#32
  let c0_865 : Index := 0#32
  ![v1182.toNat, 0, 0]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1413 : Index := Scalar.indexCast v2
  let c0_992 : Index := 0#32
  let c0_993 : Index := 0#32
  ![v1413.toNat, 0, 0]
def k0_dev31 (d0 : Dev nD) : Nat :=
  let c0_i32_1002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_994 : BitVec 32 := 1#32
  let v1417 : BitVec 32 := Scalar.addi v2 c1_i32_994
  let c16_i32_995 : BitVec 32 := 16#32
  let c0_i32_996 : BitVec 32 := 0#32
  let v1418 : BitVec 1 := Scalar.cmpi .eq c16_i32_995 c0_i32_996
  let c1_i32_997 : BitVec 32 := 1#32
  let v1419 : BitVec 32 := Scalar.select v1418 c1_i32_997 c16_i32_995
  let v1420 : BitVec 32 := Scalar.remsi v1417 v1419
  let c0_i32_999 : BitVec 32 := 0#32
  let v1422 : BitVec 1 := Scalar.cmpi .slt v1420 c0_i32_999
  let c0_i32_1000 : BitVec 32 := 0#32
  let v1423 : BitVec 1 := Scalar.cmpi .slt v1419 c0_i32_1000
  let v1424 : BitVec 1 := Scalar.xori v1422 v1423
  let c0_i32_998 : BitVec 32 := 0#32
  let v1421 : BitVec 1 := Scalar.cmpi .ne v1420 c0_i32_998
  let v1425 : BitVec 1 := Scalar.andi v1424 v1421
  let v1426 : BitVec 32 := Scalar.addi v1420 v1419
  let v1427 : BitVec 32 := Scalar.select v1425 v1426 v1420
  let c1_i32_1001 : BitVec 32 := 1#32
  let v1428 : BitVec 32 := Scalar.muli v1427 c1_i32_1001
  let v1429 : BitVec 32 := Scalar.addi c0_i32_1002 v1428
  v1429.toNat
def k0_dev32 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1007 : BitVec 32 := 2#32
  let v1438 : BitVec 32 := Scalar.addi v2 c2_i32_1007
  let c16_i32_1008 : BitVec 32 := 16#32
  let c0_i32_1009 : BitVec 32 := 0#32
  let v1439 : BitVec 1 := Scalar.cmpi .eq c16_i32_1008 c0_i32_1009
  let c1_i32_1010 : BitVec 32 := 1#32
  let v1440 : BitVec 32 := Scalar.select v1439 c1_i32_1010 c16_i32_1008
  let v1441 : BitVec 32 := Scalar.remsi v1438 v1440
  let c0_i32_1012 : BitVec 32 := 0#32
  let v1443 : BitVec 1 := Scalar.cmpi .slt v1441 c0_i32_1012
  let c0_i32_1013 : BitVec 32 := 0#32
  let v1444 : BitVec 1 := Scalar.cmpi .slt v1440 c0_i32_1013
  let v1445 : BitVec 1 := Scalar.xori v1443 v1444
  let c0_i32_1011 : BitVec 32 := 0#32
  let v1442 : BitVec 1 := Scalar.cmpi .ne v1441 c0_i32_1011
  let v1446 : BitVec 1 := Scalar.andi v1445 v1442
  let v1447 : BitVec 32 := Scalar.addi v1441 v1440
  let v1448 : BitVec 32 := Scalar.select v1446 v1447 v1441
  let c1_i32_1014 : BitVec 32 := 1#32
  let v1449 : BitVec 32 := Scalar.muli v1448 c1_i32_1014
  let v1450 : BitVec 32 := Scalar.addi c0_i32_1015 v1449
  v1450.toNat
def k0_dev33 (d0 : Dev nD) : Nat :=
  let c0_i32_1028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1020 : BitVec 32 := 3#32
  let v1459 : BitVec 32 := Scalar.addi v2 c3_i32_1020
  let c16_i32_1021 : BitVec 32 := 16#32
  let c0_i32_1022 : BitVec 32 := 0#32
  let v1460 : BitVec 1 := Scalar.cmpi .eq c16_i32_1021 c0_i32_1022
  let c1_i32_1023 : BitVec 32 := 1#32
  let v1461 : BitVec 32 := Scalar.select v1460 c1_i32_1023 c16_i32_1021
  let v1462 : BitVec 32 := Scalar.remsi v1459 v1461
  let c0_i32_1025 : BitVec 32 := 0#32
  let v1464 : BitVec 1 := Scalar.cmpi .slt v1462 c0_i32_1025
  let c0_i32_1026 : BitVec 32 := 0#32
  let v1465 : BitVec 1 := Scalar.cmpi .slt v1461 c0_i32_1026
  let v1466 : BitVec 1 := Scalar.xori v1464 v1465
  let c0_i32_1024 : BitVec 32 := 0#32
  let v1463 : BitVec 1 := Scalar.cmpi .ne v1462 c0_i32_1024
  let v1467 : BitVec 1 := Scalar.andi v1466 v1463
  let v1468 : BitVec 32 := Scalar.addi v1462 v1461
  let v1469 : BitVec 32 := Scalar.select v1467 v1468 v1462
  let c1_i32_1027 : BitVec 32 := 1#32
  let v1470 : BitVec 32 := Scalar.muli v1469 c1_i32_1027
  let v1471 : BitVec 32 := Scalar.addi c0_i32_1028 v1470
  v1471.toNat
def k0_dev34 (d0 : Dev nD) : Nat :=
  let c0_i32_1041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1033 : BitVec 32 := 4#32
  let v1480 : BitVec 32 := Scalar.addi v2 c4_i32_1033
  let c16_i32_1034 : BitVec 32 := 16#32
  let c0_i32_1035 : BitVec 32 := 0#32
  let v1481 : BitVec 1 := Scalar.cmpi .eq c16_i32_1034 c0_i32_1035
  let c1_i32_1036 : BitVec 32 := 1#32
  let v1482 : BitVec 32 := Scalar.select v1481 c1_i32_1036 c16_i32_1034
  let v1483 : BitVec 32 := Scalar.remsi v1480 v1482
  let c0_i32_1038 : BitVec 32 := 0#32
  let v1485 : BitVec 1 := Scalar.cmpi .slt v1483 c0_i32_1038
  let c0_i32_1039 : BitVec 32 := 0#32
  let v1486 : BitVec 1 := Scalar.cmpi .slt v1482 c0_i32_1039
  let v1487 : BitVec 1 := Scalar.xori v1485 v1486
  let c0_i32_1037 : BitVec 32 := 0#32
  let v1484 : BitVec 1 := Scalar.cmpi .ne v1483 c0_i32_1037
  let v1488 : BitVec 1 := Scalar.andi v1487 v1484
  let v1489 : BitVec 32 := Scalar.addi v1483 v1482
  let v1490 : BitVec 32 := Scalar.select v1488 v1489 v1483
  let c1_i32_1040 : BitVec 32 := 1#32
  let v1491 : BitVec 32 := Scalar.muli v1490 c1_i32_1040
  let v1492 : BitVec 32 := Scalar.addi c0_i32_1041 v1491
  v1492.toNat
def k0_dev35 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1046 : BitVec 32 := 5#32
  let v1501 : BitVec 32 := Scalar.addi v2 c5_i32_1046
  let c16_i32_1047 : BitVec 32 := 16#32
  let c0_i32_1048 : BitVec 32 := 0#32
  let v1502 : BitVec 1 := Scalar.cmpi .eq c16_i32_1047 c0_i32_1048
  let c1_i32_1049 : BitVec 32 := 1#32
  let v1503 : BitVec 32 := Scalar.select v1502 c1_i32_1049 c16_i32_1047
  let v1504 : BitVec 32 := Scalar.remsi v1501 v1503
  let c0_i32_1051 : BitVec 32 := 0#32
  let v1506 : BitVec 1 := Scalar.cmpi .slt v1504 c0_i32_1051
  let c0_i32_1052 : BitVec 32 := 0#32
  let v1507 : BitVec 1 := Scalar.cmpi .slt v1503 c0_i32_1052
  let v1508 : BitVec 1 := Scalar.xori v1506 v1507
  let c0_i32_1050 : BitVec 32 := 0#32
  let v1505 : BitVec 1 := Scalar.cmpi .ne v1504 c0_i32_1050
  let v1509 : BitVec 1 := Scalar.andi v1508 v1505
  let v1510 : BitVec 32 := Scalar.addi v1504 v1503
  let v1511 : BitVec 32 := Scalar.select v1509 v1510 v1504
  let c1_i32_1053 : BitVec 32 := 1#32
  let v1512 : BitVec 32 := Scalar.muli v1511 c1_i32_1053
  let v1513 : BitVec 32 := Scalar.addi c0_i32_1054 v1512
  v1513.toNat
def k0_dev36 (d0 : Dev nD) : Nat :=
  let c0_i32_1067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1059 : BitVec 32 := 6#32
  let v1522 : BitVec 32 := Scalar.addi v2 c6_i32_1059
  let c16_i32_1060 : BitVec 32 := 16#32
  let c0_i32_1061 : BitVec 32 := 0#32
  let v1523 : BitVec 1 := Scalar.cmpi .eq c16_i32_1060 c0_i32_1061
  let c1_i32_1062 : BitVec 32 := 1#32
  let v1524 : BitVec 32 := Scalar.select v1523 c1_i32_1062 c16_i32_1060
  let v1525 : BitVec 32 := Scalar.remsi v1522 v1524
  let c0_i32_1064 : BitVec 32 := 0#32
  let v1527 : BitVec 1 := Scalar.cmpi .slt v1525 c0_i32_1064
  let c0_i32_1065 : BitVec 32 := 0#32
  let v1528 : BitVec 1 := Scalar.cmpi .slt v1524 c0_i32_1065
  let v1529 : BitVec 1 := Scalar.xori v1527 v1528
  let c0_i32_1063 : BitVec 32 := 0#32
  let v1526 : BitVec 1 := Scalar.cmpi .ne v1525 c0_i32_1063
  let v1530 : BitVec 1 := Scalar.andi v1529 v1526
  let v1531 : BitVec 32 := Scalar.addi v1525 v1524
  let v1532 : BitVec 32 := Scalar.select v1530 v1531 v1525
  let c1_i32_1066 : BitVec 32 := 1#32
  let v1533 : BitVec 32 := Scalar.muli v1532 c1_i32_1066
  let v1534 : BitVec 32 := Scalar.addi c0_i32_1067 v1533
  v1534.toNat
def k0_dev37 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1072 : BitVec 32 := 7#32
  let v1543 : BitVec 32 := Scalar.addi v2 c7_i32_1072
  let c16_i32_1073 : BitVec 32 := 16#32
  let c0_i32_1074 : BitVec 32 := 0#32
  let v1544 : BitVec 1 := Scalar.cmpi .eq c16_i32_1073 c0_i32_1074
  let c1_i32_1075 : BitVec 32 := 1#32
  let v1545 : BitVec 32 := Scalar.select v1544 c1_i32_1075 c16_i32_1073
  let v1546 : BitVec 32 := Scalar.remsi v1543 v1545
  let c0_i32_1077 : BitVec 32 := 0#32
  let v1548 : BitVec 1 := Scalar.cmpi .slt v1546 c0_i32_1077
  let c0_i32_1078 : BitVec 32 := 0#32
  let v1549 : BitVec 1 := Scalar.cmpi .slt v1545 c0_i32_1078
  let v1550 : BitVec 1 := Scalar.xori v1548 v1549
  let c0_i32_1076 : BitVec 32 := 0#32
  let v1547 : BitVec 1 := Scalar.cmpi .ne v1546 c0_i32_1076
  let v1551 : BitVec 1 := Scalar.andi v1550 v1547
  let v1552 : BitVec 32 := Scalar.addi v1546 v1545
  let v1553 : BitVec 32 := Scalar.select v1551 v1552 v1546
  let c1_i32_1079 : BitVec 32 := 1#32
  let v1554 : BitVec 32 := Scalar.muli v1553 c1_i32_1079
  let v1555 : BitVec 32 := Scalar.addi c0_i32_1080 v1554
  v1555.toNat
def k0_dev38 (d0 : Dev nD) : Nat :=
  let c0_i32_1093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1085 : BitVec 32 := 8#32
  let v1564 : BitVec 32 := Scalar.addi v2 c8_i32_1085
  let c16_i32_1086 : BitVec 32 := 16#32
  let c0_i32_1087 : BitVec 32 := 0#32
  let v1565 : BitVec 1 := Scalar.cmpi .eq c16_i32_1086 c0_i32_1087
  let c1_i32_1088 : BitVec 32 := 1#32
  let v1566 : BitVec 32 := Scalar.select v1565 c1_i32_1088 c16_i32_1086
  let v1567 : BitVec 32 := Scalar.remsi v1564 v1566
  let c0_i32_1090 : BitVec 32 := 0#32
  let v1569 : BitVec 1 := Scalar.cmpi .slt v1567 c0_i32_1090
  let c0_i32_1091 : BitVec 32 := 0#32
  let v1570 : BitVec 1 := Scalar.cmpi .slt v1566 c0_i32_1091
  let v1571 : BitVec 1 := Scalar.xori v1569 v1570
  let c0_i32_1089 : BitVec 32 := 0#32
  let v1568 : BitVec 1 := Scalar.cmpi .ne v1567 c0_i32_1089
  let v1572 : BitVec 1 := Scalar.andi v1571 v1568
  let v1573 : BitVec 32 := Scalar.addi v1567 v1566
  let v1574 : BitVec 32 := Scalar.select v1572 v1573 v1567
  let c1_i32_1092 : BitVec 32 := 1#32
  let v1575 : BitVec 32 := Scalar.muli v1574 c1_i32_1092
  let v1576 : BitVec 32 := Scalar.addi c0_i32_1093 v1575
  v1576.toNat
def k0_dev39 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1098 : BitVec 32 := 9#32
  let v1585 : BitVec 32 := Scalar.addi v2 c9_i32_1098
  let c16_i32_1099 : BitVec 32 := 16#32
  let c0_i32_1100 : BitVec 32 := 0#32
  let v1586 : BitVec 1 := Scalar.cmpi .eq c16_i32_1099 c0_i32_1100
  let c1_i32_1101 : BitVec 32 := 1#32
  let v1587 : BitVec 32 := Scalar.select v1586 c1_i32_1101 c16_i32_1099
  let v1588 : BitVec 32 := Scalar.remsi v1585 v1587
  let c0_i32_1103 : BitVec 32 := 0#32
  let v1590 : BitVec 1 := Scalar.cmpi .slt v1588 c0_i32_1103
  let c0_i32_1104 : BitVec 32 := 0#32
  let v1591 : BitVec 1 := Scalar.cmpi .slt v1587 c0_i32_1104
  let v1592 : BitVec 1 := Scalar.xori v1590 v1591
  let c0_i32_1102 : BitVec 32 := 0#32
  let v1589 : BitVec 1 := Scalar.cmpi .ne v1588 c0_i32_1102
  let v1593 : BitVec 1 := Scalar.andi v1592 v1589
  let v1594 : BitVec 32 := Scalar.addi v1588 v1587
  let v1595 : BitVec 32 := Scalar.select v1593 v1594 v1588
  let c1_i32_1105 : BitVec 32 := 1#32
  let v1596 : BitVec 32 := Scalar.muli v1595 c1_i32_1105
  let v1597 : BitVec 32 := Scalar.addi c0_i32_1106 v1596
  v1597.toNat
def k0_dev40 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1111 : BitVec 32 := 10#32
  let v1606 : BitVec 32 := Scalar.addi v2 c10_i32_1111
  let c16_i32_1112 : BitVec 32 := 16#32
  let c0_i32_1113 : BitVec 32 := 0#32
  let v1607 : BitVec 1 := Scalar.cmpi .eq c16_i32_1112 c0_i32_1113
  let c1_i32_1114 : BitVec 32 := 1#32
  let v1608 : BitVec 32 := Scalar.select v1607 c1_i32_1114 c16_i32_1112
  let v1609 : BitVec 32 := Scalar.remsi v1606 v1608
  let c0_i32_1116 : BitVec 32 := 0#32
  let v1611 : BitVec 1 := Scalar.cmpi .slt v1609 c0_i32_1116
  let c0_i32_1117 : BitVec 32 := 0#32
  let v1612 : BitVec 1 := Scalar.cmpi .slt v1608 c0_i32_1117
  let v1613 : BitVec 1 := Scalar.xori v1611 v1612
  let c0_i32_1115 : BitVec 32 := 0#32
  let v1610 : BitVec 1 := Scalar.cmpi .ne v1609 c0_i32_1115
  let v1614 : BitVec 1 := Scalar.andi v1613 v1610
  let v1615 : BitVec 32 := Scalar.addi v1609 v1608
  let v1616 : BitVec 32 := Scalar.select v1614 v1615 v1609
  let c1_i32_1118 : BitVec 32 := 1#32
  let v1617 : BitVec 32 := Scalar.muli v1616 c1_i32_1118
  let v1618 : BitVec 32 := Scalar.addi c0_i32_1119 v1617
  v1618.toNat
def k0_dev41 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1124 : BitVec 32 := 11#32
  let v1627 : BitVec 32 := Scalar.addi v2 c11_i32_1124
  let c16_i32_1125 : BitVec 32 := 16#32
  let c0_i32_1126 : BitVec 32 := 0#32
  let v1628 : BitVec 1 := Scalar.cmpi .eq c16_i32_1125 c0_i32_1126
  let c1_i32_1127 : BitVec 32 := 1#32
  let v1629 : BitVec 32 := Scalar.select v1628 c1_i32_1127 c16_i32_1125
  let v1630 : BitVec 32 := Scalar.remsi v1627 v1629
  let c0_i32_1129 : BitVec 32 := 0#32
  let v1632 : BitVec 1 := Scalar.cmpi .slt v1630 c0_i32_1129
  let c0_i32_1130 : BitVec 32 := 0#32
  let v1633 : BitVec 1 := Scalar.cmpi .slt v1629 c0_i32_1130
  let v1634 : BitVec 1 := Scalar.xori v1632 v1633
  let c0_i32_1128 : BitVec 32 := 0#32
  let v1631 : BitVec 1 := Scalar.cmpi .ne v1630 c0_i32_1128
  let v1635 : BitVec 1 := Scalar.andi v1634 v1631
  let v1636 : BitVec 32 := Scalar.addi v1630 v1629
  let v1637 : BitVec 32 := Scalar.select v1635 v1636 v1630
  let c1_i32_1131 : BitVec 32 := 1#32
  let v1638 : BitVec 32 := Scalar.muli v1637 c1_i32_1131
  let v1639 : BitVec 32 := Scalar.addi c0_i32_1132 v1638
  v1639.toNat
def k0_dev42 (d0 : Dev nD) : Nat :=
  let c0_i32_1145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1137 : BitVec 32 := 12#32
  let v1648 : BitVec 32 := Scalar.addi v2 c12_i32_1137
  let c16_i32_1138 : BitVec 32 := 16#32
  let c0_i32_1139 : BitVec 32 := 0#32
  let v1649 : BitVec 1 := Scalar.cmpi .eq c16_i32_1138 c0_i32_1139
  let c1_i32_1140 : BitVec 32 := 1#32
  let v1650 : BitVec 32 := Scalar.select v1649 c1_i32_1140 c16_i32_1138
  let v1651 : BitVec 32 := Scalar.remsi v1648 v1650
  let c0_i32_1142 : BitVec 32 := 0#32
  let v1653 : BitVec 1 := Scalar.cmpi .slt v1651 c0_i32_1142
  let c0_i32_1143 : BitVec 32 := 0#32
  let v1654 : BitVec 1 := Scalar.cmpi .slt v1650 c0_i32_1143
  let v1655 : BitVec 1 := Scalar.xori v1653 v1654
  let c0_i32_1141 : BitVec 32 := 0#32
  let v1652 : BitVec 1 := Scalar.cmpi .ne v1651 c0_i32_1141
  let v1656 : BitVec 1 := Scalar.andi v1655 v1652
  let v1657 : BitVec 32 := Scalar.addi v1651 v1650
  let v1658 : BitVec 32 := Scalar.select v1656 v1657 v1651
  let c1_i32_1144 : BitVec 32 := 1#32
  let v1659 : BitVec 32 := Scalar.muli v1658 c1_i32_1144
  let v1660 : BitVec 32 := Scalar.addi c0_i32_1145 v1659
  v1660.toNat
def k0_dev43 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1150 : BitVec 32 := 13#32
  let v1669 : BitVec 32 := Scalar.addi v2 c13_i32_1150
  let c16_i32_1151 : BitVec 32 := 16#32
  let c0_i32_1152 : BitVec 32 := 0#32
  let v1670 : BitVec 1 := Scalar.cmpi .eq c16_i32_1151 c0_i32_1152
  let c1_i32_1153 : BitVec 32 := 1#32
  let v1671 : BitVec 32 := Scalar.select v1670 c1_i32_1153 c16_i32_1151
  let v1672 : BitVec 32 := Scalar.remsi v1669 v1671
  let c0_i32_1155 : BitVec 32 := 0#32
  let v1674 : BitVec 1 := Scalar.cmpi .slt v1672 c0_i32_1155
  let c0_i32_1156 : BitVec 32 := 0#32
  let v1675 : BitVec 1 := Scalar.cmpi .slt v1671 c0_i32_1156
  let v1676 : BitVec 1 := Scalar.xori v1674 v1675
  let c0_i32_1154 : BitVec 32 := 0#32
  let v1673 : BitVec 1 := Scalar.cmpi .ne v1672 c0_i32_1154
  let v1677 : BitVec 1 := Scalar.andi v1676 v1673
  let v1678 : BitVec 32 := Scalar.addi v1672 v1671
  let v1679 : BitVec 32 := Scalar.select v1677 v1678 v1672
  let c1_i32_1157 : BitVec 32 := 1#32
  let v1680 : BitVec 32 := Scalar.muli v1679 c1_i32_1157
  let v1681 : BitVec 32 := Scalar.addi c0_i32_1158 v1680
  v1681.toNat
def k0_dev44 (d0 : Dev nD) : Nat :=
  let c0_i32_1171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1163 : BitVec 32 := 14#32
  let v1690 : BitVec 32 := Scalar.addi v2 c14_i32_1163
  let c16_i32_1164 : BitVec 32 := 16#32
  let c0_i32_1165 : BitVec 32 := 0#32
  let v1691 : BitVec 1 := Scalar.cmpi .eq c16_i32_1164 c0_i32_1165
  let c1_i32_1166 : BitVec 32 := 1#32
  let v1692 : BitVec 32 := Scalar.select v1691 c1_i32_1166 c16_i32_1164
  let v1693 : BitVec 32 := Scalar.remsi v1690 v1692
  let c0_i32_1168 : BitVec 32 := 0#32
  let v1695 : BitVec 1 := Scalar.cmpi .slt v1693 c0_i32_1168
  let c0_i32_1169 : BitVec 32 := 0#32
  let v1696 : BitVec 1 := Scalar.cmpi .slt v1692 c0_i32_1169
  let v1697 : BitVec 1 := Scalar.xori v1695 v1696
  let c0_i32_1167 : BitVec 32 := 0#32
  let v1694 : BitVec 1 := Scalar.cmpi .ne v1693 c0_i32_1167
  let v1698 : BitVec 1 := Scalar.andi v1697 v1694
  let v1699 : BitVec 32 := Scalar.addi v1693 v1692
  let v1700 : BitVec 32 := Scalar.select v1698 v1699 v1693
  let c1_i32_1170 : BitVec 32 := 1#32
  let v1701 : BitVec 32 := Scalar.muli v1700 c1_i32_1170
  let v1702 : BitVec 32 := Scalar.addi c0_i32_1171 v1701
  v1702.toNat
def k0_dev45 (d0 : Dev nD) : Nat :=
  let c0_i32_1184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1176 : BitVec 32 := 15#32
  let v1711 : BitVec 32 := Scalar.addi v2 c15_i32_1176
  let c16_i32_1177 : BitVec 32 := 16#32
  let c0_i32_1178 : BitVec 32 := 0#32
  let v1712 : BitVec 1 := Scalar.cmpi .eq c16_i32_1177 c0_i32_1178
  let c1_i32_1179 : BitVec 32 := 1#32
  let v1713 : BitVec 32 := Scalar.select v1712 c1_i32_1179 c16_i32_1177
  let v1714 : BitVec 32 := Scalar.remsi v1711 v1713
  let c0_i32_1181 : BitVec 32 := 0#32
  let v1716 : BitVec 1 := Scalar.cmpi .slt v1714 c0_i32_1181
  let c0_i32_1182 : BitVec 32 := 0#32
  let v1717 : BitVec 1 := Scalar.cmpi .slt v1713 c0_i32_1182
  let v1718 : BitVec 1 := Scalar.xori v1716 v1717
  let c0_i32_1180 : BitVec 32 := 0#32
  let v1715 : BitVec 1 := Scalar.cmpi .ne v1714 c0_i32_1180
  let v1719 : BitVec 1 := Scalar.andi v1718 v1715
  let v1720 : BitVec 32 := Scalar.addi v1714 v1713
  let v1721 : BitVec 32 := Scalar.select v1719 v1720 v1714
  let c1_i32_1183 : BitVec 32 := 1#32
  let v1722 : BitVec 32 := Scalar.muli v1721 c1_i32_1183
  let v1723 : BitVec 32 := Scalar.addi c0_i32_1184 v1722
  v1723.toNat
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x16384 : Shape := ⟨2, ![1024, 16384]⟩
abbrev S1x4096x128x128 : Shape := ⟨4, ![1, 4096, 128, 128]⟩
abbrev S16384x1024 : Shape := ⟨2, ![16384, 1024]⟩
abbrev S1x256x16384 : Shape := ⟨3, ![1, 256, 16384]⟩
abbrev S1x256x128x128 : Shape := ⟨4, ![1, 256, 128, 128]⟩
abbrev S_ : Shape := ⟨0, ![]⟩
abbrev S1x128x256x1 : Shape := ⟨4, ![1, 128, 256, 1]⟩
abbrev S1x1024x128x128 : Shape := ⟨4, ![1, 1024, 128, 128]⟩
abbrev S1x128x256x1024 : Shape := ⟨4, ![1, 128, 256, 1024]⟩
abbrev S1x128x256 : Shape := ⟨3, ![1, 128, 256]⟩
abbrev S1x256x128x1 : Shape := ⟨4, ![1, 256, 128, 1]⟩
abbrev S1x128x128x256 : Shape := ⟨4, ![1, 128, 128, 256]⟩
abbrev S256x1024 : Shape := ⟨2, ![256, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x16384, .f32⟩
  | .hbm, ⟨2, _⟩ => ⟨S1x4096x128x128, .f32⟩
  | .hbm, ⟨3, _⟩ => ⟨S1x4096x128x128, .f32⟩
  | .hbm, ⟨4, _⟩ => ⟨S16384x1024, .f32⟩
  | .hbm, ⟨5, _⟩ => ⟨S1x256x16384, .f32⟩
  | .hbm, ⟨6, _⟩ => ⟨S1x256x128x128, .f32⟩
  | .hbm, ⟨7, _⟩ => ⟨S_, .f32⟩
  | .hbm, ⟨8, _⟩ => ⟨S1x256x128x128, .f32⟩
  | .hbm, ⟨9, _⟩ => ⟨S_, .f32⟩
  | .hbm, ⟨10, _⟩ => ⟨S1x128x256x1, .f32⟩
  | .hbm, ⟨11, _⟩ => ⟨S_, .f32⟩
  | .hbm, ⟨12, _⟩ => ⟨S1x128x256x1, .f32⟩
  | .hbm, ⟨13, _⟩ => ⟨S1x1024x128x128, .f32⟩
  | .hbm, ⟨14, _⟩ => ⟨S1x1024x128x128, .f32⟩
  | .hbm, ⟨15, _⟩ => ⟨S1x128x256x1024, .f32⟩
  | .hbm, ⟨16, _⟩ => ⟨S_, .f32⟩
  | .hbm, ⟨17, _⟩ => ⟨S1x128x256x1024, .f32⟩
  | .hbm, ⟨18, _⟩ => ⟨S1x128x256x1024, .f32⟩
  | .hbm, ⟨19, _⟩ => ⟨S_, .f32⟩
  | .hbm, ⟨20, _⟩ => ⟨S1x128x256, .f32⟩
  | .hbm, ⟨21, _⟩ => ⟨S1x128x256x1, .f32⟩
  | .hbm, ⟨22, _⟩ => ⟨S1x128x256x1, .f32⟩
  | .hbm, ⟨23, _⟩ => ⟨S1x128x256x1, .f32⟩
  | .hbm, ⟨24, _⟩ => ⟨S1x128x256x1, .f32⟩
  | .hbm, ⟨25, _⟩ => ⟨S1x128x256x1024, .f32⟩
  | .hbm, ⟨26, _⟩ => ⟨S1x128x256x1024, .f32⟩
  | .hbm, ⟨27, _⟩ => ⟨S1x128x256x1024, .f32⟩
  | .hbm, ⟨28, _⟩ => ⟨S1x128x256x1, .f32⟩
  | .hbm, ⟨29, _⟩ => ⟨S_, .f32⟩
  | .hbm, ⟨30, _⟩ => ⟨S1x128x256, .f32⟩
  | .hbm, ⟨31, _⟩ => ⟨S1x128x256x1, .f32⟩
  | .hbm, ⟨32, _⟩ => ⟨S1x128x256x1, .f32⟩
  | .hbm, ⟨33, _⟩ => ⟨S1x256x128x1, .f32⟩
  | .hbm, ⟨34, _⟩ => ⟨S1x256x128x128, .f32⟩
  | .hbm, ⟨35, _⟩ => ⟨S1x256x128x128, .f32⟩
  | .hbm, ⟨36, _⟩ => ⟨S1x128x128x256, .f32⟩
  | .hbm, ⟨37, _⟩ => ⟨S1x256x128x128, .f32⟩
  | .hbm, ⟨38, _⟩ => ⟨S1x256x128x128, .f32⟩
  | .hbm, ⟨39, _⟩ => ⟨S1x1024x128x128, .f32⟩
  | .hbm, ⟨40, _⟩ => ⟨S1x1024x128x128, .f32⟩
  | .hbm, ⟨41, _⟩ => ⟨S1x128x256x1024, .f32⟩
  | .hbm, ⟨42, _⟩ => ⟨S_, .f32⟩
  | .hbm, ⟨43, _⟩ => ⟨S1x128x256x1024, .f32⟩
  | .hbm, ⟨44, _⟩ => ⟨S1x128x256x1024, .f32⟩
  | .hbm, ⟨45, _⟩ => ⟨S_, .f32⟩
  | .hbm, ⟨46, _⟩ => ⟨S1x128x256, .f32⟩
  | .hbm, ⟨47, _⟩ => ⟨S1x128x256x1, .f32⟩
  | .hbm, ⟨48, _⟩ => ⟨S1x128x256x1, .f32⟩
  | .hbm, ⟨49, _⟩ => ⟨S1x128x256x1, .f32⟩
  | .hbm, ⟨50, _⟩ => ⟨S1x128x256x1, .f32⟩
  | .hbm, ⟨51, _⟩ => ⟨S1x128x256x1024, .f32⟩
  | .hbm, ⟨52, _⟩ => ⟨S1x128x256x1024, .f32⟩
  | .hbm, ⟨53, _⟩ => ⟨S1x128x256x1024, .f32⟩
  | .hbm, ⟨54, _⟩ => ⟨S1x128x256x1, .f32⟩
  | .hbm, ⟨55, _⟩ => ⟨S_, .f32⟩
  | .hbm, ⟨56, _⟩ => ⟨S1x128x256, .f32⟩
  | .hbm, ⟨57, _⟩ => ⟨S1x128x256x1, .f32⟩
  | .hbm, ⟨58, _⟩ => ⟨S1x128x256x1, .f32⟩
  | .hbm, ⟨59, _⟩ => ⟨S1x256x128x1, .f32⟩
  | .hbm, ⟨60, _⟩ => ⟨S1x256x128x128, .f32⟩
  | .hbm, ⟨61, _⟩ => ⟨S1x256x128x128, .f32⟩
  | .hbm, ⟨62, _⟩ => ⟨S1x128x128x256, .f32⟩
  | .hbm, ⟨63, _⟩ => ⟨S1x256x128x128, .f32⟩
  | .hbm, ⟨64, _⟩ => ⟨S1x256x128x128, .f32⟩
  | .hbm, ⟨65, _⟩ => ⟨S1x1024x128x128, .f32⟩
  | .hbm, ⟨66, _⟩ => ⟨S1x1024x128x128, .f32⟩
  | .hbm, ⟨67, _⟩ => ⟨S1x128x256x1024, .f32⟩
  | .hbm, ⟨68, _⟩ => ⟨S_, .f32⟩
  | .hbm, ⟨69, _⟩ => ⟨S1x128x256x1024, .f32⟩
  | .hbm, ⟨70, _⟩ => ⟨S1x128x256x1024, .f32⟩
  | .hbm, ⟨71, _⟩ => ⟨S_, .f32⟩
  | .hbm, ⟨72, _⟩ => ⟨S1x128x256, .f32⟩
  | .hbm, ⟨73, _⟩ => ⟨S1x128x256x1, .f32⟩
  | .hbm, ⟨74, _⟩ => ⟨S1x128x256x1, .f32⟩
  | .hbm, ⟨75, _⟩ => ⟨S1x128x256x1, .f32⟩
  | .hbm, ⟨76, _⟩ => ⟨S1x128x256x1, .f32⟩
  | .hbm, ⟨77, _⟩ => ⟨S1x128x256x1024, .f32⟩
  | .hbm, ⟨78, _⟩ => ⟨S1x128x256x1024, .f32⟩
  | .hbm, ⟨79, _⟩ => ⟨S1x128x256x1024, .f32⟩
  | .hbm, ⟨80, _⟩ => ⟨S1x128x256x1, .f32⟩
  | .hbm, ⟨81, _⟩ => ⟨S_, .f32⟩
  | .hbm, ⟨82, _⟩ => ⟨S1x128x256, .f32⟩
  | .hbm, ⟨83, _⟩ => ⟨S1x128x256x1, .f32⟩
  | .hbm, ⟨84, _⟩ => ⟨S1x128x256x1, .f32⟩
  | .hbm, ⟨85, _⟩ => ⟨S1x256x128x1, .f32⟩
  | .hbm, ⟨86, _⟩ => ⟨S1x256x128x128, .f32⟩
  | .hbm, ⟨87, _⟩ => ⟨S1x256x128x128, .f32⟩
  | .hbm, ⟨88, _⟩ => ⟨S1x128x128x256, .f32⟩
  | .hbm, ⟨89, _⟩ => ⟨S1x256x128x128, .f32⟩
  | .hbm, ⟨90, _⟩ => ⟨S1x256x128x128, .f32⟩
  | .hbm, ⟨91, _⟩ => ⟨S1x1024x128x128, .f32⟩
  | .hbm, ⟨92, _⟩ => ⟨S1x1024x128x128, .f32⟩
  | .hbm, ⟨93, _⟩ => ⟨S1x128x256x1024, .f32⟩
  | .hbm, ⟨94, _⟩ => ⟨S_, .f32⟩
  | .hbm, ⟨95, _⟩ => ⟨S1x128x256x1024, .f32⟩
  | .hbm, ⟨96, _⟩ => ⟨S1x128x256x1024, .f32⟩
  | .hbm, ⟨97, _⟩ => ⟨S_, .f32⟩
  | .hbm, ⟨98, _⟩ => ⟨S1x128x256, .f32⟩
  | .hbm, ⟨99, _⟩ => ⟨S1x128x256x1, .f32⟩
  | .hbm, ⟨100, _⟩ => ⟨S1x128x256x1, .f32⟩
  | .hbm, ⟨101, _⟩ => ⟨S1x128x256x1, .f32⟩
  | .hbm, ⟨102, _⟩ => ⟨S1x128x256x1, .f32⟩
  | .hbm, ⟨103, _⟩ => ⟨S1x128x256x1024, .f32⟩
  | .hbm, ⟨104, _⟩ => ⟨S1x128x256x1024, .f32⟩
  | .hbm, ⟨105, _⟩ => ⟨S1x128x256x1024, .f32⟩
  | .hbm, ⟨106, _⟩ => ⟨S1x128x256x1, .f32⟩
  | .hbm, ⟨107, _⟩ => ⟨S_, .f32⟩
  | .hbm, ⟨108, _⟩ => ⟨S1x128x256, .f32⟩
  | .hbm, ⟨109, _⟩ => ⟨S1x128x256x1, .f32⟩
  | .hbm, ⟨110, _⟩ => ⟨S1x128x256x1, .f32⟩
  | .hbm, ⟨111, _⟩ => ⟨S1x256x128x1, .f32⟩
  | .hbm, ⟨112, _⟩ => ⟨S1x256x128x128, .f32⟩
  | .hbm, ⟨113, _⟩ => ⟨S1x256x128x128, .f32⟩
  | .hbm, ⟨114, _⟩ => ⟨S1x128x128x256, .f32⟩
  | .hbm, ⟨115, _⟩ => ⟨S1x256x128x128, .f32⟩
  | .hbm, ⟨116, _⟩ => ⟨S1x256x128x128, .f32⟩
  | .hbm, ⟨117, _⟩ => ⟨S1x256x128x1, .f32⟩
  | .hbm, ⟨118, _⟩ => ⟨S1x256x128x128, .f32⟩
  | .hbm, ⟨119, _⟩ => ⟨S1x256x128x128, .f32⟩
  | .hbm, ⟨120, _⟩ => ⟨S1x256x16384, .f32⟩
  | .hbm, ⟨121, _⟩ => ⟨S1x256x1024, .f32⟩
  | .hbm, ⟨122, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩

abbrev nD : Nat := 1
abbrev τ : Topo := Topo.v7x

variable {F : FTy → Type} [FloatOps F]
-- ==== Proof.KernelIdealBase.lean ====
/-
Shared set-up of the run of the multi-device attention kernel: the sixteen devices and who their peers are, the
semaphore cells, the pieces the buffers are cut into, the contents each transfer hands over, and the schedule of
the semaphores (who pays what onto which cell, and what the payment carries).

For each semaphore of device `c`, in the order the kernel meets it:
* the barrier: every other device `p` signals it one unit, handing over its own landing slots for `c` (slot `c` of its
  two landing buffers); `c` waits for all 15 units;
* the key and value semaphores `h = 0..7`: `c`'s own copy of one head of the key (value) array lands on it; `c` waits
  for the head and gets the slab back filled, with the part of the array it read;
* the receive semaphore of the first exchange, entry `s ≠ c`: the transfer from device `s` lands on it, handing over
  slot `s` of `c`'s first landing buffer, holding `s`'s rows for `c`;
* the send semaphore of the first exchange, entry `p ≠ c`: `c`'s own transfer to `p` returns the rows sent;
* the receive and send semaphores of the second exchange likewise, with the second landing buffer: slot `s` holds the
  finished rows of `s`; what a send returns is one share of `c`'s own slot.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Pointwise.Reshape
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.ShloMosaic.ValueIdx (reshapeEquiv_ix2_1ab)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and this kernel's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The peers -/

set_option backward.proofsInPublic true in
/-- The `i`-th peer of device `c`, `i = 0..14`: the device `1 + i` places after it around the mesh. -/
def pr (c : Dev nD) (i : ℕ) : Dev nD := ⟨(c.val + (1 + i)) % 16, Nat.mod_lt _ (by decide)⟩

theorem pr_val (c : Dev nD) (i : ℕ) : (pr c i).val = (c.val + (1 + i)) % 16 := rfl
theorem pr_ne (c : Dev nD) {i : ℕ} (hi : i < 15) : pr c i ≠ c := fun h => by
  have h1 : (c.val + (1 + i)) % 16 = c.val := congrArg Fin.val h
  have h2 : c.val < 16 := c.isLt
  omega
theorem pr_inj (c : Dev nD) {i j : ℕ} (hi : i < 15) (hj : j < 15) (h : pr c i = pr c j) : i = j := by
  have h1 : (c.val + (1 + i)) % 16 = (c.val + (1 + j)) % 16 := congrArg Fin.val h
  have h2 : c.val < 16 := c.isLt
  omega
/-- `c` is the `(14 - i)`-th peer of its `i`-th peer. -/
theorem pr_pr (c : Dev nD) {i : ℕ} (hi : i < 15) : pr (pr c i) (14 - i) = c := Fin.ext (by
  have h2 : c.val < 16 := c.isLt
  simp only [pr_val]
  omega)
/-- Every other device is a peer. -/
theorem exists_pr (c p : Dev nD) (h : p ≠ c) : ∃ i, i < 15 ∧ pr c i = p := by
  have h1 : c.val < 16 := c.isLt
  have h2 : p.val < 16 := p.isLt
  have h3 : p.val ≠ c.val := fun h' => h (Fin.ext h')
  refine ⟨(p.val + 15 - c.val) % 16, by omega, Fin.ext ?_⟩
  rw [pr_val]; omega
theorem pr_image (c : Dev nD) : (Finset.range 15).image (pr c) = Finset.univ.erase c := by
  ext p
  rw [Finset.mem_image, Finset.mem_erase]
  constructor
  · rintro ⟨i, hi, rfl⟩; exact ⟨pr_ne c (Finset.mem_range.mp hi), Finset.mem_univ _⟩
  · rintro ⟨h, -⟩; obtain ⟨i, hi, e⟩ := exists_pr c p h; exact ⟨i, Finset.mem_range.mpr hi, e⟩

/-- A conjunction over the other devices is one over the peers in order. -/
theorem bigSep_pr {M : Type} [URA M] (c : Dev nD) (Φ : Dev nD → sProp M) :
    bigSep (Finset.univ.erase c) Φ = bigSep (Finset.range 15) fun i => Φ (pr c i) := by
  rw [← pr_image]
  unfold bigSep
  rw [Finset.fold_image fun i hi j hj h => pr_inj c (Finset.mem_range.mp hi) (Finset.mem_range.mp hj) h]
  rfl

/-! ### The offsets and devices the kernel computes, in closed form -/

theorem off2_eq : ∀ c : Dev nD, ∀ r : Fin 15, k0_off2 c (BitVec.ofNat 32 (1 + r.val)) = ![(c.val + (1 + r.val)) % 16] := by decide +kernel
theorem off5_eq : ∀ c : Dev nD, ∀ r : Fin 15, k0_off5 c (BitVec.ofNat 32 (1 + r.val)) = ![16 * ((c.val + (1 + r.val)) % 16), 0] := by decide +kernel
theorem off6_eq : ∀ c : Dev nD, ∀ r : Fin 15, k0_off6 c (BitVec.ofNat 32 (1 + r.val)) = ![(c.val + (1 + r.val)) % 16, 0, 0] := by decide +kernel
theorem off8_eq : ∀ c : Dev nD, ∀ r : Fin 15, k0_off8 c (BitVec.ofNat 32 (1 + r.val)) = ![(c.val + (1 + r.val)) % 16, 0, 0] := by decide +kernel

theorem dev1_eq (c : Dev nD) : (⟨k0_dev1 c, k0_dev1_lt c⟩ : Dev nD) = pr c 0 := by revert c; decide +kernel
theorem dev2_eq (c : Dev nD) : (⟨k0_dev2 c, k0_dev2_lt c⟩ : Dev nD) = pr c 1 := by revert c; decide +kernel
theorem dev3_eq (c : Dev nD) : (⟨k0_dev3 c, k0_dev3_lt c⟩ : Dev nD) = pr c 2 := by revert c; decide +kernel
theorem dev4_eq (c : Dev nD) : (⟨k0_dev4 c, k0_dev4_lt c⟩ : Dev nD) = pr c 3 := by revert c; decide +kernel
theorem dev5_eq (c : Dev nD) : (⟨k0_dev5 c, k0_dev5_lt c⟩ : Dev nD) = pr c 4 := by revert c; decide +kernel
theorem dev6_eq (c : Dev nD) : (⟨k0_dev6 c, k0_dev6_lt c⟩ : Dev nD) = pr c 5 := by revert c; decide +kernel
theorem dev7_eq (c : Dev nD) : (⟨k0_dev7 c, k0_dev7_lt c⟩ : Dev nD) = pr c 6 := by revert c; decide +kernel
theorem dev8_eq (c : Dev nD) : (⟨k0_dev8 c, k0_dev8_lt c⟩ : Dev nD) = pr c 7 := by revert c; decide +kernel
theorem dev9_eq (c : Dev nD) : (⟨k0_dev9 c, k0_dev9_lt c⟩ : Dev nD) = pr c 8 := by revert c; decide +kernel
theorem dev10_eq (c : Dev nD) : (⟨k0_dev10 c, k0_dev10_lt c⟩ : Dev nD) = pr c 9 := by revert c; decide +kernel
theorem dev11_eq (c : Dev nD) : (⟨k0_dev11 c, k0_dev11_lt c⟩ : Dev nD) = pr c 10 := by revert c; decide +kernel
theorem dev12_eq (c : Dev nD) : (⟨k0_dev12 c, k0_dev12_lt c⟩ : Dev nD) = pr c 11 := by revert c; decide +kernel
theorem dev13_eq (c : Dev nD) : (⟨k0_dev13 c, k0_dev13_lt c⟩ : Dev nD) = pr c 12 := by revert c; decide +kernel
theorem dev14_eq (c : Dev nD) : (⟨k0_dev14 c, k0_dev14_lt c⟩ : Dev nD) = pr c 13 := by revert c; decide +kernel
theorem dev15_eq (c : Dev nD) : (⟨k0_dev15 c, k0_dev15_lt c⟩ : Dev nD) = pr c 14 := by revert c; decide +kernel
theorem dev16_eq (c : Dev nD) : (⟨k0_dev16 c, k0_dev16_lt c⟩ : Dev nD) = pr c 0 := by revert c; decide +kernel
theorem dev17_eq (c : Dev nD) : (⟨k0_dev17 c, k0_dev17_lt c⟩ : Dev nD) = pr c 1 := by revert c; decide +kernel
theorem dev18_eq (c : Dev nD) : (⟨k0_dev18 c, k0_dev18_lt c⟩ : Dev nD) = pr c 2 := by revert c; decide +kernel
theorem dev19_eq (c : Dev nD) : (⟨k0_dev19 c, k0_dev19_lt c⟩ : Dev nD) = pr c 3 := by revert c; decide +kernel
theorem dev20_eq (c : Dev nD) : (⟨k0_dev20 c, k0_dev20_lt c⟩ : Dev nD) = pr c 4 := by revert c; decide +kernel
theorem dev21_eq (c : Dev nD) : (⟨k0_dev21 c, k0_dev21_lt c⟩ : Dev nD) = pr c 5 := by revert c; decide +kernel
theorem dev22_eq (c : Dev nD) : (⟨k0_dev22 c, k0_dev22_lt c⟩ : Dev nD) = pr c 6 := by revert c; decide +kernel
theorem dev23_eq (c : Dev nD) : (⟨k0_dev23 c, k0_dev23_lt c⟩ : Dev nD) = pr c 7 := by revert c; decide +kernel
theorem dev24_eq (c : Dev nD) : (⟨k0_dev24 c, k0_dev24_lt c⟩ : Dev nD) = pr c 8 := by revert c; decide +kernel
theorem dev25_eq (c : Dev nD) : (⟨k0_dev25 c, k0_dev25_lt c⟩ : Dev nD) = pr c 9 := by revert c; decide +kernel
theorem dev26_eq (c : Dev nD) : (⟨k0_dev26 c, k0_dev26_lt c⟩ : Dev nD) = pr c 10 := by revert c; decide +kernel
theorem dev27_eq (c : Dev nD) : (⟨k0_dev27 c, k0_dev27_lt c⟩ : Dev nD) = pr c 11 := by revert c; decide +kernel
theorem dev28_eq (c : Dev nD) : (⟨k0_dev28 c, k0_dev28_lt c⟩ : Dev nD) = pr c 12 := by revert c; decide +kernel
theorem dev29_eq (c : Dev nD) : (⟨k0_dev29 c, k0_dev29_lt c⟩ : Dev nD) = pr c 13 := by revert c; decide +kernel
theorem dev30_eq (c : Dev nD) : (⟨k0_dev30 c, k0_dev30_lt c⟩ : Dev nD) = pr c 14 := by revert c; decide +kernel
theorem dev31_eq (c : Dev nD) : (⟨k0_dev31 c, k0_dev31_lt c⟩ : Dev nD) = pr c 0 := by revert c; decide +kernel
theorem dev32_eq (c : Dev nD) : (⟨k0_dev32 c, k0_dev32_lt c⟩ : Dev nD) = pr c 1 := by revert c; decide +kernel
theorem dev33_eq (c : Dev nD) : (⟨k0_dev33 c, k0_dev33_lt c⟩ : Dev nD) = pr c 2 := by revert c; decide +kernel
theorem dev34_eq (c : Dev nD) : (⟨k0_dev34 c, k0_dev34_lt c⟩ : Dev nD) = pr c 3 := by revert c; decide +kernel
theorem dev35_eq (c : Dev nD) : (⟨k0_dev35 c, k0_dev35_lt c⟩ : Dev nD) = pr c 4 := by revert c; decide +kernel
theorem dev36_eq (c : Dev nD) : (⟨k0_dev36 c, k0_dev36_lt c⟩ : Dev nD) = pr c 5 := by revert c; decide +kernel
theorem dev37_eq (c : Dev nD) : (⟨k0_dev37 c, k0_dev37_lt c⟩ : Dev nD) = pr c 6 := by revert c; decide +kernel
theorem dev38_eq (c : Dev nD) : (⟨k0_dev38 c, k0_dev38_lt c⟩ : Dev nD) = pr c 7 := by revert c; decide +kernel
theorem dev39_eq (c : Dev nD) : (⟨k0_dev39 c, k0_dev39_lt c⟩ : Dev nD) = pr c 8 := by revert c; decide +kernel
theorem dev40_eq (c : Dev nD) : (⟨k0_dev40 c, k0_dev40_lt c⟩ : Dev nD) = pr c 9 := by revert c; decide +kernel
theorem dev41_eq (c : Dev nD) : (⟨k0_dev41 c, k0_dev41_lt c⟩ : Dev nD) = pr c 10 := by revert c; decide +kernel
theorem dev42_eq (c : Dev nD) : (⟨k0_dev42 c, k0_dev42_lt c⟩ : Dev nD) = pr c 11 := by revert c; decide +kernel
theorem dev43_eq (c : Dev nD) : (⟨k0_dev43 c, k0_dev43_lt c⟩ : Dev nD) = pr c 12 := by revert c; decide +kernel
theorem dev44_eq (c : Dev nD) : (⟨k0_dev44 c, k0_dev44_lt c⟩ : Dev nD) = pr c 13 := by revert c; decide +kernel
theorem dev45_eq (c : Dev nD) : (⟨k0_dev45 c, k0_dev45_lt c⟩ : Dev nD) = pr c 14 := by revert c; decide +kernel

/-! ## The cells -/

/-- The runtime's barrier semaphore of the kernel's collective id (unscoped). -/
abbrev barS : Sem sig := (SemArray.scalar (sig.barrier 0 rfl) : Sems sig S_).sem

set_option backward.proofsInPublic true in
/-- DMA semaphore number `n`: 0..3 the staging buffers', 4 + h the keys', 12 + h the values', 20 + p and 36 + p the first
    exchange's send and receive, 52 + p and 68 + p the second's. -/
def dsem (n : ℕ) : DmaSem sig := (⟨n % 84, Nat.mod_lt _ (by decide)⟩ : Fin 84)

abbrev bcell (c : Dev nD) : GSem nD τ sig := ((c : Thread nD τ), .reg barS)
abbrev dcell (c : Dev nD) (n : ℕ) : GSem nD τ sig := ((c : Thread nD τ), .dma (dsem n))

theorem dsem_val {n : ℕ} (h : n < 84) : (dsem n : Fin 84).val = n := Nat.mod_eq_of_lt h
theorem dsem_inj {n k : ℕ} (hn : n < 84) (hk : k < 84) (h : dsem n = dsem k) : n = k := by
  have := congrArg (fun q : Fin 84 => q.val) h
  rwa [dsem_val hn, dsem_val hk] at this

theorem sem13 : ∀ h : Fin 8, ((cc0_scratch7.slice (Rect.unit (s := S8) ![h.val] S1.size (fun a => by fin_cases a; exact Nat.succ_le_of_lt h.isLt))).squeeze S_ squeezes_S1_S_).sem = dsem (4 + h.val) := by decide +kernel
theorem sem14 : ∀ h : Fin 8, ((cc0_scratch8.slice (Rect.unit (s := S8) ![h.val] S1.size (fun a => by fin_cases a; exact Nat.succ_le_of_lt h.isLt))).squeeze S_ squeezes_S1_S_).sem = dsem (12 + h.val) := by decide +kernel
theorem sem15 : ∀ p : Fin 16, ((cc0_scratch9.slice (Rect.unit (s := S16) ![p.val] S1.size (fun a => by fin_cases a; exact Nat.succ_le_of_lt p.isLt))).squeeze S_ squeezes_S1_S_).sem = dsem (20 + p.val) := by decide +kernel
theorem sem16 : ∀ p : Fin 16, ((cc0_scratch10.slice (Rect.unit (s := S16) ![p.val] S1.size (fun a => by fin_cases a; exact Nat.succ_le_of_lt p.isLt))).squeeze S_ squeezes_S1_S_).sem = dsem (36 + p.val) := by decide +kernel
theorem sem17 : ∀ p : Fin 16, ((cc0_scratch11.slice (Rect.unit (s := S16) ![p.val] S1.size (fun a => by fin_cases a; exact Nat.succ_le_of_lt p.isLt))).squeeze S_ squeezes_S1_S_).sem = dsem (52 + p.val) := by decide +kernel
theorem sem18 : ∀ p : Fin 16, ((cc0_scratch12.slice (Rect.unit (s := S16) ![p.val] S1.size (fun a => by fin_cases a; exact Nat.succ_le_of_lt p.isLt))).squeeze S_ squeezes_S1_S_).sem = dsem (68 + p.val) := by decide +kernel

/-! ## The pieces of the buffers -/

/-- Slot `p` of a landing buffer. -/
def slotSet (p : ℕ) : Finset S16x16x1024.Idx := Finset.univ.filter fun i => (i 0).val = p
/-- Slab `h` of the key or value buffer. -/
def slabSet (h : ℕ) : Finset S8x4096x128.Idx := Finset.univ.filter fun i => (i 0).val = h
/-- The sixteen rows of device `p` in the array of partial results. -/
def rowSet (p : ℕ) : Finset S256x1024.Idx := Finset.univ.filter fun i => (i 0).val / 16 = p
/-- Head `n` of the key or value array. -/
def headSet (n : ℕ) : Finset S1x4096x128x128.Idx := Finset.univ.filter fun i => (i 2).val = n

/-! ## Contents -/

section Contents

/-- The staged blocks of `x`, of the query weights and of the output weights. -/
def xstg (c : Dev nD) : S1x256x1024.Idx → Elt F .f32 := (win0_0.blk (0 : Fin 1)).view.read (Elt F) (m ((c : Thread nD τ).loc main_arg0))
def wqstg (c : Dev nD) : S1024x1024.Idx → Elt F .f32 := (win0_1.blk (0 : Fin 1)).view.read (Elt F) (m ((c : Thread nD τ).loc main_arg1))
def wostg (c : Dev nD) : S1024x1024.Idx → Elt F .f32 := (win0_2.blk (0 : Fin 1)).view.read (Elt F) (m ((c : Thread nD τ).loc main_arg4))
/-- The key and value arrays of device `c`. -/
def karr (c : Dev nD) : S1x4096x128x128.Idx → Elt F .f32 := m ((c : Thread nD τ).loc main_arg2)
def varr (c : Dev nD) : S1x4096x128x128.Idx → Elt F .f32 := m ((c : Thread nD τ).loc main_arg3)

set_option backward.proofsInPublic true in
/-- Head `8 c + h` of the sixteen devices' 128. -/
def headOf (c : Dev nD) (h : Fin 8) : Fin 128 := ⟨8 * c.val + h.val, by have : c.val < 16 := c.isLt; have := h.isLt; omega⟩

/-- The key and value buffers once all eight heads of the device have landed. -/
def kF (c : Dev nD) : S8x4096x128.Idx → Elt F .f32 := fun i => karr m c (ValueIdx.ix4 (0 : Fin 1) (i 1) (headOf c (i 0)) (i 2))
def vF (c : Dev nD) : S8x4096x128.Idx → Elt F .f32 := fun i => varr m c (ValueIdx.ix4 (0 : Fin 1) (i 1) (headOf c (i 0)) (i 2))

/-- One head's keys and values, as the kernel loads them. -/
def kblk (c : Dev nD) (h : Fin 8) : S1x4096x128.Idx → Elt F .f32 := fun j => kF m c (ValueIdx.ix3 h (j 1) (j 2))
def vblk (c : Dev nD) (h : Fin 8) : S1x4096x128.Idx → Elt F .f32 := fun j => vF m c (ValueIdx.ix3 h (j 1) (j 2))

/-- The scaled queries of the device's eight heads. -/
def qv (c : Dev nD) : S256x1024.Idx → Elt F .bf16 := k0_pay1 (xstg m c) (wqstg m c)

/-- One head's attention, from the queries, the head's keys and its values. -/
def headFn (h : ℕ) (q : S256x1024.Idx → Elt F .bf16) (k v : S1x4096x128.Idx → Elt F .f32) : S256x128.Idx → Elt F .bf16 :=
  match h with
  | 0 => k0_pay2 q k v
  | 1 => k0_pay3 q k v
  | 2 => k0_pay4 q k v
  | 3 => k0_pay5 q k v
  | 4 => k0_pay6 q k v
  | 5 => k0_pay7 q k v
  | 6 => k0_pay8 q k v
  | _ => k0_pay9 q k v

def headPay (c : Dev nD) (h : Fin 8) : S256x128.Idx → Elt F .bf16 := headFn h.val (qv m c) (kblk m c h) (vblk m c h)

set_option backward.proofsInPublic true in
/-- The head a column of the device's attention belongs to, and the column inside the head. -/
def colHead (j : Fin 1024) : Fin 8 := ⟨j.val / 128, by have := j.isLt; omega⟩
set_option backward.proofsInPublic true in
def colIn (j : Fin 1024) : Fin 128 := ⟨j.val % 128, Nat.mod_lt _ (by decide)⟩

/-- The device's attention: eight heads side by side. -/
def attnF (c : Dev nD) : S256x1024.Idx → Elt F .bf16 := fun i => headPay m c (colHead (i 1)) (ValueIdx.ix2 (i 0) (colIn (i 1)))

/-- The device's partial result, and its copy in the exchange's format. -/
def partF (c : Dev nD) : S256x1024.Idx → Elt F .f32 := k0_pay11 (wostg m c) (attnF m c)
def pbfF (c : Dev nD) : S256x1024.Idx → Elt F .bf16 := k0_pay12 (wostg m c) (attnF m c)

set_option backward.proofsInPublic true in
/-- Row `r` of the sixteen rows of device `c`. -/
def rowOf (c : Dev nD) (r : Fin 16) : Fin 256 := ⟨16 * c.val + r.val, by have : c.val < 16 := c.isLt; have := r.isLt; omega⟩

/-- The first landing buffer of device `c` after the first exchange: slot `s` holds device `s`'s rows for `c`. -/
def recvF (c : Dev nD) : S16x16x1024.Idx → Elt F .bf16 := fun i => pbfF m (i 0) (ValueIdx.ix2 (rowOf c (i 1)) (i 2))

/-- What device `c` reads of its `d`-th peer's rows. -/
def rv (c : Dev nD) (d : ℕ) : S1x16x1024.Idx → Elt F .bf16 := fun j => recvF m c (ValueIdx.ix3 (pr c d) (j 1) (j 2))

/-- Device `c`'s own rows of its own partial result. -/
def ownF (c : Dev nD) : S16x1024.Idx → Elt F .f32 := fun j => partF m c (ValueIdx.ix2 (rowOf c (j 0)) (j 1))

/-- The sum of device `c`'s rows over the devices, all but the last summand, in the order the kernel adds. -/
def acc1 (c : Dev nD) : S16x1024.Idx → Elt F .f32 := k0_pay13 (ownF m c) (rv m c 0) (rv m c 1)
def acc2 (c : Dev nD) : S16x1024.Idx → Elt F .f32 := k0_pay14 (acc1 m c) (rv m c 2) (rv m c 3) (rv m c 4)
def acc3 (c : Dev nD) : S16x1024.Idx → Elt F .f32 := k0_pay15 (acc2 m c) (rv m c 5) (rv m c 6)
def acc4 (c : Dev nD) : S16x1024.Idx → Elt F .f32 := k0_pay16 (acc3 m c) (rv m c 7) (rv m c 8)
def acc5 (c : Dev nD) : S16x1024.Idx → Elt F .f32 := k0_pay18 (acc4 m c) (k0_pay17 (rv m c 9)) (rv m c 10) (rv m c 11)
def acc6 (c : Dev nD) : S16x1024.Idx → Elt F .f32 := k0_pay19 (acc5 m c) (rv m c 12) (rv m c 13)
/-- The whole sum, and its copy in the exchange's format. -/
def accF (c : Dev nD) : S16x1024.Idx → Elt F .f32 := k0_pay20 (acc6 m c) (rv m c 14)
def accB (c : Dev nD) : S1x16x1024.Idx → Elt F .bf16 := k0_pay21 (acc6 m c) (rv m c 14)

/-- The second landing buffer after the second exchange (the same on every device): slot `s` holds device `s`'s sum. -/
def gathF : S16x16x1024.Idx → Elt F .bf16 := fun i => accB m (i 0) (ValueIdx.ix3 (0 : Fin 1) (i 1) (i 2))

/-- The kernel's result on device `c`: every device's rows from the second landing buffer, except its own, which it
    writes from the sum itself. -/
def outF (c : Dev nD) : S256x1024.Idx → Elt F .f32 := fun i =>
  if h : (i 0).val / 16 = c.val then accF m c (ValueIdx.ix2 ⟨(i 0).val % 16, Nat.mod_lt _ (by decide)⟩ (i 1)) else k0_pay22 (gathF m) i

end Contents

/-! ## Pieces held -/

/-- Slot `p` of device `c`'s first landing buffer, whole, at contents `f`. -/
def rslot (c : Dev nD) (p : ℕ) (f : S16x16x1024.Idx → Elt F .bf16) : sProp 𝕄 :=
  ((c : Thread nD τ).loc cc0_scratch5) ↦[slotSet p]{fullShare} f
/-- Slot `p` of device `c`'s second landing buffer, at share `q`. -/
def gslot (q : PosShare TreeShare) (c : Dev nD) (p : ℕ) (f : S16x16x1024.Idx → Elt F .bf16) : sProp 𝕄 :=
  ((c : Thread nD τ).loc cc0_scratch6) ↦[slotSet p]{q} f
/-- Device `p`'s rows of device `c`'s partial result in the exchange's format. -/
def prow (c : Dev nD) (p : ℕ) (f : S256x1024.Idx → Elt F .bf16) : sProp 𝕄 :=
  ((c : Thread nD τ).loc cc0_scratch4) ↦[rowSet p]{fullShare} f
/-- Slab `h` of the key buffer and of the value buffer. -/
def kslab (c : Dev nD) (h : ℕ) (f : S8x4096x128.Idx → Elt F .f32) : sProp 𝕄 :=
  ((c : Thread nD τ).loc cc0_scratch0) ↦[slabSet h]{fullShare} f
def vslab (c : Dev nD) (h : ℕ) (f : S8x4096x128.Idx → Elt F .f32) : sProp 𝕄 :=
  ((c : Thread nD τ).loc cc0_scratch1) ↦[slabSet h]{fullShare} f
/-- Head `n` of the key array and of the value array. -/
def khead (c : Dev nD) (n : ℕ) : sProp 𝕄 :=
  ((c : Thread nD τ).loc main_arg2) ↦[headSet n]{fullShare} karr m c
def vhead (c : Dev nD) (n : ℕ) : sProp 𝕄 :=
  ((c : Thread nD τ).loc main_arg3) ↦[headSet n]{fullShare} varr m c

section Storable
variable (q : PosShare TreeShare) (c : Dev nD) (p : ℕ)
omit [FloatOps F]
instance rslot_storable (f) : BI.Storable (upEmb : UEmb _ 𝕄) (rslot (F := F) c p f) := by unfold rslot; infer_instance
instance gslot_storable (f) : BI.Storable (upEmb : UEmb _ 𝕄) (gslot (F := F) q c p f) := by unfold gslot; infer_instance
instance prow_storable (f) : BI.Storable (upEmb : UEmb _ 𝕄) (prow (F := F) c p f) := by unfold prow; infer_instance
instance kslab_storable (f) : BI.Storable (upEmb : UEmb _ 𝕄) (kslab (F := F) c p f) := by unfold kslab; infer_instance
instance vslab_storable (f) : BI.Storable (upEmb : UEmb _ 𝕄) (vslab (F := F) c p f) := by unfold vslab; infer_instance
instance khead_storable : BI.Storable (upEmb : UEmb _ 𝕄) (khead (F := F) m c p) := by unfold khead; infer_instance
instance vhead_storable : BI.Storable (upEmb : UEmb _ 𝕄) (vhead (F := F) m c p) := by unfold vhead; infer_instance
end Storable

/-! ## The schedule -/

/-- What device `p`'s signal hands device `t`: `p`'s landing slots for `t`. -/
def barPay (p t : Dev nD) : sProp 𝕄 := iprop((∃ f, rslot p t.val f) ∗ (∃ f, gslot fullShare p t.val f))

/-- The share of its own slot a device sends to its `i`-th peer. -/
abbrev gtok (i : ℕ) : PosShare TreeShare := Transfers.shareTokN fullShare i

/-- What the landing on DMA semaphore `n` of device `c` hands over. -/
def dmaPay (c : Dev nD) (n : ℕ) : sProp 𝕄 :=
  if n < 12 then iprop(kslab c (n - 4) (kF m c) ∗ khead m c (8 * c.val + (n - 4)))
  else if n < 20 then iprop(vslab c (n - 12) (vF m c) ∗ vhead m c (8 * c.val + (n - 12)))
  else if n < 36 then prow c (n - 20) (pbfF m c)
  else if n < 52 then rslot c (n - 36) (recvF m c)
  else if n < 68 then gslot (gtok ((n - 52 + 15 - c.val) % 16)) c c.val (gathF m)
  else gslot fullShare c (n - 68) (gathF m)

/-- DMA semaphore `n` of device `c` is used: a key or value semaphore, or an exchange's for another device. -/
abbrev DmaOn (c : Dev nD) (n : ℕ) : Prop := 4 ≤ n ∧ (n < 20 ∨ (n - 20) % 16 ≠ c.val)

/-- The credit of a head's copy and of a transfer of sixteen rows. -/
abbrev NK : ℕ := sig.dmaCredit .tc (Kind.table .tc .vmem) (4 : Fin 11) S4096x128 .f32
abbrev NA : ℕ := sig.dmaCredit .tc (Kind.table .tc .vmem) (9 : Fin 11) S16x1024 .bf16
theorem NK_pos : 0 < NK := sig.dmaCredit_pos _ _ _ _ _ (by decide)
theorem NA_pos : 0 < NA := sig.dmaCredit_pos _ _ _ _ _ (by decide)

/-- The duties of round 0 of device `c`'s cell of a semaphore. -/
def cellDuties (c : Dev nD) : SemLoc sig → Finset (Dev nD)
  | .reg s => if s = barS then Finset.univ.erase c else ∅
  | .dma q => if DmaOn c (q : Fin 84).val then {0} else ∅
def cellAmount : SemLoc sig → ℕ
  | .reg _ => 1
  | .dma q => if (q : Fin 84).val < 20 then NK else NA
theorem cellAmount_pos (q : DmaSem sig) : 0 < cellAmount (.dma q) := by
  show 0 < if (q : Fin 84).val < 20 then NK else NA
  split
  · exact NK_pos
  · exact NA_pos
def cellPay (c : Dev nD) : SemLoc sig → Dev nD → sProp 𝕄
  | .reg _, p => barPay p c
  | .dma q, _ => dmaPay m c (q : Fin 84).val

/-- One round, round 0. -/
def sched : Rounds.Schedule (GSem nD τ sig) (Dev nD) 𝕄 where
  duties g r := if r = 0 ∧ g.1.2 = .tc then cellDuties g.1.1 g.2 else ∅
  unitless _ := False
  amount g _ _ := cellAmount g.2
  payload g _ d := cellPay m g.1.1 g.2 d
  amount_pos g _ _ _ := by
    rcases g with ⟨t, s | q⟩
    · exact Nat.one_pos
    · exact cellAmount_pos q

instance sched_payload_storable (g : GSem nD τ sig) (r : ℕ) (d : Dev nD) :
    BI.Storable (upEmb : UEmb _ 𝕄) ((sched (F := F) m).payload g r d) := by
  show BI.Storable upEmb (cellPay m g.1.1 g.2 d)
  rcases g with ⟨t, s | q⟩
  · show BI.Storable upEmb (barPay d t.1)
    unfold barPay; infer_instance
  · show BI.Storable upEmb (dmaPay m t.1 (q : Fin 84).val)
    unfold dmaPay
    (repeat' split) <;> infer_instance

section Sched
variable (c : Dev nD)

theorem duties_bar : (sched (F := F) m).duties (bcell c) 0 = Finset.univ.erase c := by
  show (if (0 : ℕ) = 0 ∧ (c : Thread nD τ).2 = .tc then cellDuties c (.reg barS) else ∅) = _
  rw [if_pos ⟨rfl, rfl⟩]
  show (if barS = barS then Finset.univ.erase c else ∅) = Finset.univ.erase c
  rw [if_pos rfl]
theorem duties_dma {n : ℕ} (hn : n < 84) (h : DmaOn c n) : (sched (F := F) m).duties (dcell c n) 0 = {0} := by
  show (if (0 : ℕ) = 0 ∧ (c : Thread nD τ).2 = .tc then cellDuties c (.dma (dsem n)) else ∅) = _
  rw [if_pos ⟨rfl, rfl⟩]
  show (if DmaOn c (dsem n : Fin 84).val then ({0} : Finset (Dev nD)) else ∅) = {0}
  rw [dsem_val hn]; exact if_pos h
theorem duties_dma_off {n : ℕ} (hn : n < 84) (h : ¬ DmaOn c n) (r : ℕ) : (sched (F := F) m).duties (dcell c n) r = ∅ := by
  show (if r = 0 ∧ (c : Thread nD τ).2 = .tc then cellDuties c (.dma (dsem n)) else ∅) = _
  split
  · show (if DmaOn c (dsem n : Fin 84).val then ({0} : Finset (Dev nD)) else ∅) = ∅
    rw [dsem_val hn]; exact if_neg h
  · rfl
theorem duties_later (g : GSem nD τ sig) : ∀ r, 1 ≤ r → (sched (F := F) m).duties g r = ∅ :=
  fun r hr => if_neg fun h => by omega

theorem amount_bar (d : Dev nD) : (sched (F := F) m).amount (bcell c) 0 d = 1 := rfl
theorem amount_lo {n : ℕ} (hn : n < 20) (d : Dev nD) : (sched (F := F) m).amount (dcell c n) 0 d = NK := by
  show (if (dsem n : Fin 84).val < 20 then NK else NA) = NK
  rw [dsem_val (by omega)]; exact if_pos hn
theorem amount_hi {n : ℕ} (h1 : 20 ≤ n) (h2 : n < 84) (d : Dev nD) : (sched (F := F) m).amount (dcell c n) 0 d = NA := by
  show (if (dsem n : Fin 84).val < 20 then NK else NA) = NA
  rw [dsem_val h2]; exact if_neg (by omega)
theorem expect_bar : (sched (F := F) m).expect (bcell c) 0 = 15 := by
  unfold Schedule.expect Schedule.amountOf
  rw [duties_bar, Finset.sum_congr rfl fun d _ => amount_bar m c d, Finset.sum_const, Finset.card_erase_of_mem (Finset.mem_univ _), Finset.card_univ]
  rfl
theorem expect_lo {n : ℕ} (h4 : 4 ≤ n) (hn : n < 20) : (sched (F := F) m).expect (dcell c n) 0 = NK := by
  unfold Schedule.expect Schedule.amountOf
  rw [duties_dma m c (by omega) ⟨h4, .inl hn⟩, Finset.sum_singleton, amount_lo m c hn]
theorem expect_hi {n : ℕ} (h1 : 20 ≤ n) (h2 : n < 84) (h : DmaOn c n) : (sched (F := F) m).expect (dcell c n) 0 = NA := by
  unfold Schedule.expect Schedule.amountOf
  rw [duties_dma m c h2 h, Finset.sum_singleton, amount_hi m c h1 h2]

theorem payload_bar (d : Dev nD) : (sched (F := F) m).payload (bcell c) 0 d = barPay d c := rfl
theorem payload_dma {n : ℕ} (hn : n < 84) (d : Dev nD) : (sched (F := F) m).payload (dcell c n) 0 d = dmaPay m c n := by
  show dmaPay m c (dsem n : Fin 84).val = _
  rw [dsem_val hn]

/-- The rest of the barrier's round, no duty taken: every peer's payload. -/
theorem rest_bar : bigSep ((sched (F := F) m).duties (bcell c) 0 \ ∅) (fun d => (sched (F := F) m).payload (bcell c) 0 d)
    = bigSep (Finset.range 15) fun i => barPay (pr c i) c := by
  rw [Finset.sdiff_empty, duties_bar, bigSep_pr]; rfl
theorem rest_dma {n : ℕ} (hn : n < 84) (h : DmaOn c n) :
    bigSep ((sched (F := F) m).duties (dcell c n) 0 \ ∅) (fun d => (sched (F := F) m).payload (dcell c n) 0 d) = dmaPay m c n := by
  rw [Finset.sdiff_empty, duties_dma m c hn h, bigSep_singleton, payload_dma m c hn]

theorem dmaPay_k (h : ℕ) (hh : h < 8) : dmaPay (F := F) m c (4 + h) = iprop(kslab c h (kF m c) ∗ khead m c (8 * c.val + h)) := by
  unfold dmaPay; rw [if_pos (by omega), Nat.add_sub_cancel_left]
theorem dmaPay_v (h : ℕ) (hh : h < 8) : dmaPay (F := F) m c (12 + h) = iprop(vslab c h (vF m c) ∗ vhead m c (8 * c.val + h)) := by
  unfold dmaPay; rw [if_neg (by omega), if_pos (by omega), Nat.add_sub_cancel_left]
theorem dmaPay_as (p : Dev nD) : dmaPay (F := F) m c (20 + p.val) = prow c p.val (pbfF m c) := by
  have : p.val < 16 := p.isLt
  unfold dmaPay; rw [if_neg (by omega), if_neg (by omega), if_pos (by omega), Nat.add_sub_cancel_left]
theorem dmaPay_ar (p : Dev nD) : dmaPay (F := F) m c (36 + p.val) = rslot c p.val (recvF m c) := by
  have : p.val < 16 := p.isLt
  unfold dmaPay; rw [if_neg (by omega), if_neg (by omega), if_neg (by omega), if_pos (by omega), Nat.add_sub_cancel_left]
theorem dmaPay_cs {i : ℕ} (hi : i < 15) : dmaPay (F := F) m c (52 + (pr c i).val) = gslot (gtok i) c c.val (gathF m) := by
  have h1 : (pr c i).val < 16 := (pr c i).isLt
  have h2 : c.val < 16 := c.isLt
  unfold dmaPay; rw [if_neg (by omega), if_neg (by omega), if_neg (by omega), if_neg (by omega), if_pos (by omega), Nat.add_sub_cancel_left]
  rw [show ((pr c i).val + 15 - c.val) % 16 = i from by rw [pr_val]; omega]
theorem dmaPay_cr (p : Dev nD) : dmaPay (F := F) m c (68 + p.val) = gslot fullShare c p.val (gathF m) := by
  have : p.val < 16 := p.isLt
  unfold dmaPay; rw [if_neg (by omega), if_neg (by omega), if_neg (by omega), if_neg (by omega), if_neg (by omega), Nat.add_sub_cancel_left]

theorem dmaOn_lo {n : ℕ} (h4 : 4 ≤ n) (hn : n < 20) : DmaOn c n := ⟨h4, .inl hn⟩
theorem dmaOn_hi {b : ℕ} (hb : b = 20 ∨ b = 36 ∨ b = 52 ∨ b = 68) {p : Dev nD} (h : p ≠ c) : DmaOn c (b + p.val) := by
  have h1 : p.val < 16 := p.isLt
  have h2 : p.val ≠ c.val := fun h' => h (Fin.ext h')
  refine ⟨by omega, .inr ?_⟩
  rcases hb with rfl | rfl | rfl | rfl <;> omega
theorem dmaOff_self {b : ℕ} (hb : b = 20 ∨ b = 36 ∨ b = 52 ∨ b = 68) : ¬ DmaOn c (b + c.val) := by
  have h1 : c.val < 16 := c.isLt
  rintro ⟨-, h⟩
  rcases hb with rfl | rfl | rfl | rfl <;> omega

end Sched

/-! ## What each device owes at launch; the levels -/

theorem Ico_step {i : ℕ} (hi : i < 15) : Finset.Ico i 15 = insert i (Finset.Ico (i + 1) 15) := by
  ext j; rw [Finset.mem_insert, Finset.mem_Ico, Finset.mem_Ico]; omega
theorem not_mem_Ico_succ {i : ℕ} : i ∉ Finset.Ico (i + 1) 15 := fun h => by
  rw [Finset.mem_Ico] at h; omega

/-- What device `c` still owes its peers from the `i`-th on: a unit to their barriers, -/
def OB (c : Dev nD) (i : ℕ) : CellTallies nD τ sig Unit := ∑ e ∈ Finset.Ico i 15, tallyAt (bcell (pr c e)) () 1
/-- its rows onto their receive cells of the first exchange, -/
def OA (c : Dev nD) (i : ℕ) : CellTallies nD τ sig Unit := ∑ e ∈ Finset.Ico i 15, tallyAt (dcell (pr c e) (36 + c.val)) () NA
/-- its sum onto their receive cells of the second. -/
def OC (c : Dev nD) (i : ℕ) : CellTallies nD τ sig Unit := ∑ e ∈ Finset.Ico i 15, tallyAt (dcell (pr c e) (68 + c.val)) () NA
/-- All of it. -/
def O₀ (c : Dev nD) : CellTallies nD τ sig Unit := OB c 0 + OA c 0 + OC c 0

theorem OB_step (c : Dev nD) {i : ℕ} (hi : i < 15) : OB c i = OB c (i + 1) + tallyAt (bcell (pr c i)) () 1 := by
  unfold OB; rw [Ico_step hi, Finset.sum_insert not_mem_Ico_succ, add_comm]
theorem OA_step (c : Dev nD) {i : ℕ} (hi : i < 15) : OA c i = OA c (i + 1) + tallyAt (dcell (pr c i) (36 + c.val)) () NA := by
  unfold OA; rw [Ico_step hi, Finset.sum_insert not_mem_Ico_succ, add_comm]
theorem OC_step (c : Dev nD) {i : ℕ} (hi : i < 15) : OC c i = OC c (i + 1) + tallyAt (dcell (pr c i) (68 + c.val)) () NA := by
  unfold OC; rw [Ico_step hi, Finset.sum_insert not_mem_Ico_succ, add_comm]
theorem OB_end (c : Dev nD) : OB c 15 = 0 := rfl
theorem OA_end (c : Dev nD) : OA c 15 = 0 := rfl
theorem OC_end (c : Dev nD) : OC c 15 = 0 := rfl

def L (g : GSem nD τ sig) : Finset Unit := if g.1.2 = .tc then {()} else ∅
/-- barrier cells at 1, receive cells of the first exchange at 2, of the second at 3, everything else at 0. -/
def semLv : SemLoc sig → ℕ
  | .reg _ => 1
  | .dma q => if 36 ≤ (q : Fin 84).val ∧ (q : Fin 84).val < 52 then 2 else if 68 ≤ (q : Fin 84).val then 3 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

theorem semLv_ar {n : ℕ} (h1 : 36 ≤ n) (h2 : n < 52) : semLv (.dma (dsem n)) = 2 := by
  show (if 36 ≤ (dsem n : Fin 84).val ∧ (dsem n : Fin 84).val < 52 then 2 else if 68 ≤ (dsem n : Fin 84).val then 3 else 0) = 2
  rw [dsem_val (by omega)]; exact if_pos ⟨h1, h2⟩
theorem semLv_cr {n : ℕ} (h1 : 68 ≤ n) (h2 : n < 84) : semLv (.dma (dsem n)) = 3 := by
  show (if 36 ≤ (dsem n : Fin 84).val ∧ (dsem n : Fin 84).val < 52 then 2 else if 68 ≤ (dsem n : Fin 84).val then 3 else 0) = 3
  rw [dsem_val (by omega), if_neg (by omega)]; exact if_pos h1
theorem semLv_lo {n : ℕ} (h1 : n < 36) : semLv (.dma (dsem n)) = 0 := by
  show (if 36 ≤ (dsem n : Fin 84).val ∧ (dsem n : Fin 84).val < 52 then 2 else if 68 ≤ (dsem n : Fin 84).val then 3 else 0) = 0
  rw [dsem_val (by omega), if_neg (by omega)]; exact if_neg (by omega)

/-- A sum of tallies over a stretch of peers is positive only at one of theirs. -/
theorem sum_tally_pos {i : ℕ} {G : ℕ → GSem nD τ sig} {N : ℕ} {g : GSem nD τ sig} {u : Unit}
    (h : 0 < (∑ e ∈ Finset.Ico i 15, (tallyAt (G e) () N : CellTallies nD τ sig Unit)) g u) : ∃ e, e < 15 ∧ g = G e := by
  rw [Finset.sum_apply, Finsupp.finset_sum_apply] at h
  obtain ⟨e, he, hp⟩ := Finset.exists_ne_zero_of_sum_ne_zero (Nat.pos_iff_ne_zero.mp h)
  rw [tallyAt_apply] at hp
  refine ⟨e, (Finset.mem_Ico.mp he).2, ?_⟩
  by_contra hn
  exact hp (if_neg fun h' => hn h'.1)

theorem OB_pos {c : Dev nD} {i : ℕ} {g : GSem nD τ sig} {u : Unit} (h : 0 < OB c i g u) : L g = {()} ∧ lv g u = 1 := by
  obtain ⟨e, -, rfl⟩ := sum_tally_pos h; exact ⟨L_tc _ _, rfl⟩
theorem OA_pos {c : Dev nD} {i : ℕ} {g : GSem nD τ sig} {u : Unit} (h : 0 < OA c i g u) : L g = {()} ∧ lv g u = 2 := by
  obtain ⟨e, -, rfl⟩ := sum_tally_pos h
  have : c.val < 16 := c.isLt
  exact ⟨L_tc _ _, semLv_ar (by omega) (by omega)⟩
theorem OC_pos {c : Dev nD} {i : ℕ} {g : GSem nD τ sig} {u : Unit} (h : 0 < OC c i g u) : L g = {()} ∧ lv g u = 3 := by
  obtain ⟨e, -, rfl⟩ := sum_tally_pos h
  have : c.val < 16 := c.isLt
  exact ⟨L_tc _ _, semLv_cr (by omega) (by omega)⟩

omit [FloatOps F] in
/-- A device may wait on a cell whose level is below every level it owes at. -/
theorem mayWait_lv (c : Dev nD) (sm : SemLoc sig) (i j k : ℕ)
    (hB : semLv sm < 1 ∨ i = 15) (hA : semLv sm < 2 ∨ j = 15) (hC : semLv sm < 3 ∨ k = 15) :
    (levAts L lv : sProp 𝕄) ⊢ MayWait (c : Thread nD τ) sm () (OB c i + OA c j + OC c k) := by
  have key : ∀ g u, 0 < (OB c i + OA c j + OC c k) g u → L g = {()} ∧ semLv sm < lv g u := by
    intro g u hg
    rw [Pi.add_apply, Finsupp.add_apply, Pi.add_apply, Finsupp.add_apply] at hg
    rcases Nat.eq_zero_or_pos (OB c i g u) with h1 | h1
    · rcases Nat.eq_zero_or_pos (OA c j g u) with h2 | h2
      · have h3 : 0 < OC c k g u := by omega
        refine ⟨(OC_pos h3).1, ?_⟩
        rcases hC with h | rfl
        · rw [(OC_pos h3).2]; exact h
        · exact absurd h3 (Nat.lt_irrefl 0)
      · refine ⟨(OA_pos h2).1, ?_⟩
        rcases hA with h | rfl
        · rw [(OA_pos h2).2]; exact h
        · exact absurd h2 (Nat.lt_irrefl 0)
    · refine ⟨(OB_pos h1).1, ?_⟩
      rcases hB with h | rfl
      · rw [(OB_pos h1).2]; exact h
      · exact absurd h1 (Nat.lt_irrefl 0)
  exact MayOwe.of_cut (L := L) (lev := lv) (semLv sm)
    (fun p hp => by rw [Finset.mem_singleton.mp hp, L_tc]; exact Finset.mem_singleton_self _)
    (fun g u hg => by rw [(key g u hg).1]; exact Finset.mem_singleton_self _)
    (fun p hp => by rw [Finset.mem_singleton.mp hp]; exact le_rfl)
    (fun g u hg => (key g u hg).2)

end Cert.KernelIdealProof

end
-- ==== Proof.KernelIdealViews.lean ====
/-
The pieces of memory the kernel's transfers, loads and stores go through, element by element; what a landing leaves,
what a load reads and what a store writes, in terms of the named contents.
-/
module

public import proofs.«01_k».proof.Proof.KernelIdealBase

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev kM : Memref sig .tc .vmem S8x4096x128 .f32 := Memref.whole cc0_scratch0
abbrev vM : Memref sig .tc .vmem S8x4096x128 .f32 := Memref.whole cc0_scratch1
abbrev aM : Memref sig .tc .vmem S256x1024 .bf16 := Memref.whole cc0_scratch2
abbrev pM : Memref sig .tc .vmem S256x1024 .f32 := Memref.whole cc0_scratch3
abbrev bM : Memref sig .tc .vmem S256x1024 .bf16 := Memref.whole cc0_scratch4
abbrev rM : Memref sig .tc .vmem S16x16x1024 .bf16 := Memref.whole cc0_scratch5
abbrev gM : Memref sig .tc .vmem S16x16x1024 .bf16 := Memref.whole cc0_scratch6
abbrev kA : Memref sig .tc .hbm S1x4096x128x128 .f32 := Memref.whole main_arg2
abbrev vA : Memref sig .tc .hbm S1x4096x128x128 .f32 := Memref.whole main_arg3

/-! ## The views the transfers go through -/

section Views
variable (o3 : Fin 3 → ℕ) (o2 : Fin 2 → ℕ) (o4 : Fin 4 → ℕ)

abbrev slotR (inb : ∀ a, o3 a + S1x16x1024.size a ≤ S16x16x1024.size a) : Memref sig .tc .vmem S16x1024 .bf16 :=
  (rM.slice (Rect.unit (s := S16x16x1024) o3 S1x16x1024.size inb) (fun _ => rfl)).squeeze S16x1024 squeezes_S1x16x1024_S16x1024
abbrev slotG (inb : ∀ a, o3 a + S1x16x1024.size a ≤ S16x16x1024.size a) : Memref sig .tc .vmem S16x1024 .bf16 :=
  (gM.slice (Rect.unit (s := S16x16x1024) o3 S1x16x1024.size inb) (fun _ => rfl)).squeeze S16x1024 squeezes_S1x16x1024_S16x1024
abbrev rowsB (inb : ∀ a, o2 a + S16x1024.size a ≤ S256x1024.size a) : Memref sig .tc .vmem S16x1024 .bf16 :=
  bM.slice (Rect.unit (s := S256x1024) o2 S16x1024.size inb) (fun _ => rfl)
abbrev slabK (inb : ∀ a, o3 a + S1x4096x128.size a ≤ S8x4096x128.size a) : Memref sig .tc .vmem S4096x128 .f32 :=
  (kM.slice (Rect.unit (s := S8x4096x128) o3 S1x4096x128.size inb) (fun _ => rfl)).squeeze S4096x128 squeezes_S1x4096x128_S4096x128
abbrev slabV (inb : ∀ a, o3 a + S1x4096x128.size a ≤ S8x4096x128.size a) : Memref sig .tc .vmem S4096x128 .f32 :=
  (vM.slice (Rect.unit (s := S8x4096x128) o3 S1x4096x128.size inb) (fun _ => rfl)).squeeze S4096x128 squeezes_S1x4096x128_S4096x128
abbrev headK (inb : ∀ a, o4 a + S1x4096x1x128.size a ≤ S1x4096x128x128.size a) : Memref sig .tc .hbm S4096x128 .f32 :=
  (kA.slice (Rect.unit (s := S1x4096x128x128) o4 S1x4096x1x128.size inb) (fun _ => rfl)).squeeze S4096x128 squeezes_S1x4096x1x128_S4096x128
abbrev headV (inb : ∀ a, o4 a + S1x4096x1x128.size a ≤ S1x4096x128x128.size a) : Memref sig .tc .hbm S4096x128 .f32 :=
  (vA.slice (Rect.unit (s := S1x4096x128x128) o4 S1x4096x1x128.size inb) (fun _ => rfl)).squeeze S4096x128 squeezes_S1x4096x1x128_S4096x128
end Views

/-! ## The rectangles' element sets -/

theorem slot_rect {p : ℕ} (hp : p < 16) {o : Fin 3 → ℕ} (ho : o = ![p, 0, 0]) (inb : ∀ a, o a + S1x16x1024.size a ≤ S16x16x1024.size a) :
    (Rect.unit (s := S16x16x1024) o S1x16x1024.size inb).set = slotSet p := by
  subst ho; ext i
  rw [Rect.mem_set_unit]
  unfold slotSet
  rw [Finset.mem_filter]
  have h1 : (i 1).val < 16 := (i 1).isLt
  have h2 : (i 2).val < 1024 := (i 2).isLt
  constructor
  · intro h
    have h0 : p ≤ (i 0).val ∧ (i 0).val < p + 1 := h 0
    exact ⟨Finset.mem_univ _, by omega⟩
  · rintro ⟨-, h⟩ a
    match a with
    | 0 => exact show p ≤ (i 0).val ∧ (i 0).val < p + 1 by omega
    | 1 => exact show 0 ≤ (i 1).val ∧ (i 1).val < 0 + 16 by omega
    | 2 => exact show 0 ≤ (i 2).val ∧ (i 2).val < 0 + 1024 by omega

theorem slab_rect {p : ℕ} {o : Fin 3 → ℕ} (ho : o = ![p, 0, 0]) (inb : ∀ a, o a + S1x4096x128.size a ≤ S8x4096x128.size a) :
    (Rect.unit (s := S8x4096x128) o S1x4096x128.size inb).set = slabSet p := by
  subst ho; ext i
  rw [Rect.mem_set_unit]
  unfold slabSet
  rw [Finset.mem_filter]
  have h1 : (i 1).val < 4096 := (i 1).isLt
  have h2 : (i 2).val < 128 := (i 2).isLt
  constructor
  · intro h
    have h0 : p ≤ (i 0).val ∧ (i 0).val < p + 1 := h 0
    exact ⟨Finset.mem_univ _, by omega⟩
  · rintro ⟨-, h⟩ a
    match a with
    | 0 => exact show p ≤ (i 0).val ∧ (i 0).val < p + 1 by omega
    | 1 => exact show 0 ≤ (i 1).val ∧ (i 1).val < 0 + 4096 by omega
    | 2 => exact show 0 ≤ (i 2).val ∧ (i 2).val < 0 + 128 by omega

theorem rows_rect {p : ℕ} {o : Fin 2 → ℕ} (ho : o = ![16 * p, 0]) (inb : ∀ a, o a + S16x1024.size a ≤ S256x1024.size a) :
    (Rect.unit (s := S256x1024) o S16x1024.size inb).set = rowSet p := by
  subst ho; ext i
  rw [Rect.mem_set_unit]
  unfold rowSet
  rw [Finset.mem_filter]
  have h1 : (i 1).val < 1024 := (i 1).isLt
  constructor
  · intro h
    have h0 : 16 * p ≤ (i 0).val ∧ (i 0).val < 16 * p + 16 := h 0
    exact ⟨Finset.mem_univ _, by omega⟩
  · rintro ⟨-, h⟩ a
    match a with
    | 0 => exact show 16 * p ≤ (i 0).val ∧ (i 0).val < 16 * p + 16 by omega
    | 1 => exact show 0 ≤ (i 1).val ∧ (i 1).val < 0 + 1024 by omega

theorem head_rect {p : ℕ} {o : Fin 4 → ℕ} (ho : o = ![0, 0, p, 0]) (inb : ∀ a, o a + S1x4096x1x128.size a ≤ S1x4096x128x128.size a) :
    (Rect.unit (s := S1x4096x128x128) o S1x4096x1x128.size inb).set = headSet p := by
  subst ho; ext i
  rw [Rect.mem_set_unit]
  unfold headSet
  rw [Finset.mem_filter]
  have h0 : (i 0).val < 1 := (i 0).isLt
  have h1 : (i 1).val < 4096 := (i 1).isLt
  have h3 : (i 3).val < 128 := (i 3).isLt
  constructor
  · intro h
    have h0 : p ≤ (i 2).val ∧ (i 2).val < p + 1 := h 2
    exact ⟨Finset.mem_univ _, by omega⟩
  · rintro ⟨-, h⟩ a
    match a with
    | 0 => exact show 0 ≤ (i 0).val ∧ (i 0).val < 0 + 1 by omega
    | 1 => exact show 0 ≤ (i 1).val ∧ (i 1).val < 0 + 4096 by omega
    | 2 => exact show p ≤ (i 2).val ∧ (i 2).val < p + 1 by omega
    | 3 => exact show 0 ≤ (i 3).val ∧ (i 3).val < 0 + 128 by omega

/-! ## The views' element sets -/

section Sets
variable {p : ℕ}
theorem slotR_set (hp : p < 16) {o : Fin 3 → ℕ} (ho : o = ![p, 0, 0]) (inb) : (slotR o inb).view.set = slotSet p :=
  (View.set_reshape _ _).trans ((View.set_slice_whole _ _).trans (slot_rect hp ho inb))
theorem slotG_set (hp : p < 16) {o : Fin 3 → ℕ} (ho : o = ![p, 0, 0]) (inb) : (slotG o inb).view.set = slotSet p :=
  (View.set_reshape _ _).trans ((View.set_slice_whole _ _).trans (slot_rect hp ho inb))
theorem rowsB_set {o : Fin 2 → ℕ} (ho : o = ![16 * p, 0]) (inb) : (rowsB o inb).view.set = rowSet p :=
  (View.set_slice_whole _ _).trans (rows_rect ho inb)
theorem slabK_set {o : Fin 3 → ℕ} (ho : o = ![p, 0, 0]) (inb) : (slabK o inb).view.set = slabSet p :=
  (View.set_reshape _ _).trans ((View.set_slice_whole _ _).trans (slab_rect ho inb))
theorem slabV_set {o : Fin 3 → ℕ} (ho : o = ![p, 0, 0]) (inb) : (slabV o inb).view.set = slabSet p :=
  (View.set_reshape _ _).trans ((View.set_slice_whole _ _).trans (slab_rect ho inb))
theorem headK_set {o : Fin 4 → ℕ} (ho : o = ![0, 0, p, 0]) (inb) : (headK o inb).view.set = headSet p :=
  (View.set_reshape _ _).trans ((View.set_slice_whole _ _).trans (head_rect ho inb))
theorem headV_set {o : Fin 4 → ℕ} (ho : o = ![0, 0, p, 0]) (inb) : (headV o inb).view.set = headSet p :=
  (View.set_reshape _ _).trans ((View.set_slice_whole _ _).trans (head_rect ho inb))
end Sets

/-! ## The views' elements -/

/-- An index `(x, y)` matched with shape `[1, 4096, 1, 128]` is `(0, x, 0, y)`. -/
theorem reshape_head (h : S4096x128.numel = S1x4096x1x128.numel) (x : S4096x128.Idx) :
    Shape.reshapeEquiv h x = (ValueIdx.ix4 (0 : Fin 1) (x 0) (0 : Fin 1) (x 1) : S1x4096x1x128.Idx) :=
  Shape.reshapeEquiv_eq_of_rowMajor h (by
    rw [Shape.rowMajor_val_four, Shape.rowMajor_val_two]
    show (((0 * 4096 + (x 0).val) * 1 + 0) * 128 + (x 1).val) = (x 0).val * 128 + (x 1).val
    omega)
theorem reshape_slot (h : S16x1024.numel = S1x16x1024.numel) (x : S16x1024.Idx) :
    Shape.reshapeEquiv h x = (ValueIdx.ix3 (0 : Fin 1) (x 0) (x 1) : S1x16x1024.Idx) :=
  Shape.reshapeEquiv_eq_of_rowMajor h (by
    rw [Shape.rowMajor_val_three, Shape.rowMajor_val_two]
    show ((0 * 16 + (x 0).val) * 1024 + (x 1).val) = (x 0).val * 1024 + (x 1).val
    omega)
theorem reshape_slab (h : S4096x128.numel = S1x4096x128.numel) (x : S4096x128.Idx) :
    Shape.reshapeEquiv h x = (ValueIdx.ix3 (0 : Fin 1) (x 0) (x 1) : S1x4096x128.Idx) :=
  Shape.reshapeEquiv_eq_of_rowMajor h (by
    rw [Shape.rowMajor_val_three, Shape.rowMajor_val_two]
    show ((0 * 4096 + (x 0).val) * 128 + (x 1).val) = (x 0).val * 128 + (x 1).val
    omega)

section Emb
variable (c : Dev nD)
theorem slotR_emb {p : Dev nD} {o : Fin 3 → ℕ} (ho : o = ![p.val, 0, 0]) (inb) (x : S16x1024.Idx) :
    (slotR o inb).view.emb x = (ValueIdx.ix3 p (x 0) (x 1) : S16x16x1024.Idx) := by
  subst ho
  show (Rect.unit (s := S16x16x1024) ![p.val, 0, 0] S1x16x1024.size inb).emb (Shape.reshapeEquiv _ x) = _
  rw [reshape_slot]
  refine funext fun a => Fin.ext ?_
  match a with
  | 0 => exact show p.val + 1 * 0 = p.val by omega
  | 1 => exact show 0 + 1 * (x 0).val = (x 0).val by omega
  | 2 => exact show 0 + 1 * (x 1).val = (x 1).val by omega
theorem slotG_emb {p : Dev nD} {o : Fin 3 → ℕ} (ho : o = ![p.val, 0, 0]) (inb) (x : S16x1024.Idx) :
    (slotG o inb).view.emb x = (ValueIdx.ix3 p (x 0) (x 1) : S16x16x1024.Idx) := slotR_emb ho inb x
theorem rowsB_emb {p : Dev nD} {o : Fin 2 → ℕ} (ho : o = ![16 * p.val, 0]) (inb) (x : S16x1024.Idx) :
    (rowsB o inb).view.emb x = (ValueIdx.ix2 (rowOf p (x 0)) (x 1) : S256x1024.Idx) := by
  subst ho
  show (Rect.unit (s := S256x1024) ![16 * p.val, 0] S16x1024.size inb).emb x = _
  refine funext fun a => Fin.ext ?_
  match a with
  | 0 => exact show 16 * p.val + 1 * (x 0).val = 16 * p.val + (x 0).val by omega
  | 1 => exact show 0 + 1 * (x 1).val = (x 1).val by omega
theorem slabK_emb {h : Fin 8} {o : Fin 3 → ℕ} (ho : o = ![h.val, 0, 0]) (inb) (x : S4096x128.Idx) :
    (slabK o inb).view.emb x = (ValueIdx.ix3 h (x 0) (x 1) : S8x4096x128.Idx) := by
  subst ho
  show (Rect.unit (s := S8x4096x128) ![h.val, 0, 0] S1x4096x128.size inb).emb (Shape.reshapeEquiv _ x) = _
  rw [reshape_slab]
  refine funext fun a => Fin.ext ?_
  match a with
  | 0 => exact show h.val + 1 * 0 = h.val by omega
  | 1 => exact show 0 + 1 * (x 0).val = (x 0).val by omega
  | 2 => exact show 0 + 1 * (x 1).val = (x 1).val by omega
theorem slabV_emb {h : Fin 8} {o : Fin 3 → ℕ} (ho : o = ![h.val, 0, 0]) (inb) (x : S4096x128.Idx) :
    (slabV o inb).view.emb x = (ValueIdx.ix3 h (x 0) (x 1) : S8x4096x128.Idx) := slabK_emb ho inb x
theorem headK_emb {h : Fin 8} {o : Fin 4 → ℕ} (ho : o = ![0, 0, 8 * c.val + h.val, 0]) (inb) (x : S4096x128.Idx) :
    (headK o inb).view.emb x = (ValueIdx.ix4 (0 : Fin 1) (x 0) (headOf c h) (x 1) : S1x4096x128x128.Idx) := by
  subst ho
  show (Rect.unit (s := S1x4096x128x128) ![0, 0, 8 * c.val + h.val, 0] S1x4096x1x128.size inb).emb (Shape.reshapeEquiv _ x) = _
  rw [reshape_head]
  refine funext fun a => Fin.ext ?_
  match a with
  | 0 => rfl
  | 1 => exact show 0 + 1 * (x 0).val = (x 0).val by omega
  | 2 => exact show 8 * c.val + h.val + 1 * 0 = 8 * c.val + h.val by omega
  | 3 => exact show 0 + 1 * (x 1).val = (x 1).val by omega
theorem headV_emb {h : Fin 8} {o : Fin 4 → ℕ} (ho : o = ![0, 0, 8 * c.val + h.val, 0]) (inb) (x : S4096x128.Idx) :
    (headV o inb).view.emb x = (ValueIdx.ix4 (0 : Fin 1) (x 0) (headOf c h) (x 1) : S1x4096x128x128.Idx) := headK_emb c ho inb x
end Emb

/-! ## What a landing leaves -/

section Landing
variable (c : Dev nD)

/-- A copied head of the keys: the slab holds the final contents. -/
theorem land_k {h : Fin 8} {o : Fin 3 → ℕ} {o' : Fin 4 → ℕ} (ho : o = ![h.val, 0, 0]) (ho' : o' = ![0, 0, 8 * c.val + h.val, 0]) (inb) (inb')
    (fd : S8x4096x128.Idx → Elt F .f32) :
    ∀ i ∈ (slabK o inb).view.set, (slabK o inb).view.write (Elt F) fd ((headK o' inb').view.read (Elt F) (karr m c)) Finset.univ i = kF m c i := by
  intro i hi
  obtain ⟨x, rfl⟩ := View.exists_emb_of_mem_set _ hi
  refine (View.write_emb_of_mem _ _ (Finset.mem_univ x)).trans ?_
  show karr m c ((headK o' inb').view.emb x) = kF m c ((slabK o inb).view.emb x)
  rw [headK_emb c ho', slabK_emb ho]; rfl
theorem land_v {h : Fin 8} {o : Fin 3 → ℕ} {o' : Fin 4 → ℕ} (ho : o = ![h.val, 0, 0]) (ho' : o' = ![0, 0, 8 * c.val + h.val, 0]) (inb) (inb')
    (fd : S8x4096x128.Idx → Elt F .f32) :
    ∀ i ∈ (slabV o inb).view.set, (slabV o inb).view.write (Elt F) fd ((headV o' inb').view.read (Elt F) (varr m c)) Finset.univ i = vF m c i := by
  intro i hi
  obtain ⟨x, rfl⟩ := View.exists_emb_of_mem_set _ hi
  refine (View.write_emb_of_mem _ _ (Finset.mem_univ x)).trans ?_
  show varr m c ((headV o' inb').view.emb x) = vF m c ((slabV o inb).view.emb x)
  rw [headV_emb c ho', slabV_emb ho]; rfl
/-- Device `c`'s rows for `p`, landed in slot `c` of `p`'s first landing buffer. -/
theorem land_a {p : Dev nD} {o : Fin 3 → ℕ} {o' : Fin 2 → ℕ} (ho : o = ![c.val, 0, 0]) (ho' : o' = ![16 * p.val, 0]) (inb) (inb')
    (fd : S16x16x1024.Idx → Elt F .bf16) :
    ∀ i ∈ (slotR o inb).view.set, (slotR o inb).view.write (Elt F) fd ((rowsB o' inb').view.read (Elt F) (pbfF m c)) Finset.univ i = recvF m p i := by
  intro i hi
  obtain ⟨x, rfl⟩ := View.exists_emb_of_mem_set _ hi
  refine (View.write_emb_of_mem _ _ (Finset.mem_univ x)).trans ?_
  show pbfF m c ((rowsB o' inb').view.emb x) = recvF m p ((slotR o inb).view.emb x)
  rw [rowsB_emb ho', slotR_emb ho]; rfl
/-- Device `c`'s sum, landed in slot `c` of a peer's second landing buffer. -/
theorem land_c {o : Fin 3 → ℕ} (ho : o = ![c.val, 0, 0]) (inb) (inb')
    (fd : S16x16x1024.Idx → Elt F .bf16) :
    ∀ i ∈ (slotG o inb).view.set, (slotG o inb).view.write (Elt F) fd ((slotG o inb').view.read (Elt F) (gathF m)) Finset.univ i = gathF m i := by
  intro i hi
  obtain ⟨x, rfl⟩ := View.exists_emb_of_mem_set _ hi
  exact View.write_emb_of_mem _ _ (Finset.mem_univ x)
end Landing

/-! ## What the loads read and the stores leave -/

section Access
variable (c : Dev nD)

theorem read_k {h : Fin 8} {o : Fin 3 → ℕ} (ho : o = ![h.val, 0, 0]) (inb) :
    kM.view.readAt (Elt F) (Rect.unit (s := S8x4096x128) o S1x4096x128.size inb).toLoadRect (kF m c) = kblk m c h := by
  subst ho
  refine funext fun x => ?_
  show kF m c ((Rect.unit (s := S8x4096x128) ![h.val, 0, 0] S1x4096x128.size inb).emb x) = kF m c (ValueIdx.ix3 h (x 1) (x 2))
  congr 1
  refine funext fun a => Fin.ext ?_
  have h0 : (x 0).val < 1 := (x 0).isLt
  match a with
  | 0 => exact show h.val + 1 * (x 0).val = h.val by omega
  | 1 => exact show 0 + 1 * (x 1).val = (x 1).val by omega
  | 2 => exact show 0 + 1 * (x 2).val = (x 2).val by omega
theorem read_v {h : Fin 8} {o : Fin 3 → ℕ} (ho : o = ![h.val, 0, 0]) (inb) :
    vM.view.readAt (Elt F) (Rect.unit (s := S8x4096x128) o S1x4096x128.size inb).toLoadRect (vF m c) = vblk m c h := by
  subst ho
  refine funext fun x => ?_
  show vF m c ((Rect.unit (s := S8x4096x128) ![h.val, 0, 0] S1x4096x128.size inb).emb x) = vF m c (ValueIdx.ix3 h (x 1) (x 2))
  congr 1
  refine funext fun a => Fin.ext ?_
  have h0 : (x 0).val < 1 := (x 0).isLt
  match a with
  | 0 => exact show h.val + 1 * (x 0).val = h.val by omega
  | 1 => exact show 0 + 1 * (x 1).val = (x 1).val by omega
  | 2 => exact show 0 + 1 * (x 2).val = (x 2).val by omega
theorem read_r {d : ℕ} {o : Fin 3 → ℕ} (ho : o = ![(pr c d).val, 0, 0]) (inb) :
    rM.view.readAt (Elt F) (Rect.unit (s := S16x16x1024) o S1x16x1024.size inb).toLoadRect (recvF m c) = rv m c d := by
  subst ho
  refine funext fun x => ?_
  show recvF m c ((Rect.unit (s := S16x16x1024) ![(pr c d).val, 0, 0] S1x16x1024.size inb).emb x) = recvF m c (ValueIdx.ix3 (pr c d) (x 1) (x 2))
  congr 1
  refine funext fun a => Fin.ext ?_
  have h0 : (x 0).val < 1 := (x 0).isLt
  match a with
  | 0 => exact show (pr c d).val + 1 * (x 0).val = (pr c d).val by omega
  | 1 => exact show 0 + 1 * (x 1).val = (x 1).val by omega
  | 2 => exact show 0 + 1 * (x 2).val = (x 2).val by omega
theorem read_own {o : Fin 2 → ℕ} (ho : o = ![16 * c.val, 0]) (inb) :
    pM.view.readAt (Elt F) (Rect.unit (s := S256x1024) o S16x1024.size inb).toLoadRect (partF m c) = ownF m c := by
  subst ho
  refine funext fun x => ?_
  show partF m c ((Rect.unit (s := S256x1024) ![16 * c.val, 0] S16x1024.size inb).emb x) = partF m c (ValueIdx.ix2 (rowOf c (x 0)) (x 1))
  congr 1
  refine funext fun a => Fin.ext ?_
  match a with
  | 0 => exact show 16 * c.val + 1 * (x 0).val = 16 * c.val + (x 0).val by omega
  | 1 => exact show 0 + 1 * (x 1).val = (x 1).val by omega

/-- The attention buffer after the stores of heads `0..h-1`. -/
def AttnUpTo (h : ℕ) (f : S256x1024.Idx → Elt F .bf16) : Prop := ∀ i : S256x1024.Idx, (i 1).val < 128 * h → f i = attnF m c i

theorem attnUpTo_zero (f : S256x1024.Idx → Elt F .bf16) : AttnUpTo m c 0 f := fun i h => absurd h (by omega)
theorem attnUpTo_all {f : S256x1024.Idx → Elt F .bf16} (h : AttnUpTo m c 8 f) : f = attnF m c :=
  funext fun i => h i (by have : (i 1).val < 1024 := (i 1).isLt; omega)

/-- Storing head `h`'s columns carries `AttnUpTo` from `h` to `h + 1`. -/
theorem attn_store {h : Fin 8} {f : S256x1024.Idx → Elt F .bf16} (hf : AttnUpTo m c h.val f) {o : Fin 2 → ℕ} (ho : o = ![0, 128 * h.val])
    (inb : ∀ a, o a + S256x128.size a ≤ S256x1024.size a) :
    AttnUpTo m c (h.val + 1) ((aM.access (Rect.unit (s := S256x1024) o S256x128.size inb)).write (Elt F) f (headPay m c h) Finset.univ) := by
  subst ho
  intro i hi
  by_cases hlo : (i 1).val < 128 * h.val
  · rw [View.write_of_not_mem]
    · exact hf i hlo
    · intro hm
      have hm' : i ∈ (Rect.unit (s := S256x1024) ![0, 128 * h.val] S256x128.size inb).set := by
        rw [← View.set_slice_whole cc0_scratch2]; exact hm
      rw [Rect.mem_set_unit] at hm'
      have h1 : 128 * h.val ≤ (i 1).val ∧ (i 1).val < 128 * h.val + 128 := hm' 1
      omega
  · have hx : (aM.access (Rect.unit (s := S256x1024) ![0, 128 * h.val] S256x128.size inb)).emb (ValueIdx.ix2 (i 0) (colIn (i 1)) : S256x128.Idx) = i := by
      refine funext fun a => Fin.ext ?_
      match a with
      | 0 => exact show 0 + 1 * (i 0).val = (i 0).val by omega
      | 1 => exact show 128 * h.val + 1 * ((i 1).val % 128) = (i 1).val by omega
    have hc : colHead (i 1) = h := Fin.ext (show (i 1).val / 128 = h.val by omega)
    have hw := View.write_emb_of_mem (v := aM.access (Rect.unit (s := S256x1024) ![0, 128 * h.val] S256x128.size inb)) (Val := Elt F) f (headPay m c h)
      (Finset.mem_univ (ValueIdx.ix2 (i 0) (colIn (i 1)) : S256x128.Idx))
    rw [hx] at hw
    refine hw.trans ?_
    show headPay m c h _ = headPay m c (colHead (i 1)) _
    rw [hc]

/-- Storing the sum in the device's own slot. -/
theorem gath_store {o : Fin 3 → ℕ} (ho : o = ![c.val, 0, 0]) (inb : ∀ a, o a + S1x16x1024.size a ≤ S16x16x1024.size a)
    (f : S16x16x1024.Idx → Elt F .bf16) :
    ∀ i ∈ slotSet c.val, (gM.access (Rect.unit (s := S16x16x1024) o S1x16x1024.size inb)).write (Elt F) f (accB m c) Finset.univ i = gathF m i := by
  subst ho
  intro i hi
  have hi0 : i 0 = c := Fin.ext (Finset.mem_filter.mp hi).2
  have hx : (gM.access (Rect.unit (s := S16x16x1024) ![c.val, 0, 0] S1x16x1024.size inb)).emb (ValueIdx.ix3 (0 : Fin 1) (i 1) (i 2) : S1x16x1024.Idx) = i := by
    refine funext fun a => Fin.ext ?_
    match a with
    | 0 => exact show c.val + 1 * 0 = (i 0).val by rw [hi0]; omega
    | 1 => exact show 0 + 1 * (i 1).val = (i 1).val by omega
    | 2 => exact show 0 + 1 * (i 2).val = (i 2).val by omega
  have hw := View.write_emb_of_mem (v := gM.access (Rect.unit (s := S16x16x1024) ![c.val, 0, 0] S1x16x1024.size inb)) (Val := Elt F) f (accB m c)
    (Finset.mem_univ (ValueIdx.ix3 (0 : Fin 1) (i 1) (i 2) : S1x16x1024.Idx))
  rw [hx] at hw
  refine hw.trans ?_
  show accB m c _ = accB m (i 0) _
  rw [hi0]

/-- Storing the device's own rows over the gathered result. -/
theorem out_store {o : Fin 2 → ℕ} (ho : o = ![16 * c.val, 0]) (inb : ∀ a, o a + S16x1024.size a ≤ S256x1024.size a) :
    ((Memref.whole cc0_stg3_0 : Memref sig .tc .vmem S256x1024 .f32).access (Rect.unit (s := S256x1024) o S16x1024.size inb)).write (Elt F)
      (k0_pay22 (gathF m) : S256x1024.Idx → Elt F .f32) (accF m c) Finset.univ = outF m c := by
  subst ho
  refine funext fun i => ?_
  unfold outF
  by_cases h : (i 0).val / 16 = c.val
  · rw [dif_pos h]
    have hx : ((Memref.whole cc0_stg3_0 : Memref sig .tc .vmem S256x1024 .f32).access (Rect.unit (s := S256x1024) ![16 * c.val, 0] S16x1024.size inb)).emb
        (ValueIdx.ix2 ⟨(i 0).val % 16, Nat.mod_lt _ (by decide)⟩ (i 1) : S16x1024.Idx) = i := by
      refine funext fun a => Fin.ext ?_
      match a with
      | 0 => exact show 16 * c.val + 1 * ((i 0).val % 16) = (i 0).val by omega
      | 1 => exact show 0 + 1 * (i 1).val = (i 1).val by omega
    have hw := View.write_emb_of_mem (v := (Memref.whole cc0_stg3_0 : Memref sig .tc .vmem S256x1024 .f32).access (Rect.unit (s := S256x1024) ![16 * c.val, 0] S16x1024.size inb)) (Val := Elt F) (k0_pay22 (gathF m) : S256x1024.Idx → Elt F .f32) (accF m c)
      (Finset.mem_univ (ValueIdx.ix2 ⟨(i 0).val % 16, Nat.mod_lt _ (by decide)⟩ (i 1) : S16x1024.Idx))
    rw [hx] at hw
    exact hw
  · rw [dif_neg h]
    rw [View.write_of_not_mem]
    intro hm
    have hm' : i ∈ (Rect.unit (s := S256x1024) ![16 * c.val, 0] S16x1024.size inb).set := by
      rw [← View.set_slice_whole cc0_stg3_0]; exact hm
    rw [rows_rect rfl] at hm'
    exact h (Finset.mem_filter.mp hm').2

end Access

end Cert.KernelIdealProof

end
-- ==== Proof.KernelIdealSteps.lean ====
/-
One step of the kernel at a time: a signal, the barrier wait, a copy, a wait, a transfer of either exchange.
-/
module

public import proofs.«01_k».proof.Proof.KernelIdealViews

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proposition every step is about, and the facts every step may use -/

abbrev 𝒱₀ : Variants := Variants.none

/-- Device `c` runs `p` and ends in `Q`. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The cells of the schedule: a device and a number, 0 for its barrier, `k` for its DMA semaphore `k + 3`. -/
def kcell (j : Dev nD × Fin 81) : GSem nD τ sig := if j.2.val = 0 then bcell j.1 else dcell j.1 (j.2.val + 3)

theorem kcell_bar (c : Dev nD) : kcell (c, 0) = bcell c := rfl
theorem kcell_dma (c : Dev nD) {n : ℕ} (h4 : 4 ≤ n) (hn : n < 84) : kcell (c, ⟨n - 3, by omega⟩) = dcell c n := by
  unfold kcell
  rw [if_neg (show ¬ n - 3 = 0 by omega)]
  show dcell c (n - 3 + 3) = _
  rw [show n - 3 + 3 = n by omega]

/-- The facts that last: every cell's invariant, round 0 reached on every cell, and the levels. -/
def Env (K : Dev nD × Fin 81 → ℕ) : sProp 𝕄 :=
  iprop((bigSep Finset.univ fun j => cellInv ER (sched (F := F) m) (K j) (kcell j)) ∗ (bigSep Finset.univ fun j => reached ER (kcell j) 0) ∗ levAts L lv)

instance Env_persistent (K) : BI.Persistent (Env (F := F) m K) := by unfold Env; infer_instance

theorem env_at (K) (j : Dev nD × Fin 81) : Env (F := F) m K ⊢ iprop(cellInv ER (sched (F := F) m) (K j) (kcell j) ∗ reached ER (kcell j) 0) := by
  unfold Env
  iintro ⟨#H1, #H2, -⟩
  isplitr
  · iapply (show iprop(bigSep Finset.univ fun j => cellInv ER (sched (F := F) m) (K j) (kcell j)) ⊢ cellInv ER (sched (F := F) m) (K j) (kcell j) from bigSep_elim (Finset.mem_univ j)); iexact H1
  · iapply (show (bigSep Finset.univ fun j => reached ER (kcell j) 0 : sProp 𝕄) ⊢ reached ER (kcell j) 0 from bigSep_elim (Finset.mem_univ j)); iexact H2

theorem env_bar (K) (c : Dev nD) : Env (F := F) m K ⊢ iprop(cellInv ER (sched (F := F) m) (K (c, 0)) (bcell c) ∗ reached ER (bcell c) 0) :=
  env_at m K (c, 0)

theorem env_dma (K) (c : Dev nD) {n : ℕ} (h4 : 4 ≤ n) (hn : n < 84) :
    Env (F := F) m K ⊢ iprop(cellInv ER (sched (F := F) m) (K (c, ⟨n - 3, by omega⟩)) (dcell c n) ∗ reached ER (dcell c n) 0) := by
  rw [← kcell_dma c h4 hn]; exact env_at m K _

theorem env_lev (K) : Env (F := F) m K ⊢ levAts L lv := by
  unfold Env; iintro ⟨-, -, H⟩; iexact H

/-- Device `c` owes `O`. -/
def OW (c : Dev nD) (O : CellTallies nD τ sig Unit) : sProp 𝕄 := iprop(∃ V, owes (c : Thread nD τ) O V)

/-- The signals from the `i`-th on, the first-exchange transfers from the `j`-th on, the second-exchange transfers from
    the `k`-th on. -/
def O3 (c : Dev nD) (i j k : ℕ) : CellTallies nD τ sig Unit := OB c i + OA c j + OC c k

theorem O3_stepB (c : Dev nD) {i j k : ℕ} (hi : i < 15) : O3 c i j k = O3 c (i + 1) j k + tallyAt (bcell (pr c i)) () 1 := by
  unfold O3; rw [OB_step c hi, add_right_comm (OB c (i + 1)), add_right_comm (OB c (i + 1) + OA c j)]
theorem O3_stepA (c : Dev nD) {i j k : ℕ} (hj : j < 15) : O3 c i j k = O3 c i (j + 1) k + tallyAt (dcell (pr c j) (36 + c.val)) () NA := by
  unfold O3; rw [OA_step c hj, ← add_assoc, add_right_comm (OB c i + OA c (j + 1))]
theorem O3_stepC (c : Dev nD) {i j k : ℕ} (hk : k < 15) : O3 c i j k = O3 c i j (k + 1) + tallyAt (dcell (pr c k) (68 + c.val)) () NA := by
  unfold O3; rw [OC_step c hk, ← add_assoc]

theorem env_wait (K) (c : Dev nD) (sm : SemLoc sig) (i j k : ℕ) (hB : semLv sm < 1 ∨ i = 15) (hA : semLv sm < 2 ∨ j = 15) (hC : semLv sm < 3 ∨ k = 15) :
    Env (F := F) m K ⊢ MayWait (c : Thread nD τ) sm () (O3 c i j k) :=
  by unfold Env; iintro ⟨-, -, H⟩; iapply (mayWait_lv c sm i j k hB hA hC); iexact H

/-! ## A family worked through one member after another -/

/-- Members below `i` are in their second state, those from `i` to `n` in their first. -/
def St (A B : ℕ → sProp 𝕄) (i n : ℕ) : sProp 𝕄 := iprop(bigSep (Finset.range i) B ∗ bigSep (Finset.Ico i n) A)

theorem St_take (A B : ℕ → sProp 𝕄) {i n : ℕ} (hi : i < n) : St A B i n ⊢ iprop(A i ∗ (B i -∗ St A B (i + 1) n)) := by
  unfold St
  have h1 : bigSep (Finset.Ico i n) A = iprop(A i ∗ bigSep (Finset.Ico (i + 1) n) A) := by
    rw [show Finset.Ico i n = insert i (Finset.Ico (i + 1) n) from by ext k; simp only [Finset.mem_insert, Finset.mem_Ico]; omega]
    exact bigSep_insert (by simp)
  have h2 : bigSep (Finset.range (i + 1)) B = iprop(B i ∗ bigSep (Finset.range i) B) := by
    rw [Finset.range_add_one]; exact bigSep_insert Finset.notMem_range_self
  rw [h1, h2]
  iintro ⟨HB, HA, HR⟩
  isplitl [HA]; · iexact HA
  iintro Hi
  isplitl [HB Hi]
  · isplitl [Hi] <;> iassumption
  · iexact HR
theorem St_start (A B : ℕ → sProp 𝕄) (n : ℕ) : bigSep (Finset.range n) A ⊢ St A B 0 n := by
  unfold St
  rw [Finset.range_zero, bigSep_empty, Finset.range_eq_Ico]
  iintro H; isplitr
  · iempintro
  · iexact H
theorem St_end (A B : ℕ → sProp 𝕄) (n : ℕ) : St A B n n ⊢ bigSep (Finset.range n) B := by
  unfold St
  iintro ⟨H, -⟩; iexact H
/-- One member of a family, lent out. -/
theorem bigSep_lend (s : Finset ℕ) (B : ℕ → sProp 𝕄) {j : ℕ} (hj : j ∈ s) : bigSep s B ⊢ iprop(B j ∗ (B j -∗ bigSep s B)) := by
  have h : bigSep s B = iprop(B j ∗ bigSep (s.erase j) B) := bigSep_erase hj
  rw [h]
  iintro ⟨H, HR⟩
  isplitl [H]; · iexact H
  iintro H
  isplitl [H] <;> iassumption
theorem St_lend (A B : ℕ → sProp 𝕄) {i n j : ℕ} (hj : j < i) : St A B i n ⊢ iprop(B j ∗ (B j -∗ St A B i n)) := by
  unfold St
  iintro ⟨HB, HA⟩
  ihave H := (bigSep_lend (Finset.range i) B (Finset.mem_range.mpr hj)) $$ HB
  icases H with ⟨H, HR⟩
  isplitl [H]; · iexact H
  iintro H
  isplitl [H HR]
  · iapply HR; iexact H
  · iexact HA

/-! ## The members' states -/

section Items
variable (c : Dev nD)

/-- A signal to peer `i`: the duty's token and the two landing slots handed over. -/
def sigPre (i : ℕ) : sProp 𝕄 := iprop(dutyTok ER (bcell (pr c i)) 0 c ∗ barPay (F := F) c (pr c i))
/-- What the wait for own semaphore `n` starts from: its position and the credit. -/
def midN (N n : ℕ) : sProp 𝕄 := iprop(atPos ER (dcell c n) 0 ∅ 0 ∗ cred (tallyAt (dcell c n) () N))
/-- What the wait for own semaphore `n` leaves: what the landing handed over, and the semaphore at zero. -/
def postN (n : ℕ) : sProp 𝕄 := iprop(dmaPay m c n ∗ semVal (dcell c n) 0)
/-- The copy of head `h` of the keys. -/
def kPre (h : ℕ) : sProp 𝕄 :=
  iprop((∃ f, kslab c h f) ∗ khead m c (8 * c.val + h) ∗ dutyTok ER (dcell c (4 + h)) 0 (0 : Dev nD) ∗ atPos ER (dcell c (4 + h)) 0 ∅ 0)
def vPre (h : ℕ) : sProp 𝕄 :=
  iprop((∃ f, vslab c h f) ∗ vhead m c (8 * c.val + h) ∗ dutyTok ER (dcell c (12 + h)) 0 (0 : Dev nD) ∗ atPos ER (dcell c (12 + h)) 0 ∅ 0)
/-- The first-exchange transfer to peer `i`: the rows, the peer's slot, the two duties, the send semaphore's position. -/
def aPre (i : ℕ) : sProp 𝕄 :=
  iprop(prow c (pr c i).val (pbfF m c) ∗ (∃ f, rslot (pr c i) c.val f) ∗ dutyTok ER (dcell c (20 + (pr c i).val)) 0 (0 : Dev nD)
    ∗ dutyTok ER (dcell (pr c i) (36 + c.val)) 0 (0 : Dev nD) ∗ atPos ER (dcell c (20 + (pr c i).val)) 0 ∅ 0)
/-- The second-exchange transfer to peer `i` (the source share comes from the device's own slot). -/
def cPre (i : ℕ) : sProp 𝕄 :=
  iprop((∃ f, gslot fullShare (pr c i) c.val f) ∗ dutyTok ER (dcell c (52 + (pr c i).val)) 0 (0 : Dev nD)
    ∗ dutyTok ER (dcell (pr c i) (68 + c.val)) 0 (0 : Dev nD) ∗ atPos ER (dcell c (52 + (pr c i).val)) 0 ∅ 0)
end Items

/-! ## The steps -/

section Steps
variable (K : Dev nD × Fin 81 → ℕ) (c : Dev nD) {α : Type} {Q : α → sProp (MT nD τ sig Unit (Elt F) ℕ UU ℕ)} {k : PUnit → Prog (TpuEff nD τ sig (Elt F) Λ₀ .tc) α}

/-- A signal to peer `i` on its barrier. -/
theorem step_signal {i : ℕ} (hi : i < 15) {j l : ℕ} {p : Dev nD} (hp : p = pr c i) {z : ℤ} (hz : z = ((1 : ℕ) : ℤ)) :
    iprop(Env m K ∗ OW c (O3 c i j l) ∗ sigPre c i)
      ⊢ iprop((OW c (O3 c (i + 1) j l) -∗ W c (k ⟨⟩) Q) -∗ W c (.op (.semSignal (p, .tc) barS z) k) Q) := by
  subst hp hz
  unfold OW sigPre
  iintro ⟨#HE, ⟨%V, HO⟩, Htok, Hpay⟩ Hk
  ihave #H := (env_bar m K (pr c i)) $$ HE
  icases H with ⟨#Hi, #Hr⟩
  iapply (Rounds.wp_signal 𝒱₀ ER (sched m) (c : Thread nD τ) none (dst := ((pr c i : Dev nD) : Thread nD τ)) (sem := barS) (r := 0) (d := c) (k' := 1)
      (by rw [duties_bar]; exact Finset.mem_erase.mpr ⟨(pr_ne c hi).symm, Finset.mem_univ _⟩) (amount_bar m (pr c i) c) ()
      (O₀ := O3 c i j l) (O3 c (i + 1) j l) (O3_stepB c hi)) $$ [HO Htok Hpay]
  · rw [payload_bar]
    isplitr; · iexact Hi
    isplitl [HO]; · iexact HO
    isplitl [Htok]; · iexact Htok
    isplitl [Hpay]; · iexact Hpay
    iexact Hr
  iintro HO
  iapply Hk
  iexists V; iexact HO

/-- The wait for all fifteen signals. -/
theorem step_bar {j l : ℕ} {z : ℤ} (hz : z = ((15 : ℕ) : ℤ)) :
    iprop(Env m K ∗ OW c (O3 c 15 j l) ∗ atPos ER (bcell c) 0 ∅ 0 ∗ cred (tallyAt (bcell c) () 15))
      ⊢ iprop(((OW c (O3 c 15 j l) ∗ semVal (bcell c) 0 ∗ bigSep (Finset.range 15) fun i => barPay (pr c i) c) -∗ W c (k ⟨⟩) Q)
        -∗ W c (.op (.semWait barS z) k) Q) := by
  subst hz
  unfold OW
  iintro ⟨#HE, ⟨%V, HO⟩, Hat, Hcr⟩ Hk
  ihave #H := (env_bar m K c) $$ HE
  icases H with ⟨#Hi, #Hr⟩
  iapply (Rounds.wp_wait_rest_token 𝒱₀ ER (sched m) (c : Thread nD τ) none (κ := K (c, 0)) (sm := .reg barS) (wpE_semWait_eq 𝒱₀ (c : Thread nD τ) none Set.univ) (Set.mem_univ _) ()
      (O := O3 c 15 j l) (W := V) (R := 0) (m := 0) (T := ∅) (by rw [Nat.zero_add, expect_bar])) $$ [HO Hat Hcr]
  · isplitr; · iexact Hi
    isplitl [Hcr]; · iexact Hcr
    isplitl [HO]; · iexact HO
    isplitr
    · iapply (env_wait m K c (.reg barS) 15 j l (.inr rfl) (.inl (by decide)) (.inl (by decide))); iexact HE
    iexact Hat
  rw [rest_bar, ← bigSep_pr c (fun p => barPay p c)]
  iintro ⟨HO, Hat, -, Hpay⟩
  imod (Rounds.cell_close ER (sched m) (Set.mem_univ (K (c, 0))) (fun h => h) (R := 0 + 1) (duties_later m _)) $$ [Hat] with Hsv
  · isplitr <;> iassumption
  iapply Hk
  isplitl [HO]; · iexists _; iexact HO
  isplitl [Hsv] <;> iassumption

/-- The wait for own semaphore `n`. -/
theorem step_wait {n N : ℕ} (hn : n < 84) (hon : DmaOn c n) (hN : (sched (F := F) m).expect (dcell c n) 0 = N) {i j l : ℕ}
    (hB : semLv (.dma (dsem n)) < 1 ∨ i = 15) (hA : semLv (.dma (dsem n)) < 2 ∨ j = 15) (hC : semLv (.dma (dsem n)) < 3 ∨ l = 15)
    {s s' : Shape} {e e' : EltTy} {sp sp' : Space} {sem : DmaSem sig} (hs : sem = dsem n) {src : Memref sig .tc sp' s' e'} {dst : Memref sig .tc sp s e}
    {h1 : src.view.WordExact} {h2 : dst.view.WordExact} (hd : dst.view.dmaCredit = N) :
    iprop(Env m K ∗ OW c (O3 c i j l) ∗ midN c N n)
      ⊢ iprop(((OW c (O3 c i j l) ∗ postN m c n) -∗ W c (k ⟨⟩) Q) -∗ W c (.op (.waitDma2 sem src dst h1 h2) k) Q) := by
  subst hs hd
  unfold OW midN postN
  iintro ⟨#HE, ⟨%V, HO⟩, Hat, Hcr⟩ Hk
  ihave #H := (env_dma m K c hon.1 hn) $$ HE
  icases H with ⟨#Hi, #Hr⟩
  iapply (Rounds.wp_wait_rest_token 𝒱₀ ER (sched m) (c : Thread nD τ) none (κ := K (c, ⟨n - 3, by omega⟩)) (sm := .dma (dsem n)) (wpE_waitDma2_eq 𝒱₀ (c : Thread nD τ) none Set.univ) (Set.mem_univ _) ()
      (O := O3 c i j l) (W := V) (R := 0) (m := 0) (T := ∅) (by rw [Nat.zero_add, hN])) $$ [HO Hat Hcr]
  · isplitr; · iexact Hi
    isplitl [Hcr]; · iexact Hcr
    isplitl [HO]; · iexact HO
    isplitr
    · iapply (env_wait m K c (.dma (dsem n)) i j l hB hA hC); iexact HE
    iexact Hat
  rw [rest_dma m c hn hon]
  iintro ⟨HO, Hat, -, Hpay⟩
  imod (Rounds.cell_close ER (sched m) (Set.mem_univ (K (c, ⟨n - 3, by omega⟩))) (fun h => h) (R := 0 + 1) (duties_later m _)) $$ [Hat] with Hsv
  · isplitr <;> iassumption
  iapply Hk
  isplitl [HO]; · iexists _; iexact HO
  isplitl [Hpay] <;> iassumption

/-- The copy of head `h` of the keys. -/
theorem step_copyK (h : Fin 8) {o : Fin 3 → ℕ} (ho : o = ![h.val, 0, 0]) {o' : Fin 4 → ℕ} (ho' : o' = ![0, 0, 8 * c.val + h.val, 0]) {inb inb'}
    {sem : DmaSem sig} (hs : sem = dsem (4 + h.val))
    {h1 : (headK o' inb').view.WordExact} {h2 : (slabK o inb).view.WordExact} {h3 : DmaTarget.Typed (nD := nD) (τ := τ) .hbm (.dma sem) (.here (p := (Proc.tc : Proc τ)) (slabK o inb))} :
    iprop(Env m K ∗ kPre m c h.val)
      ⊢ iprop((midN c NK (4 + h.val) -∗ W c (k ⟨⟩) Q)
        -∗ W c (.op (.enqueueDma (headK o' inb') (.here (slabK o inb)) (.dma sem) h1 h2 h3) k) Q) := by
  subst hs
  have hh := h.isLt
  have hon : DmaOn c (4 + h.val) := dmaOn_lo c (by omega) (by omega)
  unfold kPre midN kslab khead
  iintro ⟨#HE, ⟨%f, Hs⟩, Hh, Htok, Hat⟩ Hk
  ihave #H := (env_dma m K c hon.1 (show 4 + h.val < 84 by omega)) $$ HE
  icases H with ⟨#Hi, #Hr⟩
  iapply (Rounds.wp_copy_pointsTo 𝒱₀ ER (sched m) (c : Thread nD τ) none (src := headK o' inb') (dst := slabK o inb) (sem := .dma (dsem (4 + h.val))) (q := fullShare)
      (fs := karr m c) (fd := f) (r := 0) (d := (0 : Dev nD)) (κ := K (c, ⟨4 + h.val - 3, by omega⟩))
      (by rw [duties_dma m c (by omega) hon]; exact Finset.mem_singleton_self _) () NK rfl (amount_lo m c (by omega) _)
      (by
        rw [payload_dma m c (by omega), dmaPay_k m c h.val hh, slabK_set ho inb, headK_set ho' inb']
        refine sep_mono_left (Entails.of_eq (pointsTo_congr fun i hi => land_k m c ho ho' inb inb' f i ?_))
        rw [slabK_set ho inb]; exact hi)) $$ [Hs Hh Htok]
  · isplitr; · iexact Hi
    rw [slabK_set ho inb, headK_set ho' inb']
    isplitl [Hh]; · iexact Hh
    isplitl [Hs]; · iexact Hs
    isplitl [Htok]; · iexact Htok
    iexact Hr
  iintro Hcr
  iapply Hk
  isplitl [Hat] <;> iassumption

/-- The copy of head `h` of the values. -/
theorem step_copyV (h : Fin 8) {o : Fin 3 → ℕ} (ho : o = ![h.val, 0, 0]) {o' : Fin 4 → ℕ} (ho' : o' = ![0, 0, 8 * c.val + h.val, 0]) {inb inb'}
    {sem : DmaSem sig} (hs : sem = dsem (12 + h.val))
    {h1 : (headV o' inb').view.WordExact} {h2 : (slabV o inb).view.WordExact} {h3 : DmaTarget.Typed (nD := nD) (τ := τ) .hbm (.dma sem) (.here (p := (Proc.tc : Proc τ)) (slabV o inb))} :
    iprop(Env m K ∗ vPre m c h.val)
      ⊢ iprop((midN c NK (12 + h.val) -∗ W c (k ⟨⟩) Q)
        -∗ W c (.op (.enqueueDma (headV o' inb') (.here (slabV o inb)) (.dma sem) h1 h2 h3) k) Q) := by
  subst hs
  have hh := h.isLt
  have hon : DmaOn c (12 + h.val) := dmaOn_lo c (by omega) (by omega)
  unfold vPre midN vslab vhead
  iintro ⟨#HE, ⟨%f, Hs⟩, Hh, Htok, Hat⟩ Hk
  ihave #H := (env_dma m K c hon.1 (show 12 + h.val < 84 by omega)) $$ HE
  icases H with ⟨#Hi, #Hr⟩
  iapply (Rounds.wp_copy_pointsTo 𝒱₀ ER (sched m) (c : Thread nD τ) none (src := headV o' inb') (dst := slabV o inb) (sem := .dma (dsem (12 + h.val))) (q := fullShare)
      (fs := varr m c) (fd := f) (r := 0) (d := (0 : Dev nD)) (κ := K (c, ⟨12 + h.val - 3, by omega⟩))
      (by rw [duties_dma m c (by omega) hon]; exact Finset.mem_singleton_self _) () NK rfl (amount_lo m c (by omega) _)
      (by
        rw [payload_dma m c (by omega), dmaPay_v m c h.val hh, slabV_set ho inb, headV_set ho' inb']
        refine sep_mono_left (Entails.of_eq (pointsTo_congr fun i hi => land_v m c ho ho' inb inb' f i ?_))
        rw [slabV_set ho inb]; exact hi)) $$ [Hs Hh Htok]
  · isplitr; · iexact Hi
    rw [slabV_set ho inb, headV_set ho' inb']
    isplitl [Hh]; · iexact Hh
    isplitl [Hs]; · iexact Hs
    isplitl [Htok]; · iexact Htok
    iexact Hr
  iintro Hcr
  iapply Hk
  isplitl [Hat] <;> iassumption

/-- The first-exchange transfer to peer `i`. -/
theorem step_asend {i : ℕ} (hi : i < 15) {b l : ℕ} {p : Dev nD} (hp : p = pr c i) {o : Fin 3 → ℕ} (ho : o = ![c.val, 0, 0])
    {o' : Fin 2 → ℕ} (ho' : o' = ![16 * (pr c i).val, 0]) {inb inb'}
    {s₁ s₂ : DmaSem sig} (hs₁ : s₁ = dsem (20 + (pr c i).val)) (hs₂ : s₂ = dsem (36 + c.val))
    {hsc : (slotR o inb).view.ref.isScScratch = false} {h1 : (rowsB o' inb').view.WordExact} {h2 : (slotR o inb).view.WordExact}
    {h3 : DmaTarget.Typed (nD := nD) (τ := τ) .vmem (.dma s₂) (.remote (Dev.tc p) (slotR o inb) (.dma s₁) hsc)} :
    iprop(Env m K ∗ OW c (O3 c b i l) ∗ aPre m c i)
      ⊢ iprop(((OW c (O3 c b (i + 1) l) ∗ midN c NA (20 + (pr c i).val)) -∗ W c (k ⟨⟩) Q)
        -∗ W c (.op (.enqueueDma (rowsB o' inb') (.remote (Dev.tc p) (slotR o inb) (.dma s₁) hsc) (.dma s₂) h1 h2 h3) k) Q) := by
  subst hs₁ hs₂ hp
  have hc16 : c.val < 16 := c.isLt
  have hp16 : (pr c i).val < 16 := (pr c i).isLt
  have hon₁ : DmaOn c (20 + (pr c i).val) := dmaOn_hi c (.inl rfl) (pr_ne c hi)
  have hon₂ : DmaOn (pr c i) (36 + c.val) := dmaOn_hi (pr c i) (.inr (.inl rfl)) (pr_ne c hi).symm
  unfold aPre midN OW prow rslot
  iintro ⟨#HE, ⟨%V, HO⟩, Hrow, ⟨%f, Hs⟩, Htok1, Htok2, Hat⟩ Hk
  ihave #H := (env_dma m K c hon₁.1 (show 20 + (pr c i).val < 84 by omega)) $$ HE
  icases H with ⟨#Hi1, #Hr1⟩
  ihave #H := (env_dma m K (pr c i) hon₂.1 (show 36 + c.val < 84 by omega)) $$ HE
  icases H with ⟨#Hi2, #Hr2⟩
  iapply (Rounds.wp_send_pointsTo 𝒱₀ ER (sched m) (c : Thread nD τ) none (c' := ((pr c i : Dev nD) : Thread nD τ)) (src := rowsB o' inb') (dst := slotR o inb)
      (sS := .dma (dsem (20 + (pr c i).val))) (sem := .dma (dsem (36 + c.val))) (q := fullShare)
      (fs := pbfF m c) (fd := f) (r₁ := 0) (r₂ := 0) (d₁ := (0 : Dev nD)) (d₂ := (0 : Dev nD))
      (κ₁ := K (c, ⟨20 + (pr c i).val - 3, by omega⟩)) (κ₂ := K (pr c i, ⟨36 + c.val - 3, by omega⟩))
      (by rw [duties_dma m c (by omega) hon₁]; exact Finset.mem_singleton_self _)
      (by rw [duties_dma m (pr c i) (by omega) hon₂]; exact Finset.mem_singleton_self _) () () NA rfl
      (amount_hi m c (by omega) (by omega) _) (amount_hi m (pr c i) (by omega) (by omega) _)
      (O₀ := O3 c b i l) (O3 c b (i + 1) l) (O3_stepA c hi) (W := V)
      (by rw [payload_dma m c (by omega), dmaPay_as m c (pr c i), rowsB_set ho' inb']; exact .rfl)
      (by
        rw [payload_dma m (pr c i) (by omega), dmaPay_ar m (pr c i) c, slotR_set hc16 ho inb]
        refine Entails.of_eq (pointsTo_congr fun i' hi' => land_a m c ho ho' inb inb' f i' ?_)
        rw [slotR_set hc16 ho inb]; exact hi')) $$ [Hrow Hs HO Htok1 Htok2]
  · isplitr; · iexact Hi1
    isplitr; · iexact Hi2
    rw [rowsB_set ho' inb', slotR_set hc16 ho inb]
    isplitl [Hrow]; · iexact Hrow
    isplitl [Hs]; · iexact Hs
    isplitl [HO]; · iexact HO
    isplitl [Htok1]; · iexact Htok1
    isplitr; · iexact Hr1
    isplitl [Htok2]; · iexact Htok2
    iexact Hr2
  iintro ⟨Hcr, HO⟩
  iapply Hk
  isplitl [HO]; · iexists V; iexact HO
  isplitl [Hat] <;> iassumption

/-- The second-exchange transfer to peer `i`, taking one share of the device's own slot. -/
theorem step_csend {i : ℕ} (hi : i < 15) {b l : ℕ} {p : Dev nD} (hp : p = pr c i) {o : Fin 3 → ℕ} (ho : o = ![c.val, 0, 0])
    {o' : Fin 3 → ℕ} (ho' : o' = ![c.val, 0, 0]) {inb inb'}
    {s₁ s₂ : DmaSem sig} (hs₁ : s₁ = dsem (52 + (pr c i).val)) (hs₂ : s₂ = dsem (68 + c.val))
    {hsc : (slotG o inb).view.ref.isScScratch = false} {h1 : (slotG o' inb').view.WordExact} {h2 : (slotG o inb).view.WordExact}
    {h3 : DmaTarget.Typed (nD := nD) (τ := τ) .vmem (.dma s₂) (.remote (Dev.tc p) (slotG o inb) (.dma s₁) hsc)} :
    iprop(Env m K ∗ OW c (O3 c b l i) ∗ gslot (Transfers.shareDrop fullShare i) c c.val (gathF m) ∗ cPre c i)
      ⊢ iprop(((OW c (O3 c b l (i + 1)) ∗ gslot (Transfers.shareDrop fullShare (i + 1)) c c.val (gathF m) ∗ midN c NA (52 + (pr c i).val)) -∗ W c (k ⟨⟩) Q)
        -∗ W c (.op (.enqueueDma (slotG o' inb') (.remote (Dev.tc p) (slotG o inb) (.dma s₁) hsc) (.dma s₂) h1 h2 h3) k) Q) := by
  subst hs₁ hs₂ hp
  have hc16 : c.val < 16 := c.isLt
  have hp16 : (pr c i).val < 16 := (pr c i).isLt
  have hon₁ : DmaOn c (52 + (pr c i).val) := dmaOn_hi c (.inr (.inr (.inl rfl))) (pr_ne c hi)
  have hon₂ : DmaOn (pr c i) (68 + c.val) := dmaOn_hi (pr c i) (.inr (.inr (.inr rfl))) (pr_ne c hi).symm
  unfold cPre midN OW gslot
  iintro ⟨#HE, ⟨%V, HO⟩, Hown, ⟨%f, Hs⟩, Htok1, Htok2, Hat⟩ Hk
  ihave #H := (env_dma m K c hon₁.1 (show 52 + (pr c i).val < 84 by omega)) $$ HE
  icases H with ⟨#Hi1, #Hr1⟩
  ihave #H := (env_dma m K (pr c i) hon₂.1 (show 68 + c.val < 84 by omega)) $$ HE
  icases H with ⟨#Hi2, #Hr2⟩
  ihave Hown := (pointsTo_share (PosShare.mem_left_op_right (Transfers.shareDrop fullShare i))).1 $$ Hown
  icases Hown with ⟨Hown, Hsrc⟩
  iapply (Rounds.wp_send_pointsTo 𝒱₀ ER (sched m) (c : Thread nD τ) none (c' := ((pr c i : Dev nD) : Thread nD τ)) (src := slotG o' inb') (dst := slotG o inb)
      (sS := .dma (dsem (52 + (pr c i).val))) (sem := .dma (dsem (68 + c.val))) (q := gtok i)
      (fs := gathF m) (fd := f) (r₁ := 0) (r₂ := 0) (d₁ := (0 : Dev nD)) (d₂ := (0 : Dev nD))
      (κ₁ := K (c, ⟨52 + (pr c i).val - 3, by omega⟩)) (κ₂ := K (pr c i, ⟨68 + c.val - 3, by omega⟩))
      (by rw [duties_dma m c (by omega) hon₁]; exact Finset.mem_singleton_self _)
      (by rw [duties_dma m (pr c i) (by omega) hon₂]; exact Finset.mem_singleton_self _) () () NA rfl
      (amount_hi m c (by omega) (by omega) _) (amount_hi m (pr c i) (by omega) (by omega) _)
      (O₀ := O3 c b l i) (O3 c b l (i + 1)) (O3_stepC c hi) (W := V)
      (by rw [payload_dma m c (by omega), dmaPay_cs m c hi, slotG_set hc16 ho' inb']; exact .rfl)
      (by
        subst ho ho'
        rw [payload_dma m (pr c i) (by omega), dmaPay_cr m (pr c i) c, slotG_set hc16 rfl inb]
        refine Entails.of_eq (pointsTo_congr fun i' hi' => land_c m c rfl inb inb' f i' ?_)
        rw [slotG_set hc16 rfl inb]; exact hi')) $$ [Hsrc Hs HO Htok1 Htok2]
  · isplitr; · iexact Hi1
    isplitr; · iexact Hi2
    rw [slotG_set hc16 ho' inb', slotG_set hc16 ho inb]
    isplitl [Hsrc]; · iexact Hsrc
    isplitl [Hs]; · iexact Hs
    isplitl [HO]; · iexact HO
    isplitl [Htok1]; · iexact Htok1
    isplitr; · iexact Hr1
    isplitl [Htok2]; · iexact Htok2
    iexact Hr2
  iintro ⟨Hcr, HO⟩
  iapply Hk
  isplitl [HO]; · iexists V; iexact HO
  isplitl [Hown]; · iexact Hown
  isplitl [Hat] <;> iassumption

end Steps

end Cert.KernelIdealProof

end
-- ==== Proof.KernelIdealMoves.lean ====
/-
The states the kernel moves through, and each operation as a move from one state to the next.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores the kernel names, at any spelling of the offset -/

theorem sem13o (p : Fin 8) {o : Fin 1 → ℕ} (ho : o = ![p.val]) (inb : ∀ a, o a + S1.size a ≤ S8.size a) :
    ((cc0_scratch7.slice (Rect.unit (s := S8) o S1.size inb)).squeeze S_ squeezes_S1_S_).sem = dsem (4 + p.val) := by
  subst ho; exact sem13 p
theorem sem14o (p : Fin 8) {o : Fin 1 → ℕ} (ho : o = ![p.val]) (inb : ∀ a, o a + S1.size a ≤ S8.size a) :
    ((cc0_scratch8.slice (Rect.unit (s := S8) o S1.size inb)).squeeze S_ squeezes_S1_S_).sem = dsem (12 + p.val) := by
  subst ho; exact sem14 p
theorem sem15o (p : Fin 16) {o : Fin 1 → ℕ} (ho : o = ![p.val]) (inb : ∀ a, o a + S1.size a ≤ S16.size a) :
    ((cc0_scratch9.slice (Rect.unit (s := S16) o S1.size inb)).squeeze S_ squeezes_S1_S_).sem = dsem (20 + p.val) := by
  subst ho; exact sem15 p
theorem sem16o (p : Fin 16) {o : Fin 1 → ℕ} (ho : o = ![p.val]) (inb : ∀ a, o a + S1.size a ≤ S16.size a) :
    ((cc0_scratch10.slice (Rect.unit (s := S16) o S1.size inb)).squeeze S_ squeezes_S1_S_).sem = dsem (36 + p.val) := by
  subst ho; exact sem16 p
theorem sem17o (p : Fin 16) {o : Fin 1 → ℕ} (ho : o = ![p.val]) (inb : ∀ a, o a + S1.size a ≤ S16.size a) :
    ((cc0_scratch11.slice (Rect.unit (s := S16) o S1.size inb)).squeeze S_ squeezes_S1_S_).sem = dsem (52 + p.val) := by
  subst ho; exact sem17 p
theorem sem18o (p : Fin 16) {o : Fin 1 → ℕ} (ho : o = ![p.val]) (inb : ∀ a, o a + S1.size a ≤ S16.size a) :
    ((cc0_scratch12.slice (Rect.unit (s := S16) o S1.size inb)).squeeze S_ squeezes_S1_S_).sem = dsem (68 + p.val) := by
  subst ho; exact sem18 p

/-! ## The states the kernel moves through -/

section States
variable (c : Dev nD)

/-- Before signal `i`. -/
def SG (i : ℕ) : sProp 𝕄 := iprop(OW c (O3 c i 0 0) ∗ St (sigPre c) (fun _ => iprop(emp)) i 15)
/-- Before the key (value) copy `h`, and before the wait for head `h`. -/
def KC (h : ℕ) : sProp 𝕄 := St (kPre m c) (fun h => midN c NK (4 + h)) h 8
def VC (h : ℕ) : sProp 𝕄 := St (vPre m c) (fun h => midN c NK (12 + h)) h 8
def KW (h : ℕ) : sProp 𝕄 := St (fun h => midN c NK (4 + h)) (fun h => postN m c (4 + h)) h 8
def VW (h : ℕ) : sProp 𝕄 := St (fun h => midN c NK (12 + h)) (fun h => postN m c (12 + h)) h 8
/-- Before the first exchange's transfer `i`, and before the wait for the `i`-th peer's. -/
def AS (i : ℕ) : sProp 𝕄 := iprop(OW c (O3 c 15 i 0) ∗ St (aPre m c) (fun i => midN c NA (20 + (pr c i).val)) i 15)
def AR (i : ℕ) : sProp 𝕄 := iprop(OW c (O3 c 15 15 0) ∗ St (fun i => midN c NA (36 + (pr c i).val)) (fun i => postN m c (36 + (pr c i).val)) i 15)
/-- Before the second exchange's transfer `i`, and before the wait for the `i`-th peer's. -/
def CS (i : ℕ) : sProp 𝕄 := iprop(OW c (O3 c 15 15 i) ∗ gslot (Transfers.shareDrop fullShare i) c c.val (gathF m)
  ∗ St (cPre c) (fun i => midN c NA (52 + (pr c i).val)) i 15)
def CR (i : ℕ) : sProp 𝕄 := iprop(OW c (O3 c 15 15 15) ∗ St (fun i => midN c NA (68 + (pr c i).val)) (fun i => postN m c (68 + (pr c i).val)) i 15)
/-- Before the wait for the device's own transfer `i` of either exchange. -/
def AW (i : ℕ) : sProp 𝕄 := iprop(OW c (O3 c 15 15 15) ∗ St (fun i => midN c NA (20 + (pr c i).val)) (fun i => postN m c (20 + (pr c i).val)) i 15)
def CW (i : ℕ) : sProp 𝕄 := iprop(OW c (O3 c 15 15 15) ∗ St (fun i => midN c NA (52 + (pr c i).val)) (fun i => postN m c (52 + (pr c i).val)) i 15)
/-- The attention buffer after `h` heads. -/
def AT (h : ℕ) : sProp 𝕄 := iprop(∃ f : S256x1024.Idx → Elt F .bf16, ((c : Thread nD τ).loc cc0_scratch2 ↦{fullShare} f) ∗ ⌜AttnUpTo m c h f⌝)
end States

/-! ## The moves -/

section Moves
variable (K : Dev nD × Fin 81 → ℕ) (c : Dev nD) {α : Type} {Q : α → sProp (MT nD τ sig Unit (Elt F) ℕ UU ℕ)} {k : PUnit → Prog (TpuEff nD τ sig (Elt F) Λ₀ .tc) α}

theorem mv_signal {i : ℕ} (hi : i < 15) {p : Dev nD} (hp : p = pr c i) {z : ℤ} (hz : z = ((1 : ℕ) : ℤ)) :
    iprop(Env m K ∗ SG c i) ⊢ iprop((SG c (i + 1) -∗ W c (k ⟨⟩) Q) -∗ W c (.op (.semSignal (p, .tc) barS z) k) Q) := by
  unfold SG
  iintro ⟨#HE, HO, HS⟩ Hk
  ihave H := (St_take _ _ hi) $$ HS
  icases H with ⟨Hi, HS⟩
  iapply (step_signal m K c hi hp hz) $$ [HO Hi]
  · isplitr; · iexact HE
    isplitl [HO] <;> iassumption
  iintro HO
  iapply Hk
  isplitl [HO]; · iexact HO
  iapply HS; beta_reduce; iempintro

theorem mv_copyK (h : Fin 8) {o : Fin 3 → ℕ} (ho : o = ![h.val, 0, 0]) {o' : Fin 4 → ℕ} (ho' : o' = ![0, 0, 8 * c.val + h.val, 0]) {inb inb'}
    {sem : DmaSem sig} (hs : sem = dsem (4 + h.val))
    {h1 : (headK o' inb').view.WordExact} {h2 : (slabK o inb).view.WordExact} {h3 : DmaTarget.Typed (nD := nD) (τ := τ) .hbm (.dma sem) (.here (p := (Proc.tc : Proc τ)) (slabK o inb))} :
    iprop(Env m K ∗ KC m c h.val)
      ⊢ iprop((KC m c (h.val + 1) -∗ W c (k ⟨⟩) Q)
        -∗ W c (.op (.enqueueDma (headK o' inb') (.here (slabK o inb)) (.dma sem) h1 h2 h3) k) Q) := by
  unfold KC
  iintro ⟨#HE, HS⟩ Hk
  ihave H := (St_take _ _ h.isLt) $$ HS
  icases H with ⟨Hi, HS⟩
  iapply (step_copyK m K c h ho ho' hs) $$ [Hi]
  · isplitr; · iexact HE
    iexact Hi
  iintro Hi
  iapply Hk
  iapply HS; iexact Hi

theorem mv_waitK (h : Fin 8) {o : Fin 3 → ℕ} {inb} {sem : DmaSem sig} (hs : sem = dsem (4 + h.val))
    {s' : Shape} {e' : EltTy} {sp' : Space} {src : Memref sig .tc sp' s' e'}
    {h1 : src.view.WordExact} {h2 : (slabK o inb).view.WordExact} :
    iprop(Env m K ∗ OW c (O3 c 15 0 0) ∗ KW m c h.val)
      ⊢ iprop(((OW c (O3 c 15 0 0) ∗ KW m c (h.val + 1)) -∗ W c (k ⟨⟩) Q) -∗ W c (.op (.waitDma2 sem src (slabK o inb) h1 h2) k) Q) := by
  have hh := h.isLt
  unfold KW
  iintro ⟨#HE, HO, HS⟩ Hk
  ihave H := (St_take _ _ h.isLt) $$ HS
  icases H with ⟨Hi, HS⟩
  iapply (step_wait m K c (show 4 + h.val < 84 by omega) (dmaOn_lo c (by omega) (by omega)) (expect_lo m c (by omega) (by omega))
      (.inl (by rw [semLv_lo (by omega)]; decide)) (.inl (by rw [semLv_lo (by omega)]; decide)) (.inl (by rw [semLv_lo (by omega)]; decide)) hs (N := NK) rfl) $$ [HO Hi]
  · isplitr; · iexact HE
    isplitl [HO] <;> iassumption
  iintro ⟨HO, Hi⟩
  iapply Hk
  isplitl [HO]; · iexact HO
  iapply HS; iexact Hi

/-- A load of head `h` from its slab. -/
theorem mv_loadK (h : Fin 8) {i : ℕ} (hi : h.val < i) {o : Fin 3 → ℕ} (ho : o = ![h.val, 0, 0]) {inb} {hl} {k : (S1x4096x128.Idx → Elt F .f32) → Prog (TpuEff nD τ sig (Elt F) Λ₀ .tc) α} :
    KW m c i ⊢ iprop((KW m c i -∗ W c (k (kblk m c h)) Q)
      -∗ W c (.op (.load kM (Rect.unit (s := S8x4096x128) o S1x4096x128.size inb).toLoadRect hl) k) Q) := by
  unfold KW
  iintro HS Hk
  ihave H := (St_lend _ _ hi) $$ HS
  icases H with ⟨Hi, HS⟩
  unfold postN
  rw [dmaPay_k m c h.val h.isLt]
  unfold kslab
  icases Hi with ⟨⟨Hs, Hh⟩, Hv⟩
  iapply (wp_load_rect 𝒱₀ (c : Thread nD τ) none Set.univ (m := kM) (r := Rect.unit (s := S8x4096x128) o S1x4096x128.size inb) (S := slabSet h.val) (q := fullShare) (f := kF m c)
    ((View.set_slice_whole _ _).trans (slab_rect ho inb)).subset) $$ [Hs]
  · iexact Hs
  iintro Hs
  rw [show ((kM.access (Rect.unit (s := S8x4096x128) o S1x4096x128.size inb)).read (Elt F) (kF m c)) = kblk m c h from read_k m c ho inb]
  iapply Hk
  iapply HS
  isplitr [Hv]; · isplitl [Hs] <;> iassumption
  iexact Hv

theorem mv_copyV (h : Fin 8) {o : Fin 3 → ℕ} (ho : o = ![h.val, 0, 0]) {o' : Fin 4 → ℕ} (ho' : o' = ![0, 0, 8 * c.val + h.val, 0]) {inb inb'}
    {sem : DmaSem sig} (hs : sem = dsem (12 + h.val))
    {h1 : (headV o' inb').view.WordExact} {h2 : (slabV o inb).view.WordExact} {h3 : DmaTarget.Typed (nD := nD) (τ := τ) .hbm (.dma sem) (.here (p := (Proc.tc : Proc τ)) (slabV o inb))} :
    iprop(Env m K ∗ VC m c h.val)
      ⊢ iprop((VC m c (h.val + 1) -∗ W c (k ⟨⟩) Q)
        -∗ W c (.op (.enqueueDma (headV o' inb') (.here (slabV o inb)) (.dma sem) h1 h2 h3) k) Q) := by
  unfold VC
  iintro ⟨#HE, HS⟩ Hk
  ihave H := (St_take _ _ h.isLt) $$ HS
  icases H with ⟨Hi, HS⟩
  iapply (step_copyV m K c h ho ho' hs) $$ [Hi]
  · isplitr; · iexact HE
    iexact Hi
  iintro Hi
  iapply Hk
  iapply HS; iexact Hi

theorem mv_waitV (h : Fin 8) {o : Fin 3 → ℕ} {inb} {sem : DmaSem sig} (hs : sem = dsem (12 + h.val))
    {s' : Shape} {e' : EltTy} {sp' : Space} {src : Memref sig .tc sp' s' e'}
    {h1 : src.view.WordExact} {h2 : (slabV o inb).view.WordExact} :
    iprop(Env m K ∗ OW c (O3 c 15 0 0) ∗ VW m c h.val)
      ⊢ iprop(((OW c (O3 c 15 0 0) ∗ VW m c (h.val + 1)) -∗ W c (k ⟨⟩) Q) -∗ W c (.op (.waitDma2 sem src (slabV o inb) h1 h2) k) Q) := by
  have hh := h.isLt
  unfold VW
  iintro ⟨#HE, HO, HS⟩ Hk
  ihave H := (St_take _ _ h.isLt) $$ HS
  icases H with ⟨Hi, HS⟩
  iapply (step_wait m K c (show 12 + h.val < 84 by omega) (dmaOn_lo c (by omega) (by omega)) (expect_lo m c (by omega) (by omega))
      (.inl (by rw [semLv_lo (by omega)]; decide)) (.inl (by rw [semLv_lo (by omega)]; decide)) (.inl (by rw [semLv_lo (by omega)]; decide)) hs (N := NK) rfl) $$ [HO Hi]
  · isplitr; · iexact HE
    isplitl [HO] <;> iassumption
  iintro ⟨HO, Hi⟩
  iapply Hk
  isplitl [HO]; · iexact HO
  iapply HS; iexact Hi

/-- A load of head `h` from its slab. -/
theorem mv_loadV (h : Fin 8) {i : ℕ} (hi : h.val < i) {o : Fin 3 → ℕ} (ho : o = ![h.val, 0, 0]) {inb} {hl} {k : (S1x4096x128.Idx → Elt F .f32) → Prog (TpuEff nD τ sig (Elt F) Λ₀ .tc) α} :
    VW m c i ⊢ iprop((VW m c i -∗ W c (k (vblk m c h)) Q)
      -∗ W c (.op (.load vM (Rect.unit (s := S8x4096x128) o S1x4096x128.size inb).toLoadRect hl) k) Q) := by
  unfold VW
  iintro HS Hk
  ihave H := (St_lend _ _ hi) $$ HS
  icases H with ⟨Hi, HS⟩
  unfold postN
  rw [dmaPay_v m c h.val h.isLt]
  unfold vslab
  icases Hi with ⟨⟨Hs, Hh⟩, Hv⟩
  iapply (wp_load_rect 𝒱₀ (c : Thread nD τ) none Set.univ (m := vM) (r := Rect.unit (s := S8x4096x128) o S1x4096x128.size inb) (S := slabSet h.val) (q := fullShare) (f := vF m c)
    ((View.set_slice_whole _ _).trans (slab_rect ho inb)).subset) $$ [Hs]
  · iexact Hs
  iintro Hs
  rw [show ((vM.access (Rect.unit (s := S8x4096x128) o S1x4096x128.size inb)).read (Elt F) (vF m c)) = vblk m c h from read_v m c ho inb]
  iapply Hk
  iapply HS
  isplitr [Hv]; · isplitl [Hs] <;> iassumption
  iexact Hv

/-- The wait for the first exchange's transfer from peer `i`. -/
theorem mv_arecv {i : ℕ} (hi : i < 15) {sem : DmaSem sig} (hs : sem = dsem (36 + (pr c i).val)) {o : Fin 3 → ℕ} {inb}
    {s' : Shape} {e' : EltTy} {sp' : Space} {src : Memref sig .tc sp' s' e'}
    {h1 : src.view.WordExact} {h2 : (slotR o inb).view.WordExact} :
    iprop(Env m K ∗ AR m c i) ⊢ iprop((AR m c (i + 1) -∗ W c (k ⟨⟩) Q) -∗ W c (.op (.waitDma2 sem src (slotR o inb) h1 h2) k) Q) := by
  have hp16 : (pr c i).val < 16 := (pr c i).isLt
  have hon : DmaOn c (36 + (pr c i).val) := dmaOn_hi c (by decide) (pr_ne c hi)
  unfold AR
  iintro ⟨#HE, HO, HS⟩ Hk
  ihave H := (St_take _ _ hi) $$ HS
  icases H with ⟨Hi, HS⟩
  iapply (step_wait m K c (show 36 + (pr c i).val < 84 by omega) hon (expect_hi m c (by omega) (by omega) hon)
      (.inr rfl) (.inr rfl) (.inl (by rw [semLv_ar (by omega) (by omega)]; decide)) hs (N := NA) rfl) $$ [HO Hi]
  · isplitr; · iexact HE
    isplitl [HO] <;> iassumption
  iintro ⟨HO, Hi⟩
  iapply Hk
  isplitl [HO]; · iexact HO
  iapply HS; iexact Hi

/-- The wait for the second exchange's transfer from peer `i`. -/
theorem mv_crecv {i : ℕ} (hi : i < 15) {sem : DmaSem sig} (hs : sem = dsem (68 + (pr c i).val)) {o : Fin 3 → ℕ} {inb}
    {s' : Shape} {e' : EltTy} {sp' : Space} {src : Memref sig .tc sp' s' e'}
    {h1 : src.view.WordExact} {h2 : (slotG o inb).view.WordExact} :
    iprop(Env m K ∗ CR m c i) ⊢ iprop((CR m c (i + 1) -∗ W c (k ⟨⟩) Q) -∗ W c (.op (.waitDma2 sem src (slotG o inb) h1 h2) k) Q) := by
  have hp16 : (pr c i).val < 16 := (pr c i).isLt
  have hon : DmaOn c (68 + (pr c i).val) := dmaOn_hi c (by decide) (pr_ne c hi)
  unfold CR
  iintro ⟨#HE, HO, HS⟩ Hk
  ihave H := (St_take _ _ hi) $$ HS
  icases H with ⟨Hi, HS⟩
  iapply (step_wait m K c (show 68 + (pr c i).val < 84 by omega) hon (expect_hi m c (by omega) (by omega) hon)
      (.inr rfl) (.inr rfl) (.inr rfl) hs (N := NA) rfl) $$ [HO Hi]
  · isplitr; · iexact HE
    isplitl [HO] <;> iassumption
  iintro ⟨HO, Hi⟩
  iapply Hk
  isplitl [HO]; · iexact HO
  iapply HS; iexact Hi

/-- The wait for the device's own first-exchange transfer `i`. -/
theorem mv_asendw {i : ℕ} (hi : i < 15) {sem : DmaSem sig} (hs : sem = dsem (20 + (pr c i).val)) {o : Fin 2 → ℕ} {inb}
    {s' : Shape} {e' : EltTy} {sp' : Space} {src : Memref sig .tc sp' s' e'}
    {h1 : src.view.WordExact} {h2 : (rowsB o inb).view.WordExact} :
    iprop(Env m K ∗ AW m c i) ⊢ iprop((AW m c (i + 1) -∗ W c (k ⟨⟩) Q) -∗ W c (.op (.waitDma2 sem src (rowsB o inb) h1 h2) k) Q) := by
  have hp16 : (pr c i).val < 16 := (pr c i).isLt
  have hon : DmaOn c (20 + (pr c i).val) := dmaOn_hi c (by decide) (pr_ne c hi)
  unfold AW
  iintro ⟨#HE, HO, HS⟩ Hk
  ihave H := (St_take _ _ hi) $$ HS
  icases H with ⟨Hi, HS⟩
  iapply (step_wait m K c (show 20 + (pr c i).val < 84 by omega) hon (expect_hi m c (by omega) (by omega) hon)
      (.inr rfl) (.inr rfl) (.inr rfl) hs (N := NA) rfl) $$ [HO Hi]
  · isplitr; · iexact HE
    isplitl [HO] <;> iassumption
  iintro ⟨HO, Hi⟩
  iapply Hk
  isplitl [HO]; · iexact HO
  iapply HS; iexact Hi

/-- The wait for the device's own second-exchange transfer `i`. -/
theorem mv_csendw {i : ℕ} (hi : i < 15) {sem : DmaSem sig} (hs : sem = dsem (52 + (pr c i).val)) {o : Fin 3 → ℕ} {inb}
    {s' : Shape} {e' : EltTy} {sp' : Space} {src : Memref sig .tc sp' s' e'}
    {h1 : src.view.WordExact} {h2 : (slotG o inb).view.WordExact} :
    iprop(Env m K ∗ CW m c i) ⊢ iprop((CW m c (i + 1) -∗ W c (k ⟨⟩) Q) -∗ W c (.op (.waitDma2 sem src (slotG o inb) h1 h2) k) Q) := by
  have hp16 : (pr c i).val < 16 := (pr c i).isLt
  have hon : DmaOn c (52 + (pr c i).val) := dmaOn_hi c (by decide) (pr_ne c hi)
  unfold CW
  iintro ⟨#HE, HO, HS⟩ Hk
  ihave H := (St_take _ _ hi) $$ HS
  icases H with ⟨Hi, HS⟩
  iapply (step_wait m K c (show 52 + (pr c i).val < 84 by omega) hon (expect_hi m c (by omega) (by omega) hon)
      (.inr rfl) (.inr rfl) (.inr rfl) hs (N := NA) rfl) $$ [HO Hi]
  · isplitr; · iexact HE
    isplitl [HO] <;> iassumption
  iintro ⟨HO, Hi⟩
  iapply Hk
  isplitl [HO]; · iexact HO
  iapply HS; iexact Hi

/-- The first exchange's transfer to peer `i`. -/
theorem mv_asend {i : ℕ} (hi : i < 15) {p : Dev nD} (hp : p = pr c i) {o : Fin 3 → ℕ} (ho : o = ![c.val, 0, 0])
    {o' : Fin 2 → ℕ} (ho' : o' = ![16 * (pr c i).val, 0]) {inb inb'}
    {s₁ s₂ : DmaSem sig} (hs₁ : s₁ = dsem (20 + (pr c i).val)) (hs₂ : s₂ = dsem (36 + c.val))
    {hsc : (slotR o inb).view.ref.isScScratch = false} {h1 : (rowsB o' inb').view.WordExact} {h2 : (slotR o inb).view.WordExact}
    {h3 : DmaTarget.Typed (nD := nD) (τ := τ) .vmem (.dma s₂) (.remote (Dev.tc p) (slotR o inb) (.dma s₁) hsc)} :
    iprop(Env m K ∗ AS m c i) ⊢ iprop((AS m c (i + 1) -∗ W c (k ⟨⟩) Q)
        -∗ W c (.op (.enqueueDma (rowsB o' inb') (.remote (Dev.tc p) (slotR o inb) (.dma s₁) hsc) (.dma s₂) h1 h2 h3) k) Q) := by
  unfold AS
  iintro ⟨#HE, HO, HS⟩ Hk
  ihave H := (St_take _ _ hi) $$ HS
  icases H with ⟨Hi, HS⟩
  iapply (step_asend m K c hi hp ho ho' hs₁ hs₂) $$ [HO Hi]
  · isplitr; · iexact HE
    isplitl [HO] <;> iassumption
  iintro ⟨HO, Hi⟩
  iapply Hk
  isplitl [HO]; · iexact HO
  iapply HS; iexact Hi

/-- The second exchange's transfer to peer `i`. -/
theorem mv_csend {i : ℕ} (hi : i < 15) {p : Dev nD} (hp : p = pr c i) {o : Fin 3 → ℕ} (ho : o = ![c.val, 0, 0])
    {o' : Fin 3 → ℕ} (ho' : o' = ![c.val, 0, 0]) {inb inb'}
    {s₁ s₂ : DmaSem sig} (hs₁ : s₁ = dsem (52 + (pr c i).val)) (hs₂ : s₂ = dsem (68 + c.val))
    {hsc : (slotG o inb).view.ref.isScScratch = false} {h1 : (slotG o' inb').view.WordExact} {h2 : (slotG o inb).view.WordExact}
    {h3 : DmaTarget.Typed (nD := nD) (τ := τ) .vmem (.dma s₂) (.remote (Dev.tc p) (slotG o inb) (.dma s₁) hsc)} :
    iprop(Env m K ∗ CS m c i) ⊢ iprop((CS m c (i + 1) -∗ W c (k ⟨⟩) Q)
        -∗ W c (.op (.enqueueDma (slotG o' inb') (.remote (Dev.tc p) (slotG o inb) (.dma s₁) hsc) (.dma s₂) h1 h2 h3) k) Q) := by
  unfold CS
  iintro ⟨#HE, HO, Hg, HS⟩ Hk
  ihave H := (St_take _ _ hi) $$ HS
  icases H with ⟨Hi, HS⟩
  iapply (step_csend m K c hi hp ho ho' hs₁ hs₂) $$ [HO Hg Hi]
  · isplitr; · iexact HE
    isplitl [HO]; · iexact HO
    isplitl [Hg] <;> iassumption
  iintro ⟨HO, Hg, Hi⟩
  iapply Hk
  isplitl [HO]; · iexact HO
  isplitl [Hg]; · iexact Hg
  iapply HS; iexact Hi

/-- A load of the rows received from peer `d`. -/
theorem mv_loadR {d i : ℕ} (hd : d < i) {o : Fin 3 → ℕ} (ho : o = ![(pr c d).val, 0, 0]) {inb} {hl} {k : (S1x16x1024.Idx → Elt F .bf16) → Prog (TpuEff nD τ sig (Elt F) Λ₀ .tc) α} :
    AR m c i ⊢ iprop((AR m c i -∗ W c (k (rv m c d)) Q)
      -∗ W c (.op (.load rM (Rect.unit (s := S16x16x1024) o S1x16x1024.size inb).toLoadRect hl) k) Q) := by
  have hp16 : (pr c d).val < 16 := (pr c d).isLt
  unfold AR
  iintro ⟨HO, HS⟩ Hk
  ihave H := (St_lend _ _ hd) $$ HS
  icases H with ⟨Hi, HS⟩
  unfold postN
  rw [dmaPay_ar m c (pr c d)]
  unfold rslot
  icases Hi with ⟨Hs, Hv⟩
  iapply (wp_load_rect 𝒱₀ (c : Thread nD τ) none Set.univ (m := rM) (r := Rect.unit (s := S16x16x1024) o S1x16x1024.size inb) (S := slotSet (pr c d).val) (q := fullShare) (f := recvF m c)
    ((View.set_slice_whole _ _).trans (slot_rect hp16 ho inb)).subset) $$ [Hs]
  · iexact Hs
  iintro Hs
  rw [show ((rM.access (Rect.unit (s := S16x16x1024) o S1x16x1024.size inb)).read (Elt F) (recvF m c)) = rv m c d from read_r m c ho inb]
  iapply Hk
  isplitl [HO]; · iexact HO
  iapply HS
  isplitl [Hs] <;> iassumption

/-- The load of the attention buffer's old columns, which nothing uses. -/
theorem mv_attnLoad {h : ℕ} {o : Fin 2 → ℕ} {inb : ∀ a, o a + S256x128.size a ≤ S256x1024.size a} {hl}
    {k : (S256x128.Idx → Elt F .bf16) → Prog (TpuEff nD τ sig (Elt F) Λ₀ .tc) α} :
    AT m c h ⊢ iprop((∀ v, AT m c h -∗ W c (k v) Q)
      -∗ W c (.op (.load aM (Rect.unit (s := S256x1024) o S256x128.size inb).toLoadRect hl) k) Q) := by
  unfold AT
  iintro ⟨%f, Hf, %hf⟩ Hk
  iapply (wp_load 𝒱₀ (c : Thread nD τ) none Set.univ (m := aM) (S := Finset.univ) (q := fullShare) (f := f) (Finset.subset_univ _)) $$ [Hf]
  · iexact Hf
  iintro Hf
  iapply Hk
  iexists f
  isplitl [Hf]; · iexact Hf
  ipureintro; exact hf

/-- The store of head `h`'s columns. -/
theorem mv_attnStore (h : Fin 8) {w : S256x128.Idx → Elt F .bf16} (hw : w = headPay m c h) {o : Fin 2 → ℕ} (ho : o = ![0, 128 * h.val]) {inb} {hx hm} :
    AT m c h.val ⊢ iprop((AT m c (h.val + 1) -∗ W c (k ⟨⟩) Q)
      -∗ W c (.op (.store aM (Rect.unit (s := S256x1024) o S256x128.size inb) w Finset.univ hx hm) k) Q) := by
  subst hw
  unfold AT
  iintro ⟨%f, Hf, %hf⟩ Hk
  iapply (wp_store 𝒱₀ (c : Thread nD τ) none Set.univ (m := aM) (r := Rect.unit (s := S256x1024) o S256x128.size inb) (w := headPay m c h) (Mk := Finset.univ) (S := Finset.univ) (f := f) (Finset.subset_univ _)) $$ [Hf]
  · iexact Hf
  iintro Hf
  iapply Hk
  iexists _
  isplitl [Hf]; · iexact Hf
  ipureintro; exact attn_store m c hf ho inb

end Moves

end Cert.KernelIdealProof

end
-- ==== Proof.KernelIdealBuffers.lean ====
/-
The buffers the kernel holds whole, their loads and stores, and the turns from one family of semaphores to the next.
-/
module

public import proofs.«01_k».proof.Proof.KernelIdealMoves

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's buffers and semaphores, under short names -/

abbrev xM : Memref sig .tc .vmem S1x256x1024 .f32 := Memref.whole cc0_stg0_0
abbrev qM : Memref sig .tc .vmem S1024x1024 .f32 := Memref.whole cc0_stg1_0
abbrev oM : Memref sig .tc .vmem S1024x1024 .f32 := Memref.whole cc0_stg2_0
abbrev yM : Memref sig .tc .vmem S256x1024 .f32 := Memref.whole cc0_stg3_0
abbrev sK : DmaSems sig S8 := cc0_scratch7
abbrev sV : DmaSems sig S8 := cc0_scratch8
abbrev sA : DmaSems sig S16 := cc0_scratch9
abbrev rA : DmaSems sig S16 := cc0_scratch10
abbrev sC : DmaSems sig S16 := cc0_scratch11
abbrev rC : DmaSems sig S16 := cc0_scratch12
theorem xW : xM.IsWhole := Memref.isWhole_whole _
theorem qW : qM.IsWhole := Memref.isWhole_whole _
theorem oW : oM.IsWhole := Memref.isWhole_whole _
theorem yW : yM.IsWhole := Memref.isWhole_whole _
theorem kAW : kA.IsWhole := Memref.isWhole_whole _
theorem vAW : vA.IsWhole := Memref.isWhole_whole _
theorem kW : kM.IsWhole := Memref.isWhole_whole _
theorem vW : vM.IsWhole := Memref.isWhole_whole _
theorem aW : aM.IsWhole := Memref.isWhole_whole _
theorem pW : pM.IsWhole := Memref.isWhole_whole _
theorem bW : bM.IsWhole := Memref.isWhole_whole _
theorem rW : rM.IsWhole := Memref.isWhole_whole _
theorem gW : gM.IsWhole := Memref.isWhole_whole _

/-! ## The buffers held whole -/

section Bufs
variable (c : Dev nD)
def BX : sProp 𝕄 := (c : Thread nD τ).loc cc0_stg0_0 ↦{fullShare} xstg m c
def BWq : sProp 𝕄 := (c : Thread nD τ).loc cc0_stg1_0 ↦{fullShare} wqstg m c
def BWo : sProp 𝕄 := (c : Thread nD τ).loc cc0_stg2_0 ↦{fullShare} wostg m c
/-- The attention buffer, complete. -/
def BA : sProp 𝕄 := (c : Thread nD τ).loc cc0_scratch2 ↦{fullShare} attnF m c
/-- The partial result's buffer before and after its store. -/
def BP0 : sProp 𝕄 := iprop(∃ f : S256x1024.Idx → Elt F .f32, (c : Thread nD τ).loc cc0_scratch3 ↦{fullShare} f)
def BP : sProp 𝕄 := (c : Thread nD τ).loc cc0_scratch3 ↦{fullShare} partF m c
def BB0 : sProp 𝕄 := iprop(∃ f : S256x1024.Idx → Elt F .bf16, (c : Thread nD τ).loc cc0_scratch4 ↦{fullShare} f)
def BB : sProp 𝕄 := (c : Thread nD τ).loc cc0_scratch4 ↦{fullShare} pbfF m c
/-- The device's own slot of the second landing buffer before its store. -/
def BG0 : sProp 𝕄 := iprop(∃ f, gslot fullShare c c.val f)
/-- The result's buffer before its stores, between them, and after. -/
def BO0 : sProp 𝕄 := iprop(∃ f : S256x1024.Idx → Elt F .f32, (c : Thread nD τ).loc cc0_stg3_0 ↦{fullShare} f)
def BO1 : sProp 𝕄 := (c : Thread nD τ).loc cc0_stg3_0 ↦{fullShare} (k0_pay22 (gathF m) : S256x1024.Idx → Elt F .f32)
def BO : sProp 𝕄 := (c : Thread nD τ).loc cc0_stg3_0 ↦{fullShare} outF m c
/-- The barrier's wait: its position and its credit. -/
def BAR0 : sProp 𝕄 := iprop(atPos ER (bcell c) 0 ∅ 0 ∗ cred (tallyAt (bcell c) () 15))
/-- What the barrier's wait gives: the peers' slots. -/
def BAR1 : sProp 𝕄 := iprop(semVal (bcell c) 0 ∗ bigSep (Finset.range 15) fun i => barPay (pr c i) c)
/-- A first-exchange transfer's needs but for the rows. -/
def aRest (i : ℕ) : sProp 𝕄 :=
  iprop((∃ f, rslot (pr c i) c.val f) ∗ dutyTok ER (dcell c (20 + (pr c i).val)) 0 (0 : Dev nD)
    ∗ dutyTok ER (dcell (pr c i) (36 + c.val)) 0 (0 : Dev nD) ∗ atPos ER (dcell c (20 + (pr c i).val)) 0 ∅ 0)
end Bufs

theorem hz2 : (![0, 0] : Fin 2 → Nat) = fun _ => 0 := by funext i; match i with | 0 => rfl | 1 => rfl
theorem hz3 : (![0, 0, 0] : Fin 3 → Nat) = fun _ => 0 := by funext i; match i with | 0 => rfl | 1 => rfl | 2 => rfl

/-! ## Loads and stores of them -/

section Moves
variable (K : Dev nD × Fin 81 → ℕ) (c : Dev nD) {α : Type} {Q : α → sProp (MT nD τ sig Unit (Elt F) ℕ UU ℕ)} {k : PUnit → Prog (TpuEff nD τ sig (Elt F) Λ₀ .tc) α}

theorem mv_dev {k : Dev nD → Prog (TpuEff nD τ sig (Elt F) Λ₀ .tc) α} : W c (.op .deviceId k) Q = W c (k c) Q := by
  unfold W; rw [wp_deviceId]

theorem mv_bar {z : ℤ} (hz : z = ((15 : ℕ) : ℤ)) :
    iprop(Env m K ∗ SG c 15 ∗ BAR0 c) ⊢ iprop(((OW c (O3 c 15 0 0) ∗ BAR1 c) -∗ W c (k ⟨⟩) Q) -∗ W c (.op (.semWait barS z) k) Q) := by
  unfold SG BAR0 BAR1
  iintro ⟨#HE, ⟨HO, -⟩, Ha, Hc⟩ Hk
  iapply (step_bar m K c hz) $$ [HO Ha Hc]
  · isplitr; · iexact HE
    isplitl [HO]; · iexact HO
    isplitl [Ha] <;> iassumption
  iintro ⟨HO, Hv, Hp⟩
  iapply Hk
  isplitl [HO]; · iexact HO
  isplitl [Hv] <;> iassumption

/-- The load of the activations. -/
theorem mv_loadX {inb} {hl} {k : (S1x256x1024.Idx → Elt F .f32) → Prog (TpuEff nD τ sig (Elt F) Λ₀ .tc) α} :
    BX m c ⊢ iprop((BX m c -∗ W c (k (xstg m c)) Q)
      -∗ W c (.op (.load (Memref.whole cc0_stg0_0 : Memref sig .tc .vmem S1x256x1024 .f32) (Rect.unit (s := S1x256x1024) ![0, 0, 0] S1x256x1024.size inb).toLoadRect hl) k) Q) := by
  unfold BX
  iintro Hf Hk
  iapply (wp_load 𝒱₀ (c : Thread nD τ) none Set.univ (m := (Memref.whole cc0_stg0_0 : Memref sig .tc .vmem S1x256x1024 .f32)) (Finset.subset_univ _)) $$ [Hf]
  · iexact Hf
  rw [show (Memref.whole cc0_stg0_0 : Memref sig .tc .vmem S1x256x1024 .f32).view.readAt (Elt F) (Rect.unit (s := S1x256x1024) ![0, 0, 0] S1x256x1024.size inb).toLoadRect (xstg m c) = xstg m c from Memref.readAt_unit_zero (Elt F) cc0_stg0_0 hz3 inb (xstg m c)]
  iexact Hk

/-- The load of the query weights. -/
theorem mv_loadWq {inb} {hl} {k : (S1024x1024.Idx → Elt F .f32) → Prog (TpuEff nD τ sig (Elt F) Λ₀ .tc) α} :
    BWq m c ⊢ iprop((BWq m c -∗ W c (k (wqstg m c)) Q)
      -∗ W c (.op (.load (Memref.whole cc0_stg1_0 : Memref sig .tc .vmem S1024x1024 .f32) (Rect.unit (s := S1024x1024) ![0, 0] S1024x1024.size inb).toLoadRect hl) k) Q) := by
  unfold BWq
  iintro Hf Hk
  iapply (wp_load 𝒱₀ (c : Thread nD τ) none Set.univ (m := (Memref.whole cc0_stg1_0 : Memref sig .tc .vmem S1024x1024 .f32)) (Finset.subset_univ _)) $$ [Hf]
  · iexact Hf
  rw [show (Memref.whole cc0_stg1_0 : Memref sig .tc .vmem S1024x1024 .f32).view.readAt (Elt F) (Rect.unit (s := S1024x1024) ![0, 0] S1024x1024.size inb).toLoadRect (wqstg m c) = wqstg m c from Memref.readAt_unit_zero (Elt F) cc0_stg1_0 hz2 inb (wqstg m c)]
  iexact Hk

/-- The load of the output weights. -/
theorem mv_loadWo {inb} {hl} {k : (S1024x1024.Idx → Elt F .f32) → Prog (TpuEff nD τ sig (Elt F) Λ₀ .tc) α} :
    BWo m c ⊢ iprop((BWo m c -∗ W c (k (wostg m c)) Q)
      -∗ W c (.op (.load (Memref.whole cc0_stg2_0 : Memref sig .tc .vmem S1024x1024 .f32) (Rect.unit (s := S1024x1024) ![0, 0] S1024x1024.size inb).toLoadRect hl) k) Q) := by
  unfold BWo
  iintro Hf Hk
  iapply (wp_load 𝒱₀ (c : Thread nD τ) none Set.univ (m := (Memref.whole cc0_stg2_0 : Memref sig .tc .vmem S1024x1024 .f32)) (Finset.subset_univ _)) $$ [Hf]
  · iexact Hf
  rw [show (Memref.whole cc0_stg2_0 : Memref sig .tc .vmem S1024x1024 .f32).view.readAt (Elt F) (Rect.unit (s := S1024x1024) ![0, 0] S1024x1024.size inb).toLoadRect (wostg m c) = wostg m c from Memref.readAt_unit_zero (Elt F) cc0_stg2_0 hz2 inb (wostg m c)]
  iexact Hk

/-- The load of the attention. -/
theorem mv_loadA {inb} {hl} {k : (S256x1024.Idx → Elt F .bf16) → Prog (TpuEff nD τ sig (Elt F) Λ₀ .tc) α} :
    BA m c ⊢ iprop((BA m c -∗ W c (k (attnF m c)) Q)
      -∗ W c (.op (.load (Memref.whole cc0_scratch2 : Memref sig .tc .vmem S256x1024 .bf16) (Rect.unit (s := S256x1024) ![0, 0] S256x1024.size inb).toLoadRect hl) k) Q) := by
  unfold BA
  iintro Hf Hk
  iapply (wp_load 𝒱₀ (c : Thread nD τ) none Set.univ (m := (Memref.whole cc0_scratch2 : Memref sig .tc .vmem S256x1024 .bf16)) (Finset.subset_univ _)) $$ [Hf]
  · iexact Hf
  rw [show (Memref.whole cc0_scratch2 : Memref sig .tc .vmem S256x1024 .bf16).view.readAt (Elt F) (Rect.unit (s := S256x1024) ![0, 0] S256x1024.size inb).toLoadRect (attnF m c) = attnF m c from Memref.readAt_unit_zero (Elt F) cc0_scratch2 hz2 inb (attnF m c)]
  iexact Hk

theorem mv_deadP {o : Fin 2 → ℕ} {inb : ∀ a, o a + S256x1024.size a ≤ S256x1024.size a} {hl} {k : (S256x1024.Idx → Elt F .f32) → Prog (TpuEff nD τ sig (Elt F) Λ₀ .tc) α} :
    BP0 (F := F) c ⊢ iprop((∀ v, BP0 (F := F) c -∗ W c (k v) Q)
      -∗ W c (.op (.load (Memref.whole cc0_scratch3 : Memref sig .tc .vmem S256x1024 .f32) (Rect.unit (s := S256x1024) o S256x1024.size inb).toLoadRect hl) k) Q) := by
  unfold BP0
  iintro ⟨%f, Hf⟩ Hk
  iapply (wp_load 𝒱₀ (c : Thread nD τ) none Set.univ (m := (Memref.whole cc0_scratch3 : Memref sig .tc .vmem S256x1024 .f32)) (Finset.subset_univ _)) $$ [Hf]
  · iexact Hf
  iintro Hf
  iapply Hk
  iexists f
  iexact Hf

theorem mv_deadB {o : Fin 2 → ℕ} {inb : ∀ a, o a + S256x1024.size a ≤ S256x1024.size a} {hl} {k : (S256x1024.Idx → Elt F .bf16) → Prog (TpuEff nD τ sig (Elt F) Λ₀ .tc) α} :
    BB0 (F := F) c ⊢ iprop((∀ v, BB0 (F := F) c -∗ W c (k v) Q)
      -∗ W c (.op (.load (Memref.whole cc0_scratch4 : Memref sig .tc .vmem S256x1024 .bf16) (Rect.unit (s := S256x1024) o S256x1024.size inb).toLoadRect hl) k) Q) := by
  unfold BB0
  iintro ⟨%f, Hf⟩ Hk
  iapply (wp_load 𝒱₀ (c : Thread nD τ) none Set.univ (m := (Memref.whole cc0_scratch4 : Memref sig .tc .vmem S256x1024 .bf16)) (Finset.subset_univ _)) $$ [Hf]
  · iexact Hf
  iintro Hf
  iapply Hk
  iexists f
  iexact Hf

theorem mv_deadO {o : Fin 2 → ℕ} {inb : ∀ a, o a + S256x1024.size a ≤ S256x1024.size a} {hl} {k : (S256x1024.Idx → Elt F .f32) → Prog (TpuEff nD τ sig (Elt F) Λ₀ .tc) α} :
    BO0 (F := F) c ⊢ iprop((∀ v, BO0 (F := F) c -∗ W c (k v) Q)
      -∗ W c (.op (.load (Memref.whole cc0_stg3_0 : Memref sig .tc .vmem S256x1024 .f32) (Rect.unit (s := S256x1024) o S256x1024.size inb).toLoadRect hl) k) Q) := by
  unfold BO0
  iintro ⟨%f, Hf⟩ Hk
  iapply (wp_load 𝒱₀ (c : Thread nD τ) none Set.univ (m := (Memref.whole cc0_stg3_0 : Memref sig .tc .vmem S256x1024 .f32)) (Finset.subset_univ _)) $$ [Hf]
  · iexact Hf
  iintro Hf
  iapply Hk
  iexists f
  iexact Hf

theorem mv_deadO1 {o : Fin 2 → ℕ} {inb : ∀ a, o a + S16x1024.size a ≤ S256x1024.size a} {hl} {k : (S16x1024.Idx → Elt F .f32) → Prog (TpuEff nD τ sig (Elt F) Λ₀ .tc) α} :
    BO1 m c ⊢ iprop((∀ v, BO1 m c -∗ W c (k v) Q)
      -∗ W c (.op (.load (Memref.whole cc0_stg3_0 : Memref sig .tc .vmem S256x1024 .f32) (Rect.unit (s := S256x1024) o S16x1024.size inb).toLoadRect hl) k) Q) := by
  unfold BO1
  iintro Hf Hk
  iapply (wp_load 𝒱₀ (c : Thread nD τ) none Set.univ (m := (Memref.whole cc0_stg3_0 : Memref sig .tc .vmem S256x1024 .f32)) (Finset.subset_univ _)) $$ [Hf]
  · iexact Hf
  iintro Hf
  iapply Hk
  skip
  iexact Hf

theorem mv_storeP {w : S256x1024.Idx → Elt F .f32} (hw : w = partF m c) {inb} {hx hm} :
    BP0 (F := F) c ⊢ iprop((BP m c -∗ W c (k ⟨⟩) Q)
      -∗ W c (.op (.store (Memref.whole cc0_scratch3 : Memref sig .tc .vmem S256x1024 .f32) (Rect.unit (s := S256x1024) ![0, 0] S256x1024.size inb) w Finset.univ hx hm) k) Q) := by
  subst hw
  unfold BP0 BP
  iintro ⟨%f, Hf⟩ Hk
  iapply (wp_store 𝒱₀ (c : Thread nD τ) none Set.univ (m := (Memref.whole cc0_scratch3 : Memref sig .tc .vmem S256x1024 .f32)) (r := Rect.unit (s := S256x1024) ![0, 0] S256x1024.size inb) (w := partF m c) (Mk := Finset.univ) (S := Finset.univ) (f := f) (Finset.subset_univ _)) $$ [Hf]
  · iexact Hf
  rw [show ((Memref.whole cc0_scratch3 : Memref sig .tc .vmem S256x1024 .f32).access (Rect.unit (s := S256x1024) ![0, 0] S256x1024.size inb)).write (Elt F) f (partF m c) Finset.univ = partF m c from Memref.write_access_unit_zero_univ (Elt F) cc0_scratch3 hz2 inb f (partF m c)]
  iexact Hk

theorem mv_storeB {w : S256x1024.Idx → Elt F .bf16} (hw : w = pbfF m c) {inb} {hx hm} :
    BB0 (F := F) c ⊢ iprop((BB m c -∗ W c (k ⟨⟩) Q)
      -∗ W c (.op (.store (Memref.whole cc0_scratch4 : Memref sig .tc .vmem S256x1024 .bf16) (Rect.unit (s := S256x1024) ![0, 0] S256x1024.size inb) w Finset.univ hx hm) k) Q) := by
  subst hw
  unfold BB0 BB
  iintro ⟨%f, Hf⟩ Hk
  iapply (wp_store 𝒱₀ (c : Thread nD τ) none Set.univ (m := (Memref.whole cc0_scratch4 : Memref sig .tc .vmem S256x1024 .bf16)) (r := Rect.unit (s := S256x1024) ![0, 0] S256x1024.size inb) (w := pbfF m c) (Mk := Finset.univ) (S := Finset.univ) (f := f) (Finset.subset_univ _)) $$ [Hf]
  · iexact Hf
  rw [show ((Memref.whole cc0_scratch4 : Memref sig .tc .vmem S256x1024 .bf16).access (Rect.unit (s := S256x1024) ![0, 0] S256x1024.size inb)).write (Elt F) f (pbfF m c) Finset.univ = pbfF m c from Memref.write_access_unit_zero_univ (Elt F) cc0_scratch4 hz2 inb f (pbfF m c)]
  iexact Hk

theorem mv_storeO {w : S256x1024.Idx → Elt F .f32} (hw : w = (k0_pay22 (gathF m) : S256x1024.Idx → Elt F .f32)) {inb} {hx hm} :
    BO0 (F := F) c ⊢ iprop((BO1 m c -∗ W c (k ⟨⟩) Q)
      -∗ W c (.op (.store (Memref.whole cc0_stg3_0 : Memref sig .tc .vmem S256x1024 .f32) (Rect.unit (s := S256x1024) ![0, 0] S256x1024.size inb) w Finset.univ hx hm) k) Q) := by
  subst hw
  unfold BO0 BO1
  iintro ⟨%f, Hf⟩ Hk
  iapply (wp_store 𝒱₀ (c : Thread nD τ) none Set.univ (m := (Memref.whole cc0_stg3_0 : Memref sig .tc .vmem S256x1024 .f32)) (r := Rect.unit (s := S256x1024) ![0, 0] S256x1024.size inb) (w := (k0_pay22 (gathF m) : S256x1024.Idx → Elt F .f32)) (Mk := Finset.univ) (S := Finset.univ) (f := f) (Finset.subset_univ _)) $$ [Hf]
  · iexact Hf
  rw [show ((Memref.whole cc0_stg3_0 : Memref sig .tc .vmem S256x1024 .f32).access (Rect.unit (s := S256x1024) ![0, 0] S256x1024.size inb)).write (Elt F) f ((k0_pay22 (gathF m) : S256x1024.Idx → Elt F .f32)) Finset.univ = (k0_pay22 (gathF m) : S256x1024.Idx → Elt F .f32) from Memref.write_access_unit_zero_univ (Elt F) cc0_stg3_0 hz2 inb f ((k0_pay22 (gathF m) : S256x1024.Idx → Elt F .f32))]
  iexact Hk

/-- The store of the device's own rows of the result. -/
theorem mv_storeO1 {w : S16x1024.Idx → Elt F .f32} (hw : w = accF m c) {o : Fin 2 → ℕ} (ho : o = ![16 * c.val, 0]) {inb} {hx hm} :
    BO1 m c ⊢ iprop((BO m c -∗ W c (k ⟨⟩) Q)
      -∗ W c (.op (.store (Memref.whole cc0_stg3_0 : Memref sig .tc .vmem S256x1024 .f32) (Rect.unit (s := S256x1024) o S16x1024.size inb) w Finset.univ hx hm) k) Q) := by
  subst hw
  unfold BO1 BO
  iintro Hf Hk
  iapply (wp_store 𝒱₀ (c : Thread nD τ) none Set.univ (m := (Memref.whole cc0_stg3_0 : Memref sig .tc .vmem S256x1024 .f32)) (r := Rect.unit (s := S256x1024) o S16x1024.size inb) (w := accF m c) (Mk := Finset.univ) (S := Finset.univ) (Finset.subset_univ _)) $$ [Hf]
  · iexact Hf
  rw [out_store m c ho inb]
  iexact Hk

/-- The load of the device's own rows of its partial result. -/
theorem mv_loadOwn {o : Fin 2 → ℕ} (ho : o = ![16 * c.val, 0]) {inb} {hl} {k : (S16x1024.Idx → Elt F .f32) → Prog (TpuEff nD τ sig (Elt F) Λ₀ .tc) α} :
    BP m c ⊢ iprop((BP m c -∗ W c (k (ownF m c)) Q)
      -∗ W c (.op (.load pM (Rect.unit (s := S256x1024) o S16x1024.size inb).toLoadRect hl) k) Q) := by
  unfold BP
  iintro Hf Hk
  iapply (wp_load 𝒱₀ (c : Thread nD τ) none Set.univ (m := pM) (Finset.subset_univ _)) $$ [Hf]
  · iexact Hf
  rw [read_own m c ho inb]
  iexact Hk

/-- The load of the own slot's old rows, which nothing uses. -/
theorem mv_deadG {o : Fin 3 → ℕ} (ho : o = ![c.val, 0, 0]) {inb} {hl} {k : (S1x16x1024.Idx → Elt F .bf16) → Prog (TpuEff nD τ sig (Elt F) Λ₀ .tc) α} :
    BG0 (F := F) c ⊢ iprop((∀ v, BG0 (F := F) c -∗ W c (k v) Q)
      -∗ W c (.op (.load gM (Rect.unit (s := S16x16x1024) o S1x16x1024.size inb).toLoadRect hl) k) Q) := by
  have hc : c.val < 16 := c.isLt
  unfold BG0 gslot
  iintro ⟨%f, Hf⟩ Hk
  iapply (wp_load_rect 𝒱₀ (c : Thread nD τ) none Set.univ (m := gM) (r := Rect.unit (s := S16x16x1024) o S1x16x1024.size inb) (S := slotSet c.val) (q := fullShare) (f := f)
    ((View.set_slice_whole _ _).trans (slot_rect hc ho inb)).subset) $$ [Hf]
  · iexact Hf
  iintro Hf
  iapply Hk
  iexists f
  iexact Hf

/-- The store of the device's sum into its own slot. -/
theorem mv_storeG {w : S1x16x1024.Idx → Elt F .bf16} (hw : w = accB m c) {o : Fin 3 → ℕ} (ho : o = ![c.val, 0, 0]) {inb} {hx hm} :
    BG0 (F := F) c ⊢ iprop((gslot fullShare c c.val (gathF m) -∗ W c (k ⟨⟩) Q)
      -∗ W c (.op (.store gM (Rect.unit (s := S16x16x1024) o S1x16x1024.size inb) w Finset.univ hx hm) k) Q) := by
  have hc : c.val < 16 := c.isLt
  subst hw
  unfold BG0 gslot
  iintro ⟨%f, Hf⟩ Hk
  have hS : (gM.access (Rect.unit (s := S16x16x1024) o S1x16x1024.size inb)).setOn Finset.univ ⊆ slotSet c.val := by
    rw [View.setOn_univ]; exact ((View.set_slice_whole _ _).trans (slot_rect hc ho inb)).subset
  have he : (((c : Thread nD τ).loc cc0_scratch6 ↦[slotSet c.val]{fullShare}
        ((gM.access (Rect.unit (s := S16x16x1024) o S1x16x1024.size inb)).write (Elt F) f (accB m c) Finset.univ)) : sProp 𝕄)
      = ((c : Thread nD τ).loc cc0_scratch6 ↦[slotSet c.val]{fullShare} gathF m) :=
    pointsTo_congr (gath_store m c ho inb f)
  iapply (wp_store 𝒱₀ (c : Thread nD τ) none Set.univ (m := gM) (r := Rect.unit (s := S16x16x1024) o S1x16x1024.size inb) (w := accB m c) (Mk := Finset.univ) (S := slotSet c.val) (f := f) hS) $$ [Hf]
  · iexact Hf
  iintro Hf
  iapply Hk
  rw [← he]
  iexact Hf

end Moves

/-! ## From one family to the next -/

section Between
variable (c : Dev nD)
omit [FloatOps F] in
theorem St_turn (A B B' : ℕ → sProp 𝕄) {n : ℕ} : St A B n n ⊢ St B B' 0 n := by
  unfold St
  iintro ⟨H, -⟩
  isplitr
  · rw [show (bigSep (Finset.range 0) B' : sProp 𝕄) = iprop(emp) from rfl]; iempintro
  · rw [show Finset.Ico 0 n = Finset.range n from (Finset.range_eq_Ico n).symm]; iexact H
theorem KC_KW {i : ℕ} (hi : i = 8) : KC m c i ⊢ KW m c 0 := by subst hi; exact St_turn _ _ _
theorem VC_VW {i : ℕ} (hi : i = 8) : VC m c i ⊢ VW m c 0 := by subst hi; exact St_turn _ _ _
theorem AT_BA {i : ℕ} (hi : i = 8) : AT m c i ⊢ BA m c := by
  subst hi
  unfold AT BA
  iintro ⟨%f, Hf, %hf⟩
  rw [← attnUpTo_all m c hf]
  iexact Hf

theorem AR_end : AR m c 15 ⊢ iprop(OW c (O3 c 15 15 0) ∗ bigSep (Finset.range 15) fun i => postN m c (36 + (pr c i).val)) := by
  unfold AR
  iintro ⟨HO, HS⟩
  isplitl [HO]; · iexact HO
  iapply (St_end _ _ _); iexact HS
theorem CS_start : iprop(OW c (O3 c 15 15 0) ∗ gslot fullShare c c.val (gathF m) ∗ bigSep (Finset.range 15) (cPre (F := F) c)) ⊢ CS m c 0 := by
  unfold CS
  iintro ⟨HO, Hg, HS⟩
  isplitl [HO]; · iexact HO
  isplitl [Hg]; · iexact Hg
  iapply (St_start _ _ _); iexact HS
/-- The turn to the waits for the device's own transfers. -/
theorem CR_AW : iprop(CR m c 15 ∗ bigSep (Finset.range 15) fun i => midN c NA (20 + (pr c i).val))
    ⊢ iprop(AW m c 0 ∗ bigSep (Finset.range 15) fun i => postN m c (68 + (pr c i).val)) := by
  unfold CR AW
  iintro ⟨⟨HO, HS⟩, HM⟩
  isplitr [HS]
  · isplitl [HO]; · iexact HO
    iapply (St_start _ _ _); iexact HM
  iapply (St_end _ _ _); iexact HS
theorem AW_CW : iprop(AW m c 15 ∗ bigSep (Finset.range 15) fun i => midN c NA (52 + (pr c i).val))
    ⊢ iprop(CW m c 0 ∗ bigSep (Finset.range 15) fun i => postN m c (20 + (pr c i).val)) := by
  unfold AW CW
  iintro ⟨⟨HO, HS⟩, HM⟩
  isplitr [HS]
  · isplitl [HO]; · iexact HO
    iapply (St_start _ _ _); iexact HM
  iapply (St_end _ _ _); iexact HS
/-- The turn from the first exchange's transfers to the waits for the peers'. -/
theorem AS_AR : iprop(AS m c 15 ∗ bigSep (Finset.range 15) fun i => midN c NA (36 + (pr c i).val))
    ⊢ iprop(AR m c 0 ∗ bigSep (Finset.range 15) fun i => midN c NA (20 + (pr c i).val)) := by
  unfold AS AR
  iintro ⟨⟨HO, HS⟩, HM⟩
  isplitr [HS]
  · isplitl [HO]; · iexact HO
    iapply (St_start _ _ _); iexact HM
  iapply (St_end _ _ _); iexact HS
/-- The same for the second exchange. -/
theorem CS_CR : iprop(CS m c 15 ∗ bigSep (Finset.range 15) fun i => midN c NA (68 + (pr c i).val))
    ⊢ iprop(CR m c 0 ∗ gslot (Transfers.shareDrop fullShare 15) c c.val (gathF m) ∗ bigSep (Finset.range 15) fun i => midN c NA (52 + (pr c i).val)) := by
  unfold CS CR
  iintro ⟨⟨HO, Hg, HS⟩, HM⟩
  isplitl [HO HM]
  · isplitl [HO]; · iexact HO
    iapply (St_start _ _ _); iexact HM
  isplitl [Hg]; · iexact Hg
  iapply (St_end _ _ _); iexact HS
end Between

end Cert.KernelIdealProof

end
-- ==== Proof.KernelIdealSplit.lean ====
/-
Buffers in pieces, and the pieces together again.
-/
module

public import proofs.«01_k».proof.Proof.KernelIdealBuffers

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces are disjoint and cover -/

theorem slot_disj : ∀ s ∈ (Finset.univ : Finset (Dev nD)), ∀ t ∈ (Finset.univ : Finset (Dev nD)), s ≠ t → Disjoint (slotSet s.val) (slotSet t.val) := by
  intro s _ t _ h
  refine Finset.disjoint_left.mpr fun i hi hj => h (Fin.ext ?_)
  rw [← (Finset.mem_filter.mp hi).2, (Finset.mem_filter.mp hj).2]
theorem slot_cover : (Finset.univ : Finset (Dev nD)).biUnion (fun s => slotSet s.val) = Finset.univ :=
  Finset.eq_univ_iff_forall.mpr fun i => Finset.mem_biUnion.mpr ⟨i 0, Finset.mem_univ _, Finset.mem_filter.mpr ⟨Finset.mem_univ _, rfl⟩⟩
theorem row_disj : ∀ s ∈ (Finset.univ : Finset (Dev nD)), ∀ t ∈ (Finset.univ : Finset (Dev nD)), s ≠ t → Disjoint (rowSet s.val) (rowSet t.val) := by
  intro s _ t _ h
  refine Finset.disjoint_left.mpr fun i hi hj => h (Fin.ext ?_)
  rw [← (Finset.mem_filter.mp hi).2, (Finset.mem_filter.mp hj).2]
theorem row_cover : (Finset.univ : Finset (Dev nD)).biUnion (fun s => rowSet s.val) = Finset.univ :=
  Finset.eq_univ_iff_forall.mpr fun i => Finset.mem_biUnion.mpr
    ⟨⟨(i 0).val / 16, by have h : (i 0).val < 256 := (i 0).isLt; show _ < 16; omega⟩, Finset.mem_univ _, Finset.mem_filter.mpr ⟨Finset.mem_univ _, rfl⟩⟩
theorem slab_disj : ∀ s ∈ Finset.range 8, ∀ t ∈ Finset.range 8, s ≠ t → Disjoint (slabSet s) (slabSet t) := by
  intro s _ t _ h
  refine Finset.disjoint_left.mpr fun i hi hj => h ?_
  rw [← (Finset.mem_filter.mp hi).2, (Finset.mem_filter.mp hj).2]
theorem slab_cover : (Finset.range 8).biUnion slabSet = Finset.univ :=
  Finset.eq_univ_iff_forall.mpr fun i => Finset.mem_biUnion.mpr ⟨(i 0).val, Finset.mem_range.mpr (i 0).isLt, Finset.mem_filter.mpr ⟨Finset.mem_univ _, rfl⟩⟩
theorem head_disj (c : Dev nD) : ∀ s ∈ Finset.range 8, ∀ t ∈ Finset.range 8, s ≠ t → Disjoint (headSet (8 * c.val + s)) (headSet (8 * c.val + t)) := by
  intro s _ t _ h
  refine Finset.disjoint_left.mpr fun i hi hj => h ?_
  have h1 := (Finset.mem_filter.mp hi).2
  have h2 := (Finset.mem_filter.mp hj).2
  omega
/-- The eight heads of device `c`. -/
def ownHeads (c : Dev nD) : Finset S1x4096x128x128.Idx := (Finset.range 8).biUnion fun h => headSet (8 * c.val + h)

/-- Two assertions that imply each other are equal. -/
theorem eq_of {M : Type} [URA M] {P R : sProp M} (h : P ⊣⊢ R) : P = R := BI.equiv_iff.mp ⟨h.1, h.2⟩

section Any
variable {ℓ : Loc nD τ sig} {q : PosShare TreeShare}

omit [FloatOps F] in
/-- A buffer in sixteen pieces, one per device: device `c`'s and its peers'. -/
theorem pieces_split (Ks : Dev nD → Finset (Idx ℓ)) (hd : ∀ s ∈ (Finset.univ : Finset (Dev nD)), ∀ t ∈ (Finset.univ : Finset (Dev nD)), s ≠ t → Disjoint (Ks s) (Ks t))
    (hc : (Finset.univ : Finset (Dev nD)).biUnion Ks = Finset.univ) (c : Dev nD) (f : Buf (Elt F) ℓ) :
    (ℓ ↦{q} f : sProp (MT nD τ sig Unit (Elt F) ℕ UU ℕ)) = iprop((ℓ ↦[Ks c]{q} f) ∗ bigSep (Finset.range 15) fun i => ℓ ↦[Ks (pr c i)]{q} f) := by
  have h1 : (ℓ ↦[Finset.univ]{q} f : sProp (MT nD τ sig Unit (Elt F) ℕ UU ℕ)) = bigSep Finset.univ fun t => ℓ ↦[Ks t]{q} f := by
    rw [← hc]; exact pointsTo_biUnion _ _ hd
  have h2 : (bigSep Finset.univ fun t => (ℓ ↦[Ks t]{q} f : sProp (MT nD τ sig Unit (Elt F) ℕ UU ℕ))) = iprop((ℓ ↦[Ks c]{q} f) ∗ bigSep (Finset.univ.erase c) fun t => ℓ ↦[Ks t]{q} f) :=
    bigSep_erase (Finset.mem_univ c)
  rw [← bigSep_pr c (fun t => (ℓ ↦[Ks t]{q} f : sProp (MT nD τ sig Unit (Elt F) ℕ UU ℕ))), ← h2]
  exact h1

omit [FloatOps F] in
/-- The sixteen pieces make the buffer again, though device `c`'s may hold other contents. -/
theorem pieces_join (Ks : Dev nD → Finset (Idx ℓ)) (hd : ∀ s ∈ (Finset.univ : Finset (Dev nD)), ∀ t ∈ (Finset.univ : Finset (Dev nD)), s ≠ t → Disjoint (Ks s) (Ks t))
    (hc : (Finset.univ : Finset (Dev nD)).biUnion Ks = Finset.univ) (c : Dev nD) (g f : Buf (Elt F) ℓ) :
    iprop((ℓ ↦[Ks c]{q} g) ∗ bigSep (Finset.range 15) fun i => ℓ ↦[Ks (pr c i)]{q} f) ⊢ (iprop(∃ h, ℓ ↦{q} h) : sProp (MT nD τ sig Unit (Elt F) ℕ UU ℕ)) := by
  have hsd : Finset.univ \ Ks c = (Finset.univ.erase c).biUnion Ks := by
    ext i
    rw [Finset.mem_sdiff, Finset.mem_biUnion]
    constructor
    · intro ⟨_, hn⟩
      obtain ⟨t, _, ht⟩ := Finset.mem_biUnion.mp (hc ▸ Finset.mem_univ i)
      exact ⟨t, Finset.mem_erase.mpr ⟨fun e => hn (e ▸ ht), Finset.mem_univ _⟩, ht⟩
    · intro ⟨t, h1, ht⟩
      exact ⟨Finset.mem_univ _, fun hi => Finset.disjoint_left.mp (hd t (Finset.mem_univ _) c (Finset.mem_univ _) (Finset.mem_erase.mp h1).1) ht hi⟩
  have h1 : (ℓ ↦[(Finset.univ.erase c).biUnion Ks]{q} f : sProp (MT nD τ sig Unit (Elt F) ℕ UU ℕ)) = bigSep (Finset.univ.erase c) fun t => ℓ ↦[Ks t]{q} f :=
    pointsTo_biUnion _ _ fun s hs t ht => hd s (Finset.mem_univ _) t (Finset.mem_univ _)
  rw [← bigSep_pr c (fun t => (ℓ ↦[Ks t]{q} f : sProp (MT nD τ sig Unit (Elt F) ℕ UU ℕ))), ← h1, ← hsd]
  iintro H
  iexists _
  iapply (pointsTo_join_subset (Finset.subset_univ (Ks c)))
  iexact H

end Any

section Pieces
variable (c : Dev nD)

/-- The landing buffer in slots. -/
theorem recv_split (f : S16x16x1024.Idx → Elt F .bf16) :
    ((c : Thread nD τ).loc cc0_scratch5 ↦{fullShare} f : sProp 𝕄) ⊢ iprop((∃ f, rslot c c.val f) ∗ bigSep (Finset.range 15) fun i => iprop(∃ f, rslot c (pr c i).val f)) := by
  have hm : (bigSep (Finset.range 15) fun i => (((c : Thread nD τ).loc cc0_scratch5 ↦[slotSet (pr c i).val]{fullShare} f : sProp 𝕄)))
      ⊢ bigSep (Finset.range 15) fun i => (iprop(∃ f, rslot c (pr c i).val f) : sProp 𝕄) :=
    bigSep_mono fun i _ => by
      unfold rslot
      show iprop(((c : Thread nD τ).loc cc0_scratch5 ↦[slotSet (pr c i).val]{fullShare} f)) ⊢ _
      iintro H; iexists f; iexact H
  rw [pieces_split (ℓ := (c : Thread nD τ).loc cc0_scratch5) (q := fullShare) (fun t : Dev nD => slotSet t.val) slot_disj slot_cover c f]
  iintro ⟨H1, H2⟩
  isplitl [H1]
  · iexists f; unfold rslot; iexact H1
  iapply hm; iexact H2

/-- The landing buffer in slots. -/
theorem gath_split (f : S16x16x1024.Idx → Elt F .bf16) :
    ((c : Thread nD τ).loc cc0_scratch6 ↦{fullShare} f : sProp 𝕄) ⊢ iprop((∃ f, gslot fullShare c c.val f) ∗ bigSep (Finset.range 15) fun i => iprop(∃ f, gslot fullShare c (pr c i).val f)) := by
  have hm : (bigSep (Finset.range 15) fun i => (((c : Thread nD τ).loc cc0_scratch6 ↦[slotSet (pr c i).val]{fullShare} f : sProp 𝕄)))
      ⊢ bigSep (Finset.range 15) fun i => (iprop(∃ f, gslot fullShare c (pr c i).val f) : sProp 𝕄) :=
    bigSep_mono fun i _ => by
      unfold gslot
      show iprop(((c : Thread nD τ).loc cc0_scratch6 ↦[slotSet (pr c i).val]{fullShare} f)) ⊢ _
      iintro H; iexists f; iexact H
  rw [pieces_split (ℓ := (c : Thread nD τ).loc cc0_scratch6) (q := fullShare) (fun t : Dev nD => slotSet t.val) slot_disj slot_cover c f]
  iintro ⟨H1, H2⟩
  isplitl [H1]
  · iexists f; unfold gslot; iexact H1
  iapply hm; iexact H2

theorem recv_join : iprop((∃ f, rslot c c.val f) ∗ bigSep (Finset.range 15) fun i => rslot c (pr c i).val (recvF m c))
    ⊢ (iprop(∃ f : S16x16x1024.Idx → Elt F .bf16, (c : Thread nD τ).loc cc0_scratch5 ↦{fullShare} f) : sProp 𝕄) := by
  unfold rslot
  iintro ⟨⟨%g, H1⟩, H2⟩
  iapply (pieces_join (ℓ := (c : Thread nD τ).loc cc0_scratch5) (q := fullShare) (fun t : Dev nD => slotSet t.val) slot_disj slot_cover c g (recvF m c))
  isplitl [H1] <;> iassumption
theorem gath_join : iprop(gslot fullShare c c.val (gathF m) ∗ bigSep (Finset.range 15) fun i => gslot fullShare c (pr c i).val (gathF m))
    ⊢ (iprop(∃ f : S16x16x1024.Idx → Elt F .bf16, (c : Thread nD τ).loc cc0_scratch6 ↦{fullShare} f) : sProp 𝕄) := by
  unfold gslot
  iintro H
  iapply (pieces_join (ℓ := (c : Thread nD τ).loc cc0_scratch6) (q := fullShare) (fun t : Dev nD => slotSet t.val) slot_disj slot_cover c (gathF m) (gathF m))
  iexact H

/-- The own slot's shares together. -/
theorem own_join : iprop(gslot (Transfers.shareDrop fullShare 15) c c.val (gathF m) ∗ bigSep (Finset.range 15) fun i => gslot (gtok i) c c.val (gathF m))
    ⊢ gslot fullShare c c.val (gathF m) := by
  unfold gslot
  exact (Transfers.pointsTo_toks_range fullShare 15).2

/-- The partial result in the peers' rows. -/
theorem rows_split : BB m c = iprop(prow c c.val (pbfF m c) ∗ bigSep (Finset.range 15) fun i => prow c (pr c i).val (pbfF m c)) := by
  unfold BB prow
  exact pieces_split (ℓ := (c : Thread nD τ).loc cc0_scratch4) (q := fullShare) (fun t : Dev nD => rowSet t.val) row_disj row_cover c (pbfF m c)

theorem AS_start : iprop(OW c (O3 c 15 0 0) ∗ BB m c ∗ bigSep (Finset.range 15) (aRest (F := F) c)) ⊢ iprop(AS m c 0 ∗ prow c c.val (pbfF m c)) := by
  have he : (bigSep (Finset.range 15) (aPre m c) : sProp 𝕄)
      = iprop((bigSep (Finset.range 15) fun i => prow c (pr c i).val (pbfF m c)) ∗ bigSep (Finset.range 15) (aRest (F := F) c)) := bigSep_sep _ _ _
  rw [rows_split]
  unfold AS
  iintro ⟨HO, ⟨H0, HB⟩, HR⟩
  isplitr [H0]
  · isplitl [HO]; · iexact HO
    iapply (St_start _ _ _)
    rw [he]
    isplitl [HB] <;> iassumption
  iexact H0

theorem kslab_split (f : S8x4096x128.Idx → Elt F .f32) :
    ((c : Thread nD τ).loc cc0_scratch0 ↦{fullShare} f : sProp 𝕄) ⊢ bigSep (Finset.range 8) fun h => iprop(∃ f, kslab c h f) := by
  have h1 : ((c : Thread nD τ).loc cc0_scratch0 ↦[Finset.univ]{fullShare} f : sProp 𝕄) = bigSep (Finset.range 8) fun h => ((c : Thread nD τ).loc cc0_scratch0 ↦[slabSet h]{fullShare} f : sProp 𝕄) := by
    rw [← slab_cover]; exact pointsTo_biUnion _ _ slab_disj
  refine (Entails.of_eq h1).trans (bigSep_mono fun h _ => ?_)
  unfold kslab
  show iprop(((c : Thread nD τ).loc cc0_scratch0 ↦[slabSet h]{fullShare} f)) ⊢ _
  iintro H; iexists f; iexact H
theorem kslab_join : (bigSep (Finset.range 8) fun h => kslab c h (kF m c))
    ⊢ (iprop(∃ f : S8x4096x128.Idx → Elt F .f32, (c : Thread nD τ).loc cc0_scratch0 ↦{fullShare} f) : sProp 𝕄) := by
  have h1 : ((c : Thread nD τ).loc cc0_scratch0 ↦[Finset.univ]{fullShare} (kF m c) : sProp 𝕄) = bigSep (Finset.range 8) fun h => ((c : Thread nD τ).loc cc0_scratch0 ↦[slabSet h]{fullShare} (kF m c) : sProp 𝕄) := by
    rw [← slab_cover]; exact pointsTo_biUnion _ _ slab_disj
  unfold kslab
  rw [← h1]
  iintro H; iexists _; iexact H
theorem khead_split : ((c : Thread nD τ).loc main_arg2 ↦{fullShare} karr m c : sProp 𝕄)
    = iprop((bigSep (Finset.range 8) fun h => khead m c (8 * c.val + h)) ∗ ((c : Thread nD τ).loc main_arg2 ↦[Finset.univ \ ownHeads c]{fullShare} karr m c)) := by
  have h1 : ((c : Thread nD τ).loc main_arg2 ↦[ownHeads c]{fullShare} karr m c : sProp 𝕄) = bigSep (Finset.range 8) fun h => ((c : Thread nD τ).loc main_arg2 ↦[headSet (8 * c.val + h)]{fullShare} karr m c : sProp 𝕄) := by
    unfold ownHeads; exact pointsTo_biUnion _ _ (head_disj c)
  unfold khead
  rw [← h1]
  exact eq_of (pointsTo_split_subset (Finset.subset_univ _))

theorem vslab_split (f : S8x4096x128.Idx → Elt F .f32) :
    ((c : Thread nD τ).loc cc0_scratch1 ↦{fullShare} f : sProp 𝕄) ⊢ bigSep (Finset.range 8) fun h => iprop(∃ f, vslab c h f) := by
  have h1 : ((c : Thread nD τ).loc cc0_scratch1 ↦[Finset.univ]{fullShare} f : sProp 𝕄) = bigSep (Finset.range 8) fun h => ((c : Thread nD τ).loc cc0_scratch1 ↦[slabSet h]{fullShare} f : sProp 𝕄) := by
    rw [← slab_cover]; exact pointsTo_biUnion _ _ slab_disj
  refine (Entails.of_eq h1).trans (bigSep_mono fun h _ => ?_)
  unfold vslab
  show iprop(((c : Thread nD τ).loc cc0_scratch1 ↦[slabSet h]{fullShare} f)) ⊢ _
  iintro H; iexists f; iexact H
theorem vslab_join : (bigSep (Finset.range 8) fun h => vslab c h (vF m c))
    ⊢ (iprop(∃ f : S8x4096x128.Idx → Elt F .f32, (c : Thread nD τ).loc cc0_scratch1 ↦{fullShare} f) : sProp 𝕄) := by
  have h1 : ((c : Thread nD τ).loc cc0_scratch1 ↦[Finset.univ]{fullShare} (vF m c) : sProp 𝕄) = bigSep (Finset.range 8) fun h => ((c : Thread nD τ).loc cc0_scratch1 ↦[slabSet h]{fullShare} (vF m c) : sProp 𝕄) := by
    rw [← slab_cover]; exact pointsTo_biUnion _ _ slab_disj
  unfold vslab
  rw [← h1]
  iintro H; iexists _; iexact H
theorem vhead_split : ((c : Thread nD τ).loc main_arg3 ↦{fullShare} varr m c : sProp 𝕄)
    = iprop((bigSep (Finset.range 8) fun h => vhead m c (8 * c.val + h)) ∗ ((c : Thread nD τ).loc main_arg3 ↦[Finset.univ \ ownHeads c]{fullShare} varr m c)) := by
  have h1 : ((c : Thread nD τ).loc main_arg3 ↦[ownHeads c]{fullShare} varr m c : sProp 𝕄) = bigSep (Finset.range 8) fun h => ((c : Thread nD τ).loc main_arg3 ↦[headSet (8 * c.val + h)]{fullShare} varr m c : sProp 𝕄) := by
    unfold ownHeads; exact pointsTo_biUnion _ _ (head_disj c)
  unfold vhead
  rw [← h1]
  exact eq_of (pointsTo_split_subset (Finset.subset_univ _))

end Pieces

/-! ## The load of the whole second landing buffer -/

section Moves
variable (c : Dev nD) {α : Type} {Q : α → sProp (MT nD τ sig Unit (Elt F) ℕ UU ℕ)}

theorem mv_loadG {inb} {hl} {k : (S16x16x1024.Idx → Elt F .bf16) → Prog (TpuEff nD τ sig (Elt F) Λ₀ .tc) α} :
    iprop(gslot (Transfers.shareDrop fullShare 15) c c.val (gathF m) ∗ CR m c 15)
      ⊢ iprop(((gslot (Transfers.shareDrop fullShare 15) c c.val (gathF m) ∗ CR m c 15) -∗ W c (k (gathF m)) Q)
        -∗ W c (.op (.load gM (Rect.unit (s := S16x16x1024) ![0, 0, 0] S16x16x1024.size inb).toLoadRect hl) k) Q) := by
  have hpost : ∀ i : ℕ, (postN m c (68 + (pr c i).val) : sProp 𝕄)
      = iprop((((c : Thread nD τ).loc cc0_scratch6 ↦[slotSet (pr c i).val]{Transfers.shareDrop fullShare 15} gathF m)
          ∗ bigSep (Finset.range 15) fun j => ((c : Thread nD τ).loc cc0_scratch6 ↦[slotSet (pr c i).val]{Transfers.shareTokN fullShare j} gathF m)) ∗ semVal (dcell c (68 + (pr c i).val)) 0) := fun i => by
    unfold postN
    rw [dmaPay_cr m c (pr c i)]
    unfold gslot
    rw [eq_of (Transfers.pointsTo_toks_range (Val := Elt F) fullShare 15)]
  have hs1 : (bigSep (Finset.range 15) fun i => (postN m c (68 + (pr c i).val) : sProp 𝕄))
      = iprop((bigSep (Finset.range 15) fun i => ((c : Thread nD τ).loc cc0_scratch6 ↦[slotSet (pr c i).val]{Transfers.shareDrop fullShare 15} gathF m))
        ∗ bigSep (Finset.range 15) fun i => iprop((bigSep (Finset.range 15) fun j => ((c : Thread nD τ).loc cc0_scratch6 ↦[slotSet (pr c i).val]{Transfers.shareTokN fullShare j} gathF m)) ∗ semVal (dcell c (68 + (pr c i).val)) 0)) := by
    rw [show (iprop((bigSep (Finset.range 15) fun i => ((c : Thread nD τ).loc cc0_scratch6 ↦[slotSet (pr c i).val]{Transfers.shareDrop fullShare 15} gathF m))
        ∗ bigSep (Finset.range 15) fun i => iprop((bigSep (Finset.range 15) fun j => ((c : Thread nD τ).loc cc0_scratch6 ↦[slotSet (pr c i).val]{Transfers.shareTokN fullShare j} gathF m)) ∗ semVal (dcell c (68 + (pr c i).val)) 0)) : sProp 𝕄) = _ from (bigSep_sep _ _ _).symm]
    exact bigSep_congr fun i _ => (hpost i).trans (eq_of sep_assoc)
  have hw := pieces_split (F := F) (ℓ := (c : Thread nD τ).loc cc0_scratch6) (q := Transfers.shareDrop fullShare 15) (fun t : Dev nD => slotSet t.val) slot_disj slot_cover c (gathF m)
  unfold CR gslot St
  rw [show Finset.Ico 15 15 = (∅ : Finset ℕ) from rfl, hs1]
  iintro ⟨Hg, HO, ⟨H1, H2⟩, HE⟩ Hk
  ihave Hf := (Entails.of_eq hw.symm) $$ [Hg H1]
  · isplitl [Hg] <;> iassumption
  iapply (wp_load 𝒱₀ (c : Thread nD τ) none Set.univ (m := gM) (Finset.subset_univ _)) $$ [Hf]
  · iexact Hf
  rw [show gM.view.readAt (Elt F) (Rect.unit (s := S16x16x1024) ![0, 0, 0] S16x16x1024.size inb).toLoadRect (gathF m) = gathF m from Memref.readAt_unit_zero (Elt F) cc0_scratch6 hz3 inb (gathF m)]
  iintro Hf
  iapply Hk
  ihave Hf := (Entails.of_eq hw) $$ [Hf]
  · iexact Hf
  icases Hf with ⟨Hg, H1⟩
  isplitl [Hg]; · iexact Hg
  isplitl [HO]; · iexact HO
  isplitr [HE]
  · isplitl [H1] <;> iassumption
  iexact HE

end Moves

end Cert.KernelIdealProof

end
-- ==== Proof.KernelIdealParts1.lean ====
/-
What the stretches 1 to 7 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part1  {k : (Σ' (d0 : Dev nD) (v2 : BitVec 32) (v3 : Sems sig S_) (v30 : BitVec 32) (c16_i32_18 : BitVec 32), BitVec 1) → Prog (TpuEff nD τ sig (Elt F) Λ₀ .tc) α} :
    iprop(Env m K ∗ SG c 0)
      ⊢ iprop((∀ (r1 : BitVec 32) (r3 : BitVec 32) (r4 : BitVec 32) (r5 : BitVec 1), (SG c 2) -∗ W c (k ⟨c, r1, (SemArray.scalar (sig.barrier 0 rfl)), r3, r4, r5⟩) Q)
        -∗ W c (k0_part1 xM xW qM qW oM oW kA kAW vA vAW yM yW kM kW vM vW aM aW pM pW bM bW rM rW gM gW sK sV sA rA sC rC  >>= k) Q) := by
  rw [k0_part1_eq_skeleton]
  unfold k0_part1_skel
  simp only [semSignalWord, semWaitWord, Prog.lift, Prog.bind_op, Prog.bind_ret, Prog.pure_eq_ret, mv_dev]
  iintro ⟨#HE, HSG⟩ Hk
  iapply (mv_signal m K c (i := 0) (by decide) (dev1_eq c) rfl) $$ [HSG]
  · isplitr; · iexact HE
    iexact HSG
  iintro HSG
  iapply (mv_signal m K c (i := 1) (by decide) (dev2_eq c) rfl) $$ [HSG]
  · isplitr; · iexact HE
    iexact HSG
  iintro HSG
  iapply Hk
  iexact HSG

theorem part2 (v2 : BitVec 32) (v30 : BitVec 32) (c16_i32_18 : BitVec 32) (v31 : BitVec 1) {k : (Σ' (v59 : BitVec 32) (v64 : BitVec 1), BitVec 32) → Prog (TpuEff nD τ sig (Elt F) Λ₀ .tc) α} :
    iprop(Env m K ∗ SG c 2)
      ⊢ iprop((∀ (r0 : BitVec 32) (r1 : BitVec 1) (r2 : BitVec 32), (SG c 4) -∗ W c (k ⟨r0, r1, r2⟩) Q)
        -∗ W c (k0_part2 xM xW qM qW oM oW kA kAW vA vAW yM yW kM kW vM vW aM aW pM pW bM bW rM rW gM gW sK sV sA rA sC rC c v2 (SemArray.scalar (sig.barrier 0 rfl)) v30 c16_i32_18 v31 >>= k) Q) := by
  rw [k0_part2_eq_skeleton]
  unfold k0_part2_skel
  simp only [semSignalWord, semWaitWord, Prog.lift, Prog.bind_op, Prog.bind_ret, Prog.pure_eq_ret]
  iintro ⟨#HE, HSG⟩ Hk
  iapply (mv_signal m K c (i := 2) (by decide) (dev3_eq c) rfl) $$ [HSG]
  · isplitr; · iexact HE
    iexact HSG
  iintro HSG
  iapply (mv_signal m K c (i := 3) (by decide) (dev4_eq c) rfl) $$ [HSG]
  · isplitr; · iexact HE
    iexact HSG
  iintro HSG
  iapply Hk
  iexact HSG

theorem part3 (v2 : BitVec 32) (v59 : BitVec 32) (v64 : BitVec 1) (v65 : BitVec 32) {k : (Σ' (v95 : BitVec 32) (c16_i32_63 : BitVec 32), BitVec 1) → Prog (TpuEff nD τ sig (Elt F) Λ₀ .tc) α} :
    iprop(Env m K ∗ SG c 4)
      ⊢ iprop((∀ (r0 : BitVec 32) (r1 : BitVec 32) (r2 : BitVec 1), (SG c 7) -∗ W c (k ⟨r0, r1, r2⟩) Q)
        -∗ W c (k0_part3 xM xW qM qW oM oW kA kAW vA vAW yM yW kM kW vM vW aM aW pM pW bM bW rM rW gM gW sK sV sA rA sC rC c v2 (SemArray.scalar (sig.barrier 0 rfl)) v59 v64 v65 >>= k) Q) := by
  rw [k0_part3_eq_skeleton]
  unfold k0_part3_skel
  simp only [semSignalWord, semWaitWord, Prog.lift, Prog.bind_op, Prog.bind_ret, Prog.pure_eq_ret]
  iintro ⟨#HE, HSG⟩ Hk
  iapply (mv_signal m K c (i := 4) (by decide) (dev5_eq c) rfl) $$ [HSG]
  · isplitr; · iexact HE
    iexact HSG
  iintro HSG
  iapply (mv_signal m K c (i := 5) (by decide) (dev6_eq c) rfl) $$ [HSG]
  · isplitr; · iexact HE
    iexact HSG
  iintro HSG
  iapply (mv_signal m K c (i := 6) (by decide) (dev7_eq c) rfl) $$ [HSG]
  · isplitr; · iexact HE
    iexact HSG
  iintro HSG
  iapply Hk
  iexact HSG

theorem part4 (v2 : BitVec 32) (v95 : BitVec 32) (c16_i32_63 : BitVec 32) (v96 : BitVec 1) {k : (Σ' (v124 : BitVec 32) (v129 : BitVec 1), BitVec 32) → Prog (TpuEff nD τ sig (Elt F) Λ₀ .tc) α} :
    iprop(Env m K ∗ SG c 7)
      ⊢ iprop((∀ (r0 : BitVec 32) (r1 : BitVec 1) (r2 : BitVec 32), (SG c 9) -∗ W c (k ⟨r0, r1, r2⟩) Q)
        -∗ W c (k0_part4 xM xW qM qW oM oW kA kAW vA vAW yM yW kM kW vM vW aM aW pM pW bM bW rM rW gM gW sK sV sA rA sC rC c v2 (SemArray.scalar (sig.barrier 0 rfl)) v95 c16_i32_63 v96 >>= k) Q) := by
  rw [k0_part4_eq_skeleton]
  unfold k0_part4_skel
  simp only [semSignalWord, semWaitWord, Prog.lift, Prog.bind_op, Prog.bind_ret, Prog.pure_eq_ret]
  iintro ⟨#HE, HSG⟩ Hk
  iapply (mv_signal m K c (i := 7) (by decide) (dev8_eq c) rfl) $$ [HSG]
  · isplitr; · iexact HE
    iexact HSG
  iintro HSG
  iapply (mv_signal m K c (i := 8) (by decide) (dev9_eq c) rfl) $$ [HSG]
  · isplitr; · iexact HE
    iexact HSG
  iintro HSG
  iapply Hk
  iexact HSG

theorem part5 (v2 : BitVec 32) (v124 : BitVec 32) (v129 : BitVec 1) (v130 : BitVec 32) {k : (Σ' (v160 : BitVec 32) (c16_i32_108 : BitVec 32), BitVec 1) → Prog (TpuEff nD τ sig (Elt F) Λ₀ .tc) α} :
    iprop(Env m K ∗ SG c 9)
      ⊢ iprop((∀ (r0 : BitVec 32) (r1 : BitVec 32) (r2 : BitVec 1), (SG c 12) -∗ W c (k ⟨r0, r1, r2⟩) Q)
        -∗ W c (k0_part5 xM xW qM qW oM oW kA kAW vA vAW yM yW kM kW vM vW aM aW pM pW bM bW rM rW gM gW sK sV sA rA sC rC c v2 (SemArray.scalar (sig.barrier 0 rfl)) v124 v129 v130 >>= k) Q) := by
  rw [k0_part5_eq_skeleton]
  unfold k0_part5_skel
  simp only [semSignalWord, semWaitWord, Prog.lift, Prog.bind_op, Prog.bind_ret, Prog.pure_eq_ret]
  iintro ⟨#HE, HSG⟩ Hk
  iapply (mv_signal m K c (i := 9) (by decide) (dev10_eq c) rfl) $$ [HSG]
  · isplitr; · iexact HE
    iexact HSG
  iintro HSG
  iapply (mv_signal m K c (i := 10) (by decide) (dev11_eq c) rfl) $$ [HSG]
  · isplitr; · iexact HE
    iexact HSG
  iintro HSG
  iapply (mv_signal m K c (i := 11) (by decide) (dev12_eq c) rfl) $$ [HSG]
  · isplitr; · iexact HE
    iexact HSG
  iintro HSG
  iapply Hk
  iexact HSG

theorem part6 (v2 : BitVec 32) (v160 : BitVec 32) (c16_i32_108 : BitVec 32) (v161 : BitVec 1) {k : (Σ' (v189 : BitVec 32) (v194 : BitVec 1), BitVec 32) → Prog (TpuEff nD τ sig (Elt F) Λ₀ .tc) α} :
    iprop(Env m K ∗ SG c 12)
      ⊢ iprop((∀ (r0 : BitVec 32) (r1 : BitVec 1) (r2 : BitVec 32), (SG c 14) -∗ W c (k ⟨r0, r1, r2⟩) Q)
        -∗ W c (k0_part6 xM xW qM qW oM oW kA kAW vA vAW yM yW kM kW vM vW aM aW pM pW bM bW rM rW gM gW sK sV sA rA sC rC c v2 (SemArray.scalar (sig.barrier 0 rfl)) v160 c16_i32_108 v161 >>= k) Q) := by
  rw [k0_part6_eq_skeleton]
  unfold k0_part6_skel
  simp only [semSignalWord, semWaitWord, Prog.lift, Prog.bind_op, Prog.bind_ret, Prog.pure_eq_ret]
  iintro ⟨#HE, HSG⟩ Hk
  iapply (mv_signal m K c (i := 12) (by decide) (dev13_eq c) rfl) $$ [HSG]
  · isplitr; · iexact HE
    iexact HSG
  iintro HSG
  iapply (mv_signal m K c (i := 13) (by decide) (dev14_eq c) rfl) $$ [HSG]
  · isplitr; · iexact HE
    iexact HSG
  iintro HSG
  iapply Hk
  iexact HSG

theorem part7 (v2 : BitVec 32) (v189 : BitVec 32) (v194 : BitVec 1) (v195 : BitVec 32) {k : (BitVec 32) → Prog (TpuEff nD τ sig (Elt F) Λ₀ .tc) α} :
    iprop(Env m K ∗ SG c 14 ∗ BAR0 c ∗ KC m c 0 ∗ VC m c 0)
      ⊢ iprop((∀ (r0 : BitVec 32), (BAR1 c ∗ OW c (O3 c 15 0 0) ∗ KC m c 1 ∗ VC m c 1) -∗ W c (k (r0)) Q)
        -∗ W c (k0_part7 xM xW qM qW oM oW kA kAW vA vAW yM yW kM kW vM vW aM aW pM pW bM bW rM rW gM gW sK sV sA rA sC rC c v2 (SemArray.scalar (sig.barrier 0 rfl)) v189 v194 v195 >>= k) Q) := by
  rw [k0_part7_eq_skeleton]
  unfold k0_part7_skel
  simp only [semSignalWord, semWaitWord, Prog.lift, Prog.bind_op, Prog.bind_ret, Prog.pure_eq_ret]
  iintro ⟨#HE, HSG, HBAR, HKC, HVC⟩ Hk
  iapply (mv_signal m K c (i := 14) (by decide) (dev15_eq c) rfl) $$ [HSG]
  · isplitr; · iexact HE
    iexact HSG
  iintro HSG
  iapply (mv_bar m K c rfl) $$ [HSG HBAR]
  · isplitr; · iexact HE
    isplitl [HSG]; · iexact HSG
    iexact HBAR
  iintro ⟨HO, HBAR⟩
  iapply (mv_copyK m K c (0 : Fin 8) rfl (k0_off1_eq c (0 : Fin 8)) (sem13 (0 : Fin 8))) $$ [HKC]
  · isplitr; · iexact HE
    iexact HKC
  iintro HKC
  iapply (mv_copyV m K c (0 : Fin 8) rfl (k0_off1_eq c (0 : Fin 8)) (sem14 (0 : Fin 8))) $$ [HVC]
  · isplitr; · iexact HE
    iexact HVC
  iintro HVC
  iapply Hk
  isplitl [HBAR]; · iexact HBAR
  isplitl [HO]; · iexact HO
  isplitl [HKC]; · iexact HKC
  iexact HVC

end Parts

end Cert.KernelIdealProof

end
-- ==== Proof.KernelIdealParts2.lean ====
/-
What the stretches 8 to 13 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part8 (v199 : BitVec 32) {k : (PUnit) → Prog (TpuEff nD τ sig (Elt F) Λ₀ .tc) α} :
    iprop(Env m K ∗ KC m c 1 ∗ VC m c 1)
      ⊢ iprop(((KC m c 3 ∗ VC m c 3) -∗ W c (k ⟨⟩) Q)
        -∗ W c (k0_part8 xM xW qM qW oM oW kA kAW vA vAW yM yW kM kW vM vW aM aW pM pW bM bW rM rW gM gW sK sV sA rA sC rC c v199 >>= k) Q) := by
  rw [k0_part8_eq_skeleton]
  unfold k0_part8_skel
  simp only [semSignalWord, semWaitWord, Prog.lift, Prog.bind_op, Prog.bind_ret, Prog.pure_eq_ret]
  iintro ⟨#HE, HKC, HVC⟩ Hk
  iapply (mv_copyK m K c (1 : Fin 8) rfl (k0_off1_eq c (1 : Fin 8)) (sem13 (1 : Fin 8))) $$ [HKC]
  · isplitr; · iexact HE
    iexact HKC
  iintro HKC
  iapply (mv_copyV m K c (1 : Fin 8) rfl (k0_off1_eq c (1 : Fin 8)) (sem14 (1 : Fin 8))) $$ [HVC]
  · isplitr; · iexact HE
    iexact HVC
  iintro HVC
  iapply (mv_copyK m K c (2 : Fin 8) rfl (k0_off1_eq c (2 : Fin 8)) (sem13 (2 : Fin 8))) $$ [HKC]
  · isplitr; · iexact HE
    iexact HKC
  iintro HKC
  iapply (mv_copyV m K c (2 : Fin 8) rfl (k0_off1_eq c (2 : Fin 8)) (sem14 (2 : Fin 8))) $$ [HVC]
  · isplitr; · iexact HE
    iexact HVC
  iintro HVC
  iapply Hk
  isplitl [HKC]; · iexact HKC
  iexact HVC

theorem part9 (v199 : BitVec 32) {k : (PUnit) → Prog (TpuEff nD τ sig (Elt F) Λ₀ .tc) α} :
    iprop(Env m K ∗ KC m c 3 ∗ VC m c 3)
      ⊢ iprop(((KC m c 5 ∗ VC m c 5) -∗ W c (k ⟨⟩) Q)
        -∗ W c (k0_part9 xM xW qM qW oM oW kA kAW vA vAW yM yW kM kW vM vW aM aW pM pW bM bW rM rW gM gW sK sV sA rA sC rC c v199 >>= k) Q) := by
  rw [k0_part9_eq_skeleton]
  unfold k0_part9_skel
  simp only [semSignalWord, semWaitWord, Prog.lift, Prog.bind_op, Prog.bind_ret, Prog.pure_eq_ret]
  iintro ⟨#HE, HKC, HVC⟩ Hk
  iapply (mv_copyK m K c (3 : Fin 8) rfl (k0_off1_eq c (3 : Fin 8)) (sem13 (3 : Fin 8))) $$ [HKC]
  · isplitr; · iexact HE
    iexact HKC
  iintro HKC
  iapply (mv_copyV m K c (3 : Fin 8) rfl (k0_off1_eq c (3 : Fin 8)) (sem14 (3 : Fin 8))) $$ [HVC]
  · isplitr; · iexact HE
    iexact HVC
  iintro HVC
  iapply (mv_copyK m K c (4 : Fin 8) rfl (k0_off1_eq c (4 : Fin 8)) (sem13 (4 : Fin 8))) $$ [HKC]
  · isplitr; · iexact HE
    iexact HKC
  iintro HKC
  iapply (mv_copyV m K c (4 : Fin 8) rfl (k0_off1_eq c (4 : Fin 8)) (sem14 (4 : Fin 8))) $$ [HVC]
  · isplitr; · iexact HE
    iexact HVC
  iintro HVC
  iapply Hk
  isplitl [HKC]; · iexact HKC
  iexact HVC

theorem part10 (v199 : BitVec 32) {k : (PUnit) → Prog (TpuEff nD τ sig (Elt F) Λ₀ .tc) α} :
    iprop(Env m K ∗ KC m c 5 ∗ VC m c 5)
      ⊢ iprop(((KC m c 7 ∗ VC m c 7) -∗ W c (k ⟨⟩) Q)
        -∗ W c (k0_part10 xM xW qM qW oM oW kA kAW vA vAW yM yW kM kW vM vW aM aW pM pW bM bW rM rW gM gW sK sV sA rA sC rC c v199 >>= k) Q) := by
  rw [k0_part10_eq_skeleton]
  unfold k0_part10_skel
  simp only [semSignalWord, semWaitWord, Prog.lift, Prog.bind_op, Prog.bind_ret, Prog.pure_eq_ret]
  iintro ⟨#HE, HKC, HVC⟩ Hk
  iapply (mv_copyK m K c (5 : Fin 8) rfl (k0_off1_eq c (5 : Fin 8)) (sem13 (5 : Fin 8))) $$ [HKC]
  · isplitr; · iexact HE
    iexact HKC
  iintro HKC
  iapply (mv_copyV m K c (5 : Fin 8) rfl (k0_off1_eq c (5 : Fin 8)) (sem14 (5 : Fin 8))) $$ [HVC]
  · isplitr; · iexact HE
    iexact HVC
  iintro HVC
  iapply (mv_copyK m K c (6 : Fin 8) rfl (k0_off1_eq c (6 : Fin 8)) (sem13 (6 : Fin 8))) $$ [HKC]
  · isplitr; · iexact HE
    iexact HKC
  iintro HKC
  iapply (mv_copyV m K c (6 : Fin 8) rfl (k0_off1_eq c (6 : Fin 8)) (sem14 (6 : Fin 8))) $$ [HVC]
  · isplitr; · iexact HE
    iexact HVC
  iintro HVC
  iapply Hk
  isplitl [HKC]; · iexact HKC
  iexact HVC

theorem part11  {k : (FVec F S256x1024 .bf16) → Prog (TpuEff nD τ sig (Elt F) Λ₀ .tc) α} :
    iprop(Env m K ∗ KC m c 7 ∗ VC m c 7 ∗ BX m c ∗ BWq m c ∗ OW c (O3 c 15 0 0))
      ⊢ iprop(((VC m c 8 ∗ BX m c ∗ BWq m c ∗ KW m c 1 ∗ OW c (O3 c 15 0 0)) -∗ W c (k (qv m c)) Q)
        -∗ W c (k0_part11 xM xW qM qW oM oW kA kAW vA vAW yM yW kM kW vM vW aM aW pM pW bM bW rM rW gM gW sK sV sA rA sC rC c >>= k) Q) := by
  rw [k0_part11_eq_skeleton]
  unfold k0_part11_skel
  simp only [semSignalWord, semWaitWord, Prog.lift, Prog.bind_op, Prog.bind_ret, Prog.pure_eq_ret]
  unfold qv
  iintro ⟨#HE, HKC, HVC, HX, HWq, HO⟩ Hk
  iapply (mv_copyK m K c (7 : Fin 8) rfl (k0_off1_eq c (7 : Fin 8)) (sem13 (7 : Fin 8))) $$ [HKC]
  · isplitr; · iexact HE
    iexact HKC
  iintro HKC
  iapply (mv_copyV m K c (7 : Fin 8) rfl (k0_off1_eq c (7 : Fin 8)) (sem14 (7 : Fin 8))) $$ [HVC]
  · isplitr; · iexact HE
    iexact HVC
  iintro HVC
  iapply (mv_loadX m c) $$ [HX]
  · iexact HX
  iintro HX
  iapply (mv_loadWq m c) $$ [HWq]
  · iexact HWq
  iintro HWq
  ihave HKW := (KC_KW m c (i := (7 : Fin 8).val + 1) rfl) $$ HKC
  iapply (mv_waitK m K c (0 : Fin 8) (sem13 (0 : Fin 8))) $$ [HO HKW]
  · isplitr; · iexact HE
    isplitl [HO]; · iexact HO
    iexact HKW
  iintro ⟨HO, HKW⟩
  iapply Hk
  isplitl [HVC]; · iexact HVC
  isplitl [HX]; · iexact HX
  isplitl [HWq]; · iexact HWq
  isplitl [HKW]; · iexact HKW
  iexact HO

theorem part12  {k : (PUnit) → Prog (TpuEff nD τ sig (Elt F) Λ₀ .tc) α} :
    iprop(Env m K ∗ VC m c 8 ∗ OW c (O3 c 15 0 0) ∗ KW m c 1 ∗ AT m c 0)
      ⊢ iprop(((VW m c 1 ∗ OW c (O3 c 15 0 0) ∗ KW m c 2 ∗ AT m c 1) -∗ W c (k ⟨⟩) Q)
        -∗ W c (k0_part12 xM xW qM qW oM oW kA kAW vA vAW yM yW kM kW vM vW aM aW pM pW bM bW rM rW gM gW sK sV sA rA sC rC c (qv m c) >>= k) Q) := by
  rw [k0_part12_eq_skeleton]
  unfold k0_part12_skel
  simp only [semSignalWord, semWaitWord, Prog.lift, Prog.bind_op, Prog.bind_ret, Prog.pure_eq_ret]
  iintro ⟨#HE, HVC, HO, HKW, HAT⟩ Hk
  ihave HVW := (VC_VW m c (i := 8) rfl) $$ HVC
  iapply (mv_waitV m K c (0 : Fin 8) (sem14 (0 : Fin 8))) $$ [HO HVW]
  · isplitr; · iexact HE
    isplitl [HO]; · iexact HO
    iexact HVW
  iintro ⟨HO, HVW⟩
  iapply (mv_loadK m c (0 : Fin 8) (i := 1) (by decide) rfl) $$ [HKW]
  · iexact HKW
  iintro HKW
  iapply (mv_loadV m c (0 : Fin 8) (i := 1) (by decide) rfl) $$ [HVW]
  · iexact HVW
  iintro HVW
  iapply (mv_attnLoad m c (h := 0)) $$ [HAT]
  · iexact HAT
  iintro %v HAT
  iapply (mv_attnStore m c (0 : Fin 8) (w := k0_pay2 (qv m c) (kblk m c 0) (vblk m c 0)) rfl (o := ![0, 0]) rfl) $$ [HAT]
  · iexact HAT
  iintro HAT
  iapply (mv_waitK m K c (1 : Fin 8) (sem13 (1 : Fin 8))) $$ [HO HKW]
  · isplitr; · iexact HE
    isplitl [HO]; · iexact HO
    iexact HKW
  iintro ⟨HO, HKW⟩
  iapply Hk
  isplitl [HVW]; · iexact HVW
  isplitl [HO]; · iexact HO
  isplitl [HKW]; · iexact HKW
  iexact HAT

theorem part13  {k : (PUnit) → Prog (TpuEff nD τ sig (Elt F) Λ₀ .tc) α} :
    iprop(Env m K ∗ OW c (O3 c 15 0 0) ∗ VW m c 1 ∗ KW m c 2 ∗ AT m c 1)
      ⊢ iprop(((OW c (O3 c 15 0 0) ∗ VW m c 2 ∗ KW m c 3 ∗ AT m c 2) -∗ W c (k ⟨⟩) Q)
        -∗ W c (k0_part13 xM xW qM qW oM oW kA kAW vA vAW yM yW kM kW vM vW aM aW pM pW bM bW rM rW gM gW sK sV sA rA sC rC c (qv m c) >>= k) Q) := by
  rw [k0_part13_eq_skeleton]
  unfold k0_part13_skel
  simp only [semSignalWord, semWaitWord, Prog.lift, Prog.bind_op, Prog.bind_ret, Prog.pure_eq_ret]
  iintro ⟨#HE, HO, HVW, HKW, HAT⟩ Hk
  iapply (mv_waitV m K c (1 : Fin 8) (sem14 (1 : Fin 8))) $$ [HO HVW]
  · isplitr; · iexact HE
    isplitl [HO]; · iexact HO
    iexact HVW
  iintro ⟨HO, HVW⟩
  iapply (mv_loadK m c (1 : Fin 8) (i := 2) (by decide) rfl) $$ [HKW]
  · iexact HKW
  iintro HKW
  iapply (mv_loadV m c (1 : Fin 8) (i := 2) (by decide) rfl) $$ [HVW]
  · iexact HVW
  iintro HVW
  iapply (mv_attnLoad m c (h := 1)) $$ [HAT]
  · iexact HAT
  iintro %v HAT
  iapply (mv_attnStore m c (1 : Fin 8) (w := k0_pay3 (qv m c) (kblk m c 1) (vblk m c 1)) rfl (o := ![0, 128]) rfl) $$ [HAT]
  · iexact HAT
  iintro HAT
  iapply (mv_waitK m K c (2 : Fin 8) (sem13 (2 : Fin 8))) $$ [HO HKW]
  · isplitr; · iexact HE
    isplitl [HO]; · iexact HO
    iexact HKW
  iintro ⟨HO, HKW⟩
  iapply Hk
  isplitl [HO]; · iexact HO
  isplitl [HVW]; · iexact HVW
  isplitl [HKW]; · iexact HKW
  iexact HAT

end Parts

end Cert.KernelIdealProof

end
-- ==== Proof.KernelIdealParts3.lean ====
/-
What the stretches 14 to 20 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part14  {k : (PUnit) → Prog (TpuEff nD τ sig (Elt F) Λ₀ .tc) α} :
    iprop(Env m K ∗ OW c (O3 c 15 0 0) ∗ VW m c 2 ∗ KW m c 3 ∗ AT m c 2)
      ⊢ iprop(((OW c (O3 c 15 0 0) ∗ VW m c 3 ∗ KW m c 4 ∗ AT m c 3) -∗ W c (k ⟨⟩) Q)
        -∗ W c (k0_part14 xM xW qM qW oM oW kA kAW vA vAW yM yW kM kW vM vW aM aW pM pW bM bW rM rW gM gW sK sV sA rA sC rC c (qv m c) >>= k) Q) := by
  rw [k0_part14_eq_skeleton]
  unfold k0_part14_skel
  simp only [semSignalWord, semWaitWord, Prog.lift, Prog.bind_op, Prog.bind_ret, Prog.pure_eq_ret]
  iintro ⟨#HE, HO, HVW, HKW, HAT⟩ Hk
  iapply (mv_waitV m K c (2 : Fin 8) (sem14 (2 : Fin 8))) $$ [HO HVW]
  · isplitr; · iexact HE
    isplitl [HO]; · iexact HO
    iexact HVW
  iintro ⟨HO, HVW⟩
  iapply (mv_loadK m c (2 : Fin 8) (i := 3) (by decide) rfl) $$ [HKW]
  · iexact HKW
  iintro HKW
  iapply (mv_loadV m c (2 : Fin 8) (i := 3) (by decide) rfl) $$ [HVW]
  · iexact HVW
  iintro HVW
  iapply (mv_attnLoad m c (h := 2)) $$ [HAT]
  · iexact HAT
  iintro %v HAT
  iapply (mv_attnStore m c (2 : Fin 8) (w := k0_pay4 (qv m c) (kblk m c 2) (vblk m c 2)) rfl (o := ![0, 256]) rfl) $$ [HAT]
  · iexact HAT
  iintro HAT
  iapply (mv_waitK m K c (3 : Fin 8) (sem13 (3 : Fin 8))) $$ [HO HKW]
  · isplitr; · iexact HE
    isplitl [HO]; · iexact HO
    iexact HKW
  iintro ⟨HO, HKW⟩
  iapply Hk
  isplitl [HO]; · iexact HO
  isplitl [HVW]; · iexact HVW
  isplitl [HKW]; · iexact HKW
  iexact HAT

theorem part15  {k : (PUnit) → Prog (TpuEff nD τ sig (Elt F) Λ₀ .tc) α} :
    iprop(Env m K ∗ OW c (O3 c 15 0 0) ∗ VW m c 3 ∗ KW m c 4 ∗ AT m c 3)
      ⊢ iprop(((OW c (O3 c 15 0 0) ∗ VW m c 4 ∗ KW m c 5 ∗ AT m c 4) -∗ W c (k ⟨⟩) Q)
        -∗ W c (k0_part15 xM xW qM qW oM oW kA kAW vA vAW yM yW kM kW vM vW aM aW pM pW bM bW rM rW gM gW sK sV sA rA sC rC c (qv m c) >>= k) Q) := by
  rw [k0_part15_eq_skeleton]
  unfold k0_part15_skel
  simp only [semSignalWord, semWaitWord, Prog.lift, Prog.bind_op, Prog.bind_ret, Prog.pure_eq_ret]
  iintro ⟨#HE, HO, HVW, HKW, HAT⟩ Hk
  iapply (mv_waitV m K c (3 : Fin 8) (sem14 (3 : Fin 8))) $$ [HO HVW]
  · isplitr; · iexact HE
    isplitl [HO]; · iexact HO
    iexact HVW
  iintro ⟨HO, HVW⟩
  iapply (mv_loadK m c (3 : Fin 8) (i := 4) (by decide) rfl) $$ [HKW]
  · iexact HKW
  iintro HKW
  iapply (mv_loadV m c (3 : Fin 8) (i := 4) (by decide) rfl) $$ [HVW]
  · iexact HVW
  iintro HVW
  iapply (mv_attnLoad m c (h := 3)) $$ [HAT]
  · iexact HAT
  iintro %v HAT
  iapply (mv_attnStore m c (3 : Fin 8) (w := k0_pay5 (qv m c) (kblk m c 3) (vblk m c 3)) rfl (o := ![0, 384]) rfl) $$ [HAT]
  · iexact HAT
  iintro HAT
  iapply (mv_waitK m K c (4 : Fin 8) (sem13 (4 : Fin 8))) $$ [HO HKW]
  · isplitr; · iexact HE
    isplitl [HO]; · iexact HO
    iexact HKW
  iintro ⟨HO, HKW⟩
  iapply Hk
  isplitl [HO]; · iexact HO
  isplitl [HVW]; · iexact HVW
  isplitl [HKW]; · iexact HKW
  iexact HAT

theorem part16  {k : (PUnit) → Prog (TpuEff nD τ sig (Elt F) Λ₀ .tc) α} :
    iprop(Env m K ∗ OW c (O3 c 15 0 0) ∗ VW m c 4 ∗ KW m c 5 ∗ AT m c 4)
      ⊢ iprop(((OW c (O3 c 15 0 0) ∗ VW m c 5 ∗ KW m c 6 ∗ AT m c 5) -∗ W c (k ⟨⟩) Q)
        -∗ W c (k0_part16 xM xW qM qW oM oW kA kAW vA vAW yM yW kM kW vM vW aM aW pM pW bM bW rM rW gM gW sK sV sA rA sC rC c (qv m c) >>= k) Q) := by
  rw [k0_part16_eq_skeleton]
  unfold k0_part16_skel
  simp only [semSignalWord, semWaitWord, Prog.lift, Prog.bind_op, Prog.bind_ret, Prog.pure_eq_ret]
  iintro ⟨#HE, HO, HVW, HKW, HAT⟩ Hk
  iapply (mv_waitV m K c (4 : Fin 8) (sem14 (4 : Fin 8))) $$ [HO HVW]
  · isplitr; · iexact HE
    isplitl [HO]; · iexact HO
    iexact HVW
  iintro ⟨HO, HVW⟩
  iapply (mv_loadK m c (4 : Fin 8) (i := 5) (by decide) rfl) $$ [HKW]
  · iexact HKW
  iintro HKW
  iapply (mv_loadV m c (4 : Fin 8) (i := 5) (by decide) rfl) $$ [HVW]
  · iexact HVW
  iintro HVW
  iapply (mv_attnLoad m c (h := 4)) $$ [HAT]
  · iexact HAT
  iintro %v HAT
  iapply (mv_attnStore m c (4 : Fin 8) (w := k0_pay6 (qv m c) (kblk m c 4) (vblk m c 4)) rfl (o := ![0, 512]) rfl) $$ [HAT]
  · iexact HAT
  iintro HAT
  iapply (mv_waitK m K c (5 : Fin 8) (sem13 (5 : Fin 8))) $$ [HO HKW]
  · isplitr; · iexact HE
    isplitl [HO]; · iexact HO
    iexact HKW
  iintro ⟨HO, HKW⟩
  iapply Hk
  isplitl [HO]; · iexact HO
  isplitl [HVW]; · iexact HVW
  isplitl [HKW]; · iexact HKW
  iexact HAT

theorem part17  {k : (PUnit) → Prog (TpuEff nD τ sig (Elt F) Λ₀ .tc) α} :
    iprop(Env m K ∗ OW c (O3 c 15 0 0) ∗ VW m c 5 ∗ KW m c 6 ∗ AT m c 5)
      ⊢ iprop(((OW c (O3 c 15 0 0) ∗ VW m c 6 ∗ KW m c 7 ∗ AT m c 6) -∗ W c (k ⟨⟩) Q)
        -∗ W c (k0_part17 xM xW qM qW oM oW kA kAW vA vAW yM yW kM kW vM vW aM aW pM pW bM bW rM rW gM gW sK sV sA rA sC rC c (qv m c) >>= k) Q) := by
  rw [k0_part17_eq_skeleton]
  unfold k0_part17_skel
  simp only [semSignalWord, semWaitWord, Prog.lift, Prog.bind_op, Prog.bind_ret, Prog.pure_eq_ret]
  iintro ⟨#HE, HO, HVW, HKW, HAT⟩ Hk
  iapply (mv_waitV m K c (5 : Fin 8) (sem14 (5 : Fin 8))) $$ [HO HVW]
  · isplitr; · iexact HE
    isplitl [HO]; · iexact HO
    iexact HVW
  iintro ⟨HO, HVW⟩
  iapply (mv_loadK m c (5 : Fin 8) (i := 6) (by decide) rfl) $$ [HKW]
  · iexact HKW
  iintro HKW
  iapply (mv_loadV m c (5 : Fin 8) (i := 6) (by decide) rfl) $$ [HVW]
  · iexact HVW
  iintro HVW
  iapply (mv_attnLoad m c (h := 5)) $$ [HAT]
  · iexact HAT
  iintro %v HAT
  iapply (mv_attnStore m c (5 : Fin 8) (w := k0_pay7 (qv m c) (kblk m c 5) (vblk m c 5)) rfl (o := ![0, 640]) rfl) $$ [HAT]
  · iexact HAT
  iintro HAT
  iapply (mv_waitK m K c (6 : Fin 8) (sem13 (6 : Fin 8))) $$ [HO HKW]
  · isplitr; · iexact HE
    isplitl [HO]; · iexact HO
    iexact HKW
  iintro ⟨HO, HKW⟩
  iapply Hk
  isplitl [HO]; · iexact HO
  isplitl [HVW]; · iexact HVW
  isplitl [HKW]; · iexact HKW
  iexact HAT

theorem part18  {k : (PUnit) → Prog (TpuEff nD τ sig (Elt F) Λ₀ .tc) α} :
    iprop(Env m K ∗ OW c (O3 c 15 0 0) ∗ VW m c 6 ∗ KW m c 7 ∗ AT m c 6)
      ⊢ iprop(((OW c (O3 c 15 0 0) ∗ VW m c 7 ∗ KW m c 8 ∗ AT m c 7) -∗ W c (k ⟨⟩) Q)
        -∗ W c (k0_part18 xM xW qM qW oM oW kA kAW vA vAW yM yW kM kW vM vW aM aW pM pW bM bW rM rW gM gW sK sV sA rA sC rC c (qv m c) >>= k) Q) := by
  rw [k0_part18_eq_skeleton]
  unfold k0_part18_skel
  simp only [semSignalWord, semWaitWord, Prog.lift, Prog.bind_op, Prog.bind_ret, Prog.pure_eq_ret]
  iintro ⟨#HE, HO, HVW, HKW, HAT⟩ Hk
  iapply (mv_waitV m K c (6 : Fin 8) (sem14 (6 : Fin 8))) $$ [HO HVW]
  · isplitr; · iexact HE
    isplitl [HO]; · iexact HO
    iexact HVW
  iintro ⟨HO, HVW⟩
  iapply (mv_loadK m c (6 : Fin 8) (i := 7) (by decide) rfl) $$ [HKW]
  · iexact HKW
  iintro HKW
  iapply (mv_loadV m c (6 : Fin 8) (i := 7) (by decide) rfl) $$ [HVW]
  · iexact HVW
  iintro HVW
  iapply (mv_attnLoad m c (h := 6)) $$ [HAT]
  · iexact HAT
  iintro %v HAT
  iapply (mv_attnStore m c (6 : Fin 8) (w := k0_pay8 (qv m c) (kblk m c 6) (vblk m c 6)) rfl (o := ![0, 768]) rfl) $$ [HAT]
  · iexact HAT
  iintro HAT
  iapply (mv_waitK m K c (7 : Fin 8) (sem13 (7 : Fin 8))) $$ [HO HKW]
  · isplitr; · iexact HE
    isplitl [HO]; · iexact HO
    iexact HKW
  iintro ⟨HO, HKW⟩
  iapply Hk
  isplitl [HO]; · iexact HO
  isplitl [HVW]; · iexact HVW
  isplitl [HKW]; · iexact HKW
  iexact HAT

theorem part19  {k : (FVec F S256x1024 .bf16) → Prog (TpuEff nD τ sig (Elt F) Λ₀ .tc) α} :
    iprop(Env m K ∗ OW c (O3 c 15 0 0) ∗ VW m c 7 ∗ KW m c 8 ∗ AT m c 7 ∗ BWo m c ∗ BP0 c ∗ BB0 c)
      ⊢ iprop(((OW c (O3 c 15 0 0) ∗ VW m c 8 ∗ KW m c 8 ∗ BWo m c ∗ BA m c ∗ BP m c ∗ BB0 c) -∗ W c (k (pbfF m c)) Q)
        -∗ W c (k0_part19 xM xW qM qW oM oW kA kAW vA vAW yM yW kM kW vM vW aM aW pM pW bM bW rM rW gM gW sK sV sA rA sC rC c (qv m c) >>= k) Q) := by
  rw [k0_part19_eq_skeleton]
  unfold k0_part19_skel
  simp only [semSignalWord, semWaitWord, Prog.lift, Prog.bind_op, Prog.bind_ret, Prog.pure_eq_ret]
  unfold pbfF
  iintro ⟨#HE, HO, HVW, HKW, HAT, HWo, HP, HB⟩ Hk
  iapply (mv_waitV m K c (7 : Fin 8) (sem14 (7 : Fin 8))) $$ [HO HVW]
  · isplitr; · iexact HE
    isplitl [HO]; · iexact HO
    iexact HVW
  iintro ⟨HO, HVW⟩
  iapply (mv_loadK m c (7 : Fin 8) (i := 8) (by decide) rfl) $$ [HKW]
  · iexact HKW
  iintro HKW
  iapply (mv_loadV m c (7 : Fin 8) (i := 8) (by decide) rfl) $$ [HVW]
  · iexact HVW
  iintro HVW
  iapply (mv_attnLoad m c (h := 7)) $$ [HAT]
  · iexact HAT
  iintro %v HAT
  iapply (mv_attnStore m c (7 : Fin 8) (w := k0_pay9 (qv m c) (kblk m c 7) (vblk m c 7)) rfl (o := ![0, 896]) rfl) $$ [HAT]
  · iexact HAT
  iintro HAT
  iapply (mv_loadWo m c) $$ [HWo]
  · iexact HWo
  iintro HWo
  ihave HA := (AT_BA m c (i := (7 : Fin 8).val + 1) rfl) $$ HAT
  iapply (mv_loadA m c) $$ [HA]
  · iexact HA
  iintro HA
  iapply (mv_deadP c) $$ [HP]
  · iexact HP
  iintro %v HP
  iapply (mv_storeP m c (w := k0_pay11 (wostg m c) (attnF m c)) rfl) $$ [HP]
  · iexact HP
  iintro HP
  iapply (mv_deadB c) $$ [HB]
  · iexact HB
  iintro %v HB
  iapply Hk
  isplitl [HO]; · iexact HO
  isplitl [HVW]; · iexact HVW
  isplitl [HKW]; · iexact HKW
  isplitl [HWo]; · iexact HWo
  isplitl [HA]; · iexact HA
  isplitl [HP]; · iexact HP
  iexact HB

theorem part20 (v2 : BitVec 32) {k : (PUnit) → Prog (TpuEff nD τ sig (Elt F) Λ₀ .tc) α} :
    iprop(Env m K ∗ BB0 c ∗ OW c (O3 c 15 0 0) ∗ (bigSep (Finset.range 15) (aRest (F := F) c)))
      ⊢ iprop(((prow c c.val (pbfF m c) ∗ AS m c 1) -∗ W c (k ⟨⟩) Q)
        -∗ W c (k0_part20 xM xW qM qW oM oW kA kAW vA vAW yM yW kM kW vM vW aM aW pM pW bM bW rM rW gM gW sK sV sA rA sC rC c v2 (pbfF m c) >>= k) Q) := by
  rw [k0_part20_eq_skeleton]
  unfold k0_part20_skel
  simp only [semSignalWord, semWaitWord, Prog.lift, Prog.bind_op, Prog.bind_ret, Prog.pure_eq_ret]
  iintro ⟨#HE, HB, HO, HR⟩ Hk
  iapply (mv_storeB m c (w := pbfF m c) rfl) $$ [HB]
  · iexact HB
  iintro HB
  ihave Hh := (AS_start m c) $$ [HO HB HR]
  · isplitl [HO]; · iexact HO
    isplitl [HB]; · iexact HB
    iexact HR
  icases Hh with ⟨HAS, HB⟩
  iapply (mv_asend m K c (i := 0) (by decide) (dev16_eq c) (k0_off4_eq c) (off5_eq c (0 : Fin 15)) (sem15o (pr c 0) (off2_eq c (0 : Fin 15)) _) (sem16o c (k0_off3_eq c) _)) $$ [HAS]
  · isplitr; · iexact HE
    iexact HAS
  iintro HAS
  iapply Hk
  isplitl [HB]; · iexact HB
  iexact HAS

end Parts

end Cert.KernelIdealProof

end
-- ==== Proof.KernelIdealParts4.lean ====
/-
What the stretches 21 to 28 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part21 (v2 : BitVec 32) {k : (Σ' (v648 : BitVec 32) (v649 : BitVec 32) (v650 : BitVec 1) (v651 : BitVec 1), BitVec 1) → Prog (TpuEff nD τ sig (Elt F) Λ₀ .tc) α} :
    iprop(Env m K ∗ AS m c 1)
      ⊢ iprop((∀ (r0 : BitVec 32) (r1 : BitVec 32) (r2 : BitVec 1) (r3 : BitVec 1) (r4 : BitVec 1), (AS m c 3) -∗ W c (k ⟨r0, r1, r2, r3, r4⟩) Q)
        -∗ W c (k0_part21 xM xW qM qW oM oW kA kAW vA vAW yM yW kM kW vM vW aM aW pM pW bM bW rM rW gM gW sK sV sA rA sC rC c v2 >>= k) Q) := by
  rw [k0_part21_eq_skeleton]
  unfold k0_part21_skel
  simp only [semSignalWord, semWaitWord, Prog.lift, Prog.bind_op, Prog.bind_ret, Prog.pure_eq_ret]
  iintro ⟨#HE, HAS⟩ Hk
  iapply (mv_asend m K c (i := 1) (by decide) (dev17_eq c) (k0_off4_eq c) (off5_eq c (1 : Fin 15)) (sem15o (pr c 1) (off2_eq c (1 : Fin 15)) _) (sem16o c (k0_off3_eq c) _)) $$ [HAS]
  · isplitr; · iexact HE
    iexact HAS
  iintro HAS
  iapply (mv_asend m K c (i := 2) (by decide) (dev18_eq c) (k0_off4_eq c) (off5_eq c (2 : Fin 15)) (sem15o (pr c 2) (off2_eq c (2 : Fin 15)) _) (sem16o c (k0_off3_eq c) _)) $$ [HAS]
  · isplitr; · iexact HE
    iexact HAS
  iintro HAS
  iapply Hk
  iexact HAS

theorem part22 (v2 : BitVec 32) (v648 : BitVec 32) (v649 : BitVec 32) (v650 : BitVec 1) (v651 : BitVec 1) (v652 : BitVec 1) {k : (Σ' (v688 : BitVec 32) (c16_i32_531 : BitVec 32), BitVec 32) → Prog (TpuEff nD τ sig (Elt F) Λ₀ .tc) α} :
    iprop(Env m K ∗ AS m c 3)
      ⊢ iprop((∀ (r0 : BitVec 32) (r1 : BitVec 32) (r2 : BitVec 32), (AS m c 5) -∗ W c (k ⟨r0, r1, r2⟩) Q)
        -∗ W c (k0_part22 xM xW qM qW oM oW kA kAW vA vAW yM yW kM kW vM vW aM aW pM pW bM bW rM rW gM gW sK sV sA rA sC rC c v2 v648 v649 v650 v651 v652 >>= k) Q) := by
  rw [k0_part22_eq_skeleton]
  unfold k0_part22_skel
  simp only [semSignalWord, semWaitWord, Prog.lift, Prog.bind_op, Prog.bind_ret, Prog.pure_eq_ret]
  iintro ⟨#HE, HAS⟩ Hk
  iapply (mv_asend m K c (i := 3) (by decide) (dev19_eq c) (k0_off4_eq c) (off5_eq c (3 : Fin 15)) (sem15o (pr c 3) (off2_eq c (3 : Fin 15)) _) (sem16o c (k0_off3_eq c) _)) $$ [HAS]
  · isplitr; · iexact HE
    iexact HAS
  iintro HAS
  iapply (mv_asend m K c (i := 4) (by decide) (dev20_eq c) (k0_off4_eq c) (off5_eq c (4 : Fin 15)) (sem15o (pr c 4) (off2_eq c (4 : Fin 15)) _) (sem16o c (k0_off3_eq c) _)) $$ [HAS]
  · isplitr; · iexact HE
    iexact HAS
  iintro HAS
  iapply Hk
  iexact HAS

theorem part23 (v2 : BitVec 32) (v688 : BitVec 32) (c16_i32_531 : BitVec 32) (c0_i32_532 : BitVec 32) {k : (PUnit) → Prog (TpuEff nD τ sig (Elt F) Λ₀ .tc) α} :
    iprop(Env m K ∗ AS m c 5)
      ⊢ iprop(((AS m c 6) -∗ W c (k ⟨⟩) Q)
        -∗ W c (k0_part23 xM xW qM qW oM oW kA kAW vA vAW yM yW kM kW vM vW aM aW pM pW bM bW rM rW gM gW sK sV sA rA sC rC c v2 v688 c16_i32_531 c0_i32_532 >>= k) Q) := by
  rw [k0_part23_eq_skeleton]
  unfold k0_part23_skel
  simp only [semSignalWord, semWaitWord, Prog.lift, Prog.bind_op, Prog.bind_ret, Prog.pure_eq_ret]
  iintro ⟨#HE, HAS⟩ Hk
  iapply (mv_asend m K c (i := 5) (by decide) (dev21_eq c) (k0_off4_eq c) (off5_eq c (5 : Fin 15)) (sem15o (pr c 5) (off2_eq c (5 : Fin 15)) _) (sem16o c (k0_off3_eq c) _)) $$ [HAS]
  · isplitr; · iexact HE
    iexact HAS
  iintro HAS
  iapply Hk
  iexact HAS

theorem part24 (v2 : BitVec 32) {k : (Σ' (v761 : BitVec 32), BitVec 32) → Prog (TpuEff nD τ sig (Elt F) Λ₀ .tc) α} :
    iprop(Env m K ∗ AS m c 6)
      ⊢ iprop((∀ (r0 : BitVec 32) (r1 : BitVec 32), (AS m c 8) -∗ W c (k ⟨r0, r1⟩) Q)
        -∗ W c (k0_part24 xM xW qM qW oM oW kA kAW vA vAW yM yW kM kW vM vW aM aW pM pW bM bW rM rW gM gW sK sV sA rA sC rC c v2 >>= k) Q) := by
  rw [k0_part24_eq_skeleton]
  unfold k0_part24_skel
  simp only [semSignalWord, semWaitWord, Prog.lift, Prog.bind_op, Prog.bind_ret, Prog.pure_eq_ret]
  iintro ⟨#HE, HAS⟩ Hk
  iapply (mv_asend m K c (i := 6) (by decide) (dev22_eq c) (k0_off4_eq c) (off5_eq c (6 : Fin 15)) (sem15o (pr c 6) (off2_eq c (6 : Fin 15)) _) (sem16o c (k0_off3_eq c) _)) $$ [HAS]
  · isplitr; · iexact HE
    iexact HAS
  iintro HAS
  iapply (mv_asend m K c (i := 7) (by decide) (dev23_eq c) (k0_off4_eq c) (off5_eq c (7 : Fin 15)) (sem15o (pr c 7) (off2_eq c (7 : Fin 15)) _) (sem16o c (k0_off3_eq c) _)) $$ [HAS]
  · isplitr; · iexact HE
    iexact HAS
  iintro HAS
  iapply Hk
  iexact HAS

theorem part25 (v2 : BitVec 32) (v761 : BitVec 32) (c16_i32_576 : BitVec 32) {k : (Σ' (v795 : BitVec 32) (v796 : BitVec 32), BitVec 32) → Prog (TpuEff nD τ sig (Elt F) Λ₀ .tc) α} :
    iprop(Env m K ∗ AS m c 8)
      ⊢ iprop((∀ (r0 : BitVec 32) (r1 : BitVec 32) (r2 : BitVec 32), (AS m c 10) -∗ W c (k ⟨r0, r1, r2⟩) Q)
        -∗ W c (k0_part25 xM xW qM qW oM oW kA kAW vA vAW yM yW kM kW vM vW aM aW pM pW bM bW rM rW gM gW sK sV sA rA sC rC c v2 v761 c16_i32_576 >>= k) Q) := by
  rw [k0_part25_eq_skeleton]
  unfold k0_part25_skel
  simp only [semSignalWord, semWaitWord, Prog.lift, Prog.bind_op, Prog.bind_ret, Prog.pure_eq_ret]
  iintro ⟨#HE, HAS⟩ Hk
  iapply (mv_asend m K c (i := 8) (by decide) (dev24_eq c) (k0_off4_eq c) (off5_eq c (8 : Fin 15)) (sem15o (pr c 8) (off2_eq c (8 : Fin 15)) _) (sem16o c (k0_off3_eq c) _)) $$ [HAS]
  · isplitr; · iexact HE
    iexact HAS
  iintro HAS
  iapply (mv_asend m K c (i := 9) (by decide) (dev25_eq c) (k0_off4_eq c) (off5_eq c (9 : Fin 15)) (sem15o (pr c 9) (off2_eq c (9 : Fin 15)) _) (sem16o c (k0_off3_eq c) _)) $$ [HAS]
  · isplitr; · iexact HE
    iexact HAS
  iintro HAS
  iapply Hk
  iexact HAS

theorem part26 (v2 : BitVec 32) (v795 : BitVec 32) (v796 : BitVec 32) (c0_i32_599 : BitVec 32) {k : (PUnit) → Prog (TpuEff nD τ sig (Elt F) Λ₀ .tc) α} :
    iprop(Env m K ∗ AS m c 10)
      ⊢ iprop(((AS m c 11) -∗ W c (k ⟨⟩) Q)
        -∗ W c (k0_part26 xM xW qM qW oM oW kA kAW vA vAW yM yW kM kW vM vW aM aW pM pW bM bW rM rW gM gW sK sV sA rA sC rC c v2 v795 v796 c0_i32_599 >>= k) Q) := by
  rw [k0_part26_eq_skeleton]
  unfold k0_part26_skel
  simp only [semSignalWord, semWaitWord, Prog.lift, Prog.bind_op, Prog.bind_ret, Prog.pure_eq_ret]
  iintro ⟨#HE, HAS⟩ Hk
  iapply (mv_asend m K c (i := 10) (by decide) (dev26_eq c) (k0_off4_eq c) (off5_eq c (10 : Fin 15)) (sem15o (pr c 10) (off2_eq c (10 : Fin 15)) _) (sem16o c (k0_off3_eq c) _)) $$ [HAS]
  · isplitr; · iexact HE
    iexact HAS
  iintro HAS
  iapply Hk
  iexact HAS

theorem part27 (v2 : BitVec 32) {k : (PUnit) → Prog (TpuEff nD τ sig (Elt F) Λ₀ .tc) α} :
    iprop(Env m K ∗ AS m c 11)
      ⊢ iprop(((AS m c 13) -∗ W c (k ⟨⟩) Q)
        -∗ W c (k0_part27 xM xW qM qW oM oW kA kAW vA vAW yM yW kM kW vM vW aM aW pM pW bM bW rM rW gM gW sK sV sA rA sC rC c v2 >>= k) Q) := by
  rw [k0_part27_eq_skeleton]
  unfold k0_part27_skel
  simp only [semSignalWord, semWaitWord, Prog.lift, Prog.bind_op, Prog.bind_ret, Prog.pure_eq_ret]
  iintro ⟨#HE, HAS⟩ Hk
  iapply (mv_asend m K c (i := 11) (by decide) (dev27_eq c) (k0_off4_eq c) (off5_eq c (11 : Fin 15)) (sem15o (pr c 11) (off2_eq c (11 : Fin 15)) _) (sem16o c (k0_off3_eq c) _)) $$ [HAS]
  · isplitr; · iexact HE
    iexact HAS
  iintro HAS
  iapply (mv_asend m K c (i := 12) (by decide) (dev28_eq c) (k0_off4_eq c) (off5_eq c (12 : Fin 15)) (sem15o (pr c 12) (off2_eq c (12 : Fin 15)) _) (sem16o c (k0_off3_eq c) _)) $$ [HAS]
  · isplitr; · iexact HE
    iexact HAS
  iintro HAS
  iapply Hk
  iexact HAS

theorem part28 (v2 : BitVec 32) {k : (Σ' (v900 : BitVec 32) (v901 : BitVec 32) (v902 : BitVec 1) (v903 : BitVec 1), BitVec 1) → Prog (TpuEff nD τ sig (Elt F) Λ₀ .tc) α} :
    iprop(Env m K ∗ AS m c 13)
      ⊢ iprop((∀ (r0 : BitVec 32) (r1 : BitVec 32) (r2 : BitVec 1) (r3 : BitVec 1) (r4 : BitVec 1), (AS m c 15) -∗ W c (k ⟨r0, r1, r2, r3, r4⟩) Q)
        -∗ W c (k0_part28 xM xW qM qW oM oW kA kAW vA vAW yM yW kM kW vM vW aM aW pM pW bM bW rM rW gM gW sK sV sA rA sC rC c v2 >>= k) Q) := by
  rw [k0_part28_eq_skeleton]
  unfold k0_part28_skel
  simp only [semSignalWord, semWaitWord, Prog.lift, Prog.bind_op, Prog.bind_ret, Prog.pure_eq_ret]
  iintro ⟨#HE, HAS⟩ Hk
  iapply (mv_asend m K c (i := 13) (by decide) (dev29_eq c) (k0_off4_eq c) (off5_eq c (13 : Fin 15)) (sem15o (pr c 13) (off2_eq c (13 : Fin 15)) _) (sem16o c (k0_off3_eq c) _)) $$ [HAS]
  · isplitr; · iexact HE
    iexact HAS
  iintro HAS
  iapply (mv_asend m K c (i := 14) (by decide) (dev30_eq c) (k0_off4_eq c) (off5_eq c (14 : Fin 15)) (sem15o (pr c 14) (off2_eq c (14 : Fin 15)) _) (sem16o c (k0_off3_eq c) _)) $$ [HAS]
  · isplitr; · iexact HE
    iexact HAS
  iintro HAS
  iapply Hk
  iexact HAS

end Parts

end Cert.KernelIdealProof

end
-- ==== Proof.KernelIdealParts5.lean ====
/-
What the stretches 29 to 36 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part29 (v2 : BitVec 32) (v900 : BitVec 32) (v901 : BitVec 32) (v902 : BitVec 1) (v903 : BitVec 1) (v904 : BitVec 1) {k : (Σ' (v936 : BitVec 32) (v937 : BitVec 32), BitVec 1) → Prog (TpuEff nD τ sig (Elt F) Λ₀ .tc) α} :
    iprop(Env m K ∗ AR m c 0)
      ⊢ iprop((∀ (r0 : BitVec 32) (r1 : BitVec 32) (r2 : BitVec 1), (AR m c 2) -∗ W c (k ⟨r0, r1, r2⟩) Q)
        -∗ W c (k0_part29 xM xW qM qW oM oW kA kAW vA vAW yM yW kM kW vM vW aM aW pM pW bM bW rM rW gM gW sK sV sA rA sC rC c v2 v900 v901 v902 v903 v904 >>= k) Q) := by
  rw [k0_part29_eq_skeleton]
  unfold k0_part29_skel
  simp only [semSignalWord, semWaitWord, Prog.lift, Prog.bind_op, Prog.bind_ret, Prog.pure_eq_ret]
  iintro ⟨#HE, HAR⟩ Hk
  iapply (mv_arecv m K c (i := 0) (by decide) (sem16o (pr c 0) (off2_eq c (0 : Fin 15)) _)) $$ [HAR]
  · isplitr; · iexact HE
    iexact HAR
  iintro HAR
  iapply (mv_arecv m K c (i := 1) (by decide) (sem16o (pr c 1) (off2_eq c (1 : Fin 15)) _)) $$ [HAR]
  · isplitr; · iexact HE
    iexact HAR
  iintro HAR
  iapply Hk
  iexact HAR

theorem part30 (v2 : BitVec 32) (v936 : BitVec 32) (v937 : BitVec 32) (v938 : BitVec 1) {k : (Σ' (v970 : BitVec 32) (c16_i32_713 : BitVec 32) (v971 : BitVec 1), BitVec 32) → Prog (TpuEff nD τ sig (Elt F) Λ₀ .tc) α} :
    iprop(Env m K ∗ AR m c 2)
      ⊢ iprop((∀ (r0 : BitVec 32) (r1 : BitVec 32) (r2 : BitVec 1) (r3 : BitVec 32), (AR m c 4) -∗ W c (k ⟨r0, r1, r2, r3⟩) Q)
        -∗ W c (k0_part30 xM xW qM qW oM oW kA kAW vA vAW yM yW kM kW vM vW aM aW pM pW bM bW rM rW gM gW sK sV sA rA sC rC c v2 v936 v937 v938 >>= k) Q) := by
  rw [k0_part30_eq_skeleton]
  unfold k0_part30_skel
  simp only [semSignalWord, semWaitWord, Prog.lift, Prog.bind_op, Prog.bind_ret, Prog.pure_eq_ret]
  iintro ⟨#HE, HAR⟩ Hk
  iapply (mv_arecv m K c (i := 2) (by decide) (sem16o (pr c 2) (off2_eq c (2 : Fin 15)) _)) $$ [HAR]
  · isplitr; · iexact HE
    iexact HAR
  iintro HAR
  iapply (mv_arecv m K c (i := 3) (by decide) (sem16o (pr c 3) (off2_eq c (3 : Fin 15)) _)) $$ [HAR]
  · isplitr; · iexact HE
    iexact HAR
  iintro HAR
  iapply Hk
  iexact HAR

theorem part31 (v2 : BitVec 32) (v970 : BitVec 32) (c16_i32_713 : BitVec 32) (v971 : BitVec 1) (c1_i32_715 : BitVec 32) {k : (BitVec 32) → Prog (TpuEff nD τ sig (Elt F) Λ₀ .tc) α} :
    iprop(Env m K ∗ AR m c 4)
      ⊢ iprop((∀ (r0 : BitVec 32), (AR m c 6) -∗ W c (k (r0)) Q)
        -∗ W c (k0_part31 xM xW qM qW oM oW kA kAW vA vAW yM yW kM kW vM vW aM aW pM pW bM bW rM rW gM gW sK sV sA rA sC rC c v2 v970 c16_i32_713 v971 c1_i32_715 >>= k) Q) := by
  rw [k0_part31_eq_skeleton]
  unfold k0_part31_skel
  simp only [semSignalWord, semWaitWord, Prog.lift, Prog.bind_op, Prog.bind_ret, Prog.pure_eq_ret]
  iintro ⟨#HE, HAR⟩ Hk
  iapply (mv_arecv m K c (i := 4) (by decide) (sem16o (pr c 4) (off2_eq c (4 : Fin 15)) _)) $$ [HAR]
  · isplitr; · iexact HE
    iexact HAR
  iintro HAR
  iapply (mv_arecv m K c (i := 5) (by decide) (sem16o (pr c 5) (off2_eq c (5 : Fin 15)) _)) $$ [HAR]
  · isplitr; · iexact HE
    iexact HAR
  iintro HAR
  iapply Hk
  iexact HAR

theorem part32 (v2 : BitVec 32) (v1006 : BitVec 32) {k : (PUnit) → Prog (TpuEff nD τ sig (Elt F) Λ₀ .tc) α} :
    iprop(Env m K ∗ AR m c 6)
      ⊢ iprop(((AR m c 7) -∗ W c (k ⟨⟩) Q)
        -∗ W c (k0_part32 xM xW qM qW oM oW kA kAW vA vAW yM yW kM kW vM vW aM aW pM pW bM bW rM rW gM gW sK sV sA rA sC rC c v2 v1006 >>= k) Q) := by
  rw [k0_part32_eq_skeleton]
  unfold k0_part32_skel
  simp only [semSignalWord, semWaitWord, Prog.lift, Prog.bind_op, Prog.bind_ret, Prog.pure_eq_ret]
  iintro ⟨#HE, HAR⟩ Hk
  iapply (mv_arecv m K c (i := 6) (by decide) (sem16o (pr c 6) (off2_eq c (6 : Fin 15)) _)) $$ [HAR]
  · isplitr; · iexact HE
    iexact HAR
  iintro HAR
  iapply Hk
  iexact HAR

theorem part33 (v2 : BitVec 32) {k : (PUnit) → Prog (TpuEff nD τ sig (Elt F) Λ₀ .tc) α} :
    iprop(Env m K ∗ AR m c 7)
      ⊢ iprop(((AR m c 9) -∗ W c (k ⟨⟩) Q)
        -∗ W c (k0_part33 xM xW qM qW oM oW kA kAW vA vAW yM yW kM kW vM vW aM aW pM pW bM bW rM rW gM gW sK sV sA rA sC rC c v2 >>= k) Q) := by
  rw [k0_part33_eq_skeleton]
  unfold k0_part33_skel
  simp only [semSignalWord, semWaitWord, Prog.lift, Prog.bind_op, Prog.bind_ret, Prog.pure_eq_ret]
  iintro ⟨#HE, HAR⟩ Hk
  iapply (mv_arecv m K c (i := 7) (by decide) (sem16o (pr c 7) (off2_eq c (7 : Fin 15)) _)) $$ [HAR]
  · isplitr; · iexact HE
    iexact HAR
  iintro HAR
  iapply (mv_arecv m K c (i := 8) (by decide) (sem16o (pr c 8) (off2_eq c (8 : Fin 15)) _)) $$ [HAR]
  · isplitr; · iexact HE
    iexact HAR
  iintro HAR
  iapply Hk
  iexact HAR

theorem part34 (v2 : BitVec 32) {k : (PUnit) → Prog (TpuEff nD τ sig (Elt F) Λ₀ .tc) α} :
    iprop(Env m K ∗ AR m c 9)
      ⊢ iprop(((AR m c 11) -∗ W c (k ⟨⟩) Q)
        -∗ W c (k0_part34 xM xW qM qW oM oW kA kAW vA vAW yM yW kM kW vM vW aM aW pM pW bM bW rM rW gM gW sK sV sA rA sC rC c v2 >>= k) Q) := by
  rw [k0_part34_eq_skeleton]
  unfold k0_part34_skel
  simp only [semSignalWord, semWaitWord, Prog.lift, Prog.bind_op, Prog.bind_ret, Prog.pure_eq_ret]
  iintro ⟨#HE, HAR⟩ Hk
  iapply (mv_arecv m K c (i := 9) (by decide) (sem16o (pr c 9) (off2_eq c (9 : Fin 15)) _)) $$ [HAR]
  · isplitr; · iexact HE
    iexact HAR
  iintro HAR
  iapply (mv_arecv m K c (i := 10) (by decide) (sem16o (pr c 10) (off2_eq c (10 : Fin 15)) _)) $$ [HAR]
  · isplitr; · iexact HE
    iexact HAR
  iintro HAR
  iapply Hk
  iexact HAR

theorem part35 (v2 : BitVec 32) {k : (BitVec 32) → Prog (TpuEff nD τ sig (Elt F) Λ₀ .tc) α} :
    iprop(Env m K ∗ AR m c 11)
      ⊢ iprop((∀ (r0 : BitVec 32), (AR m c 13) -∗ W c (k (r0)) Q)
        -∗ W c (k0_part35 xM xW qM qW oM oW kA kAW vA vAW yM yW kM kW vM vW aM aW pM pW bM bW rM rW gM gW sK sV sA rA sC rC c v2 >>= k) Q) := by
  rw [k0_part35_eq_skeleton]
  unfold k0_part35_skel
  simp only [semSignalWord, semWaitWord, Prog.lift, Prog.bind_op, Prog.bind_ret, Prog.pure_eq_ret]
  iintro ⟨#HE, HAR⟩ Hk
  iapply (mv_arecv m K c (i := 11) (by decide) (sem16o (pr c 11) (off2_eq c (11 : Fin 15)) _)) $$ [HAR]
  · isplitr; · iexact HE
    iexact HAR
  iintro HAR
  iapply (mv_arecv m K c (i := 12) (by decide) (sem16o (pr c 12) (off2_eq c (12 : Fin 15)) _)) $$ [HAR]
  · isplitr; · iexact HE
    iexact HAR
  iintro HAR
  iapply Hk
  iexact HAR

theorem part36 (v2 : BitVec 32) (v1142 : BitVec 32) {k : (Σ' (v1170 : Vec F S16x1024 .f32) (v1173 : BitVec 32) (v1174 : BitVec 32), BitVec 32) → Prog (TpuEff nD τ sig (Elt F) Λ₀ .tc) α} :
    iprop(Env m K ∗ AR m c 13 ∗ BP m c)
      ⊢ iprop((∀ (r1 : BitVec 32) (r2 : BitVec 32) (r3 : BitVec 32), (AR m c 15 ∗ BP m c) -∗ W c (k ⟨ownF m c, r1, r2, r3⟩) Q)
        -∗ W c (k0_part36 xM xW qM qW oM oW kA kAW vA vAW yM yW kM kW vM vW aM aW pM pW bM bW rM rW gM gW sK sV sA rA sC rC c v2 v1142 >>= k) Q) := by
  rw [k0_part36_eq_skeleton]
  unfold k0_part36_skel
  simp only [semSignalWord, semWaitWord, Prog.lift, Prog.bind_op, Prog.bind_ret, Prog.pure_eq_ret]
  iintro ⟨#HE, HAR, HP⟩ Hk
  iapply (mv_arecv m K c (i := 13) (by decide) (sem16o (pr c 13) (off2_eq c (13 : Fin 15)) _)) $$ [HAR]
  · isplitr; · iexact HE
    iexact HAR
  iintro HAR
  iapply (mv_arecv m K c (i := 14) (by decide) (sem16o (pr c 14) (off2_eq c (14 : Fin 15)) _)) $$ [HAR]
  · isplitr; · iexact HE
    iexact HAR
  iintro HAR
  iapply (mv_loadOwn m c (k0_off7_eq c)) $$ [HP]
  · iexact HP
  iintro HP
  iapply Hk
  isplitl [HAR]; · iexact HAR
  iexact HP

end Parts

end Cert.KernelIdealProof

end
-- ==== Proof.KernelIdealParts6.lean ====
/-
What the stretches 37 to 43 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part37 (v2 : BitVec 32) (v1173 : BitVec 32) (v1174 : BitVec 32) (c0_i32_861 : BitVec 32) {k : (FVec F S16x1024 .f32) → Prog (TpuEff nD τ sig (Elt F) Λ₀ .tc) α} :
    iprop(Env m K ∗ AR m c 15)
      ⊢ iprop(((AR m c 15) -∗ W c (k (acc1 m c)) Q)
        -∗ W c (k0_part37 xM xW qM qW oM oW kA kAW vA vAW yM yW kM kW vM vW aM aW pM pW bM bW rM rW gM gW sK sV sA rA sC rC c v2 (ownF m c) v1173 v1174 c0_i32_861 >>= k) Q) := by
  rw [k0_part37_eq_skeleton]
  unfold k0_part37_skel
  simp only [semSignalWord, semWaitWord, Prog.lift, Prog.bind_op, Prog.bind_ret, Prog.pure_eq_ret]
  unfold acc1
  iintro ⟨#HE, HAR⟩ Hk
  iapply (mv_loadR m c (d := 0) (i := 15) (by decide) (off8_eq c (0 : Fin 15))) $$ [HAR]
  · iexact HAR
  iintro HAR
  iapply (mv_loadR m c (d := 1) (i := 15) (by decide) (off8_eq c (1 : Fin 15))) $$ [HAR]
  · iexact HAR
  iintro HAR
  iapply Hk
  iexact HAR

theorem part38 (v2 : BitVec 32) {k : (Σ' (v1250 : FVec F S16x1024 .f32) (v1251 : BitVec 32) (c16_i32_903 : BitVec 32), BitVec 32) → Prog (TpuEff nD τ sig (Elt F) Λ₀ .tc) α} :
    iprop(Env m K ∗ AR m c 15)
      ⊢ iprop((∀ (r1 : BitVec 32) (r2 : BitVec 32) (r3 : BitVec 32), (AR m c 15) -∗ W c (k ⟨acc2 m c, r1, r2, r3⟩) Q)
        -∗ W c (k0_part38 xM xW qM qW oM oW kA kAW vA vAW yM yW kM kW vM vW aM aW pM pW bM bW rM rW gM gW sK sV sA rA sC rC c v2 (acc1 m c) >>= k) Q) := by
  rw [k0_part38_eq_skeleton]
  unfold k0_part38_skel
  simp only [semSignalWord, semWaitWord, Prog.lift, Prog.bind_op, Prog.bind_ret, Prog.pure_eq_ret]
  unfold acc2
  iintro ⟨#HE, HAR⟩ Hk
  iapply (mv_loadR m c (d := 2) (i := 15) (by decide) (off8_eq c (2 : Fin 15))) $$ [HAR]
  · iexact HAR
  iintro HAR
  iapply (mv_loadR m c (d := 3) (i := 15) (by decide) (off8_eq c (3 : Fin 15))) $$ [HAR]
  · iexact HAR
  iintro HAR
  iapply (mv_loadR m c (d := 4) (i := 15) (by decide) (off8_eq c (4 : Fin 15))) $$ [HAR]
  · iexact HAR
  iintro HAR
  iapply Hk
  iexact HAR

theorem part39 (v2 : BitVec 32) (v1251 : BitVec 32) (c16_i32_903 : BitVec 32) (c0_i32_904 : BitVec 32) {k : (Σ' (v1282 : FVec F S16x1024 .f32) (v1285 : BitVec 32) (v1286 : BitVec 32) (v1287 : BitVec 1) (v1288 : BitVec 1), BitVec 1) → Prog (TpuEff nD τ sig (Elt F) Λ₀ .tc) α} :
    iprop(Env m K ∗ AR m c 15)
      ⊢ iprop((∀ (r1 : BitVec 32) (r2 : BitVec 32) (r3 : BitVec 1) (r4 : BitVec 1) (r5 : BitVec 1), (AR m c 15) -∗ W c (k ⟨acc3 m c, r1, r2, r3, r4, r5⟩) Q)
        -∗ W c (k0_part39 xM xW qM qW oM oW kA kAW vA vAW yM yW kM kW vM vW aM aW pM pW bM bW rM rW gM gW sK sV sA rA sC rC c v2 (acc2 m c) v1251 c16_i32_903 c0_i32_904 >>= k) Q) := by
  rw [k0_part39_eq_skeleton]
  unfold k0_part39_skel
  simp only [semSignalWord, semWaitWord, Prog.lift, Prog.bind_op, Prog.bind_ret, Prog.pure_eq_ret]
  unfold acc3
  iintro ⟨#HE, HAR⟩ Hk
  iapply (mv_loadR m c (d := 5) (i := 15) (by decide) (off8_eq c (5 : Fin 15))) $$ [HAR]
  · iexact HAR
  iintro HAR
  iapply (mv_loadR m c (d := 6) (i := 15) (by decide) (off8_eq c (6 : Fin 15))) $$ [HAR]
  · iexact HAR
  iintro HAR
  iapply Hk
  iexact HAR

theorem part40 (v2 : BitVec 32) (v1285 : BitVec 32) (v1286 : BitVec 32) (v1287 : BitVec 1) (v1288 : BitVec 1) (v1289 : BitVec 1) {k : (Σ' (v1314 : FVec F S16x1024 .f32), FVec F S16x1024 .f32) → Prog (TpuEff nD τ sig (Elt F) Λ₀ .tc) α} :
    iprop(Env m K ∗ AR m c 15)
      ⊢ iprop(((AR m c 15) -∗ W c (k ⟨acc4 m c, k0_pay17 (rv m c 9)⟩) Q)
        -∗ W c (k0_part40 xM xW qM qW oM oW kA kAW vA vAW yM yW kM kW vM vW aM aW pM pW bM bW rM rW gM gW sK sV sA rA sC rC c v2 (acc3 m c) v1285 v1286 v1287 v1288 v1289 >>= k) Q) := by
  rw [k0_part40_eq_skeleton]
  unfold k0_part40_skel
  simp only [semSignalWord, semWaitWord, Prog.lift, Prog.bind_op, Prog.bind_ret, Prog.pure_eq_ret]
  unfold acc4
  iintro ⟨#HE, HAR⟩ Hk
  iapply (mv_loadR m c (d := 7) (i := 15) (by decide) (off8_eq c (7 : Fin 15))) $$ [HAR]
  · iexact HAR
  iintro HAR
  iapply (mv_loadR m c (d := 8) (i := 15) (by decide) (off8_eq c (8 : Fin 15))) $$ [HAR]
  · iexact HAR
  iintro HAR
  iapply (mv_loadR m c (d := 9) (i := 15) (by decide) (off8_eq c (9 : Fin 15))) $$ [HAR]
  · iexact HAR
  iintro HAR
  iapply Hk
  iexact HAR

theorem part41 (v2 : BitVec 32) {k : (Σ' (v1362 : FVec F S16x1024 .f32) (v1365 : BitVec 32) (v1366 : BitVec 32), BitVec 32) → Prog (TpuEff nD τ sig (Elt F) Λ₀ .tc) α} :
    iprop(Env m K ∗ AR m c 15)
      ⊢ iprop((∀ (r1 : BitVec 32) (r2 : BitVec 32) (r3 : BitVec 32), (AR m c 15) -∗ W c (k ⟨acc5 m c, r1, r2, r3⟩) Q)
        -∗ W c (k0_part41 xM xW qM qW oM oW kA kAW vA vAW yM yW kM kW vM vW aM aW pM pW bM bW rM rW gM gW sK sV sA rA sC rC c v2 (acc4 m c) (k0_pay17 (rv m c 9)) >>= k) Q) := by
  rw [k0_part41_eq_skeleton]
  unfold k0_part41_skel
  simp only [semSignalWord, semWaitWord, Prog.lift, Prog.bind_op, Prog.bind_ret, Prog.pure_eq_ret]
  unfold acc5
  iintro ⟨#HE, HAR⟩ Hk
  iapply (mv_loadR m c (d := 10) (i := 15) (by decide) (off8_eq c (10 : Fin 15))) $$ [HAR]
  · iexact HAR
  iintro HAR
  iapply (mv_loadR m c (d := 11) (i := 15) (by decide) (off8_eq c (11 : Fin 15))) $$ [HAR]
  · iexact HAR
  iintro HAR
  iapply Hk
  iexact HAR

theorem part42 (v2 : BitVec 32) (v1365 : BitVec 32) (v1366 : BitVec 32) (c0_i32_969 : BitVec 32) {k : (FVec F S16x1024 .f32) → Prog (TpuEff nD τ sig (Elt F) Λ₀ .tc) α} :
    iprop(Env m K ∗ AR m c 15)
      ⊢ iprop(((AR m c 15) -∗ W c (k (acc6 m c)) Q)
        -∗ W c (k0_part42 xM xW qM qW oM oW kA kAW vA vAW yM yW kM kW vM vW aM aW pM pW bM bW rM rW gM gW sK sV sA rA sC rC c v2 (acc5 m c) v1365 v1366 c0_i32_969 >>= k) Q) := by
  rw [k0_part42_eq_skeleton]
  unfold k0_part42_skel
  simp only [semSignalWord, semWaitWord, Prog.lift, Prog.bind_op, Prog.bind_ret, Prog.pure_eq_ret]
  unfold acc6
  iintro ⟨#HE, HAR⟩ Hk
  iapply (mv_loadR m c (d := 12) (i := 15) (by decide) (off8_eq c (12 : Fin 15))) $$ [HAR]
  · iexact HAR
  iintro HAR
  iapply (mv_loadR m c (d := 13) (i := 15) (by decide) (off8_eq c (13 : Fin 15))) $$ [HAR]
  · iexact HAR
  iintro HAR
  iapply Hk
  iexact HAR

theorem part43 (v2 : BitVec 32) {k : (Σ' (v1410 : FVec F S16x1024 .f32) (v1440 : BitVec 32) (v1441 : BitVec 32), BitVec 1) → Prog (TpuEff nD τ sig (Elt F) Λ₀ .tc) α} :
    iprop(Env m K ∗ AR m c 15 ∗ BG0 c ∗ (bigSep (Finset.range 15) (cPre (F := F) c)))
      ⊢ iprop((∀ (r1 : BitVec 32) (r2 : BitVec 32) (r3 : BitVec 1), ((bigSep (Finset.range 15) fun i => postN m c (36 + (pr c i).val)) ∗ CS m c 1) -∗ W c (k ⟨accF m c, r1, r2, r3⟩) Q)
        -∗ W c (k0_part43 xM xW qM qW oM oW kA kAW vA vAW yM yW kM kW vM vW aM aW pM pW bM bW rM rW gM gW sK sV sA rA sC rC c v2 (acc6 m c) >>= k) Q) := by
  rw [k0_part43_eq_skeleton]
  unfold k0_part43_skel
  simp only [semSignalWord, semWaitWord, Prog.lift, Prog.bind_op, Prog.bind_ret, Prog.pure_eq_ret]
  unfold accF
  iintro ⟨#HE, HAR, HG, HCP⟩ Hk
  iapply (mv_loadR m c (d := 14) (i := 15) (by decide) (off8_eq c (14 : Fin 15))) $$ [HAR]
  · iexact HAR
  iintro HAR
  iapply (mv_deadG c (k0_off9_eq c)) $$ [HG]
  · iexact HG
  iintro %v HG
  iapply (mv_storeG m c (w := k0_pay21 (acc6 m c) (rv m c 14)) rfl (k0_off9_eq c)) $$ [HG]
  · iexact HG
  iintro HG
  ihave Hh := (AR_end m c) $$ HAR
  icases Hh with ⟨HO, HAR⟩
  ihave HCS := (CS_start m c) $$ [HO HG HCP]
  · isplitl [HO]; · iexact HO
    isplitl [HG]; · iexact HG
    iexact HCP
  iapply (mv_csend m K c (i := 0) (by decide) (dev31_eq c) (k0_off4_eq c) (k0_off4_eq c) (sem17o (pr c 0) (off2_eq c (0 : Fin 15)) _) (sem18o c (k0_off3_eq c) _)) $$ [HCS]
  · isplitr; · iexact HE
    iexact HCS
  iintro HCS
  iapply Hk
  isplitl [HAR]; · iexact HAR
  iexact HCS

end Parts

end Cert.KernelIdealProof

end
-- ==== Proof.KernelIdealParts7.lean ====
/-
What the stretches 44 to 51 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part44 (v2 : BitVec 32) (v1440 : BitVec 32) (v1441 : BitVec 32) (v1442 : BitVec 1) {k : (PUnit) → Prog (TpuEff nD τ sig (Elt F) Λ₀ .tc) α} :
    iprop(Env m K ∗ CS m c 1)
      ⊢ iprop(((CS m c 3) -∗ W c (k ⟨⟩) Q)
        -∗ W c (k0_part44 xM xW qM qW oM oW kA kAW vA vAW yM yW kM kW vM vW aM aW pM pW bM bW rM rW gM gW sK sV sA rA sC rC c v2 v1440 v1441 v1442 >>= k) Q) := by
  rw [k0_part44_eq_skeleton]
  unfold k0_part44_skel
  simp only [semSignalWord, semWaitWord, Prog.lift, Prog.bind_op, Prog.bind_ret, Prog.pure_eq_ret]
  iintro ⟨#HE, HCS⟩ Hk
  iapply (mv_csend m K c (i := 1) (by decide) (dev32_eq c) (k0_off4_eq c) (k0_off4_eq c) (sem17o (pr c 1) (off2_eq c (1 : Fin 15)) _) (sem18o c (k0_off3_eq c) _)) $$ [HCS]
  · isplitr; · iexact HE
    iexact HCS
  iintro HCS
  iapply (mv_csend m K c (i := 2) (by decide) (dev33_eq c) (k0_off4_eq c) (k0_off4_eq c) (sem17o (pr c 2) (off2_eq c (2 : Fin 15)) _) (sem18o c (k0_off3_eq c) _)) $$ [HCS]
  · isplitr; · iexact HE
    iexact HCS
  iintro HCS
  iapply Hk
  iexact HCS

theorem part45 (v2 : BitVec 32) {k : (PUnit) → Prog (TpuEff nD τ sig (Elt F) Λ₀ .tc) α} :
    iprop(Env m K ∗ CS m c 3)
      ⊢ iprop(((CS m c 4) -∗ W c (k ⟨⟩) Q)
        -∗ W c (k0_part45 xM xW qM qW oM oW kA kAW vA vAW yM yW kM kW vM vW aM aW pM pW bM bW rM rW gM gW sK sV sA rA sC rC c v2 >>= k) Q) := by
  rw [k0_part45_eq_skeleton]
  unfold k0_part45_skel
  simp only [semSignalWord, semWaitWord, Prog.lift, Prog.bind_op, Prog.bind_ret, Prog.pure_eq_ret]
  iintro ⟨#HE, HCS⟩ Hk
  iapply (mv_csend m K c (i := 3) (by decide) (dev34_eq c) (k0_off4_eq c) (k0_off4_eq c) (sem17o (pr c 3) (off2_eq c (3 : Fin 15)) _) (sem18o c (k0_off3_eq c) _)) $$ [HCS]
  · isplitr; · iexact HE
    iexact HCS
  iintro HCS
  iapply Hk
  iexact HCS

theorem part46 (v2 : BitVec 32) {k : (Σ' (v1545 : BitVec 32) (v1546 : BitVec 32) (v1547 : BitVec 1), BitVec 1) → Prog (TpuEff nD τ sig (Elt F) Λ₀ .tc) α} :
    iprop(Env m K ∗ CS m c 4)
      ⊢ iprop((∀ (r0 : BitVec 32) (r1 : BitVec 32) (r2 : BitVec 1) (r3 : BitVec 1), (CS m c 6) -∗ W c (k ⟨r0, r1, r2, r3⟩) Q)
        -∗ W c (k0_part46 xM xW qM qW oM oW kA kAW vA vAW yM yW kM kW vM vW aM aW pM pW bM bW rM rW gM gW sK sV sA rA sC rC c v2 >>= k) Q) := by
  rw [k0_part46_eq_skeleton]
  unfold k0_part46_skel
  simp only [semSignalWord, semWaitWord, Prog.lift, Prog.bind_op, Prog.bind_ret, Prog.pure_eq_ret]
  iintro ⟨#HE, HCS⟩ Hk
  iapply (mv_csend m K c (i := 4) (by decide) (dev35_eq c) (k0_off4_eq c) (k0_off4_eq c) (sem17o (pr c 4) (off2_eq c (4 : Fin 15)) _) (sem18o c (k0_off3_eq c) _)) $$ [HCS]
  · isplitr; · iexact HE
    iexact HCS
  iintro HCS
  iapply (mv_csend m K c (i := 5) (by decide) (dev36_eq c) (k0_off4_eq c) (k0_off4_eq c) (sem17o (pr c 5) (off2_eq c (5 : Fin 15)) _) (sem18o c (k0_off3_eq c) _)) $$ [HCS]
  · isplitr; · iexact HE
    iexact HCS
  iintro HCS
  iapply Hk
  iexact HCS

theorem part47 (v2 : BitVec 32) (v1545 : BitVec 32) (v1546 : BitVec 32) (v1547 : BitVec 1) (v1550 : BitVec 1) {k : (Σ' (v1585 : BitVec 32) (c16_i32_1099 : BitVec 32), BitVec 1) → Prog (TpuEff nD τ sig (Elt F) Λ₀ .tc) α} :
    iprop(Env m K ∗ CS m c 6)
      ⊢ iprop((∀ (r0 : BitVec 32) (r1 : BitVec 32) (r2 : BitVec 1), (CS m c 8) -∗ W c (k ⟨r0, r1, r2⟩) Q)
        -∗ W c (k0_part47 xM xW qM qW oM oW kA kAW vA vAW yM yW kM kW vM vW aM aW pM pW bM bW rM rW gM gW sK sV sA rA sC rC c v2 v1545 v1546 v1547 v1550 >>= k) Q) := by
  rw [k0_part47_eq_skeleton]
  unfold k0_part47_skel
  simp only [semSignalWord, semWaitWord, Prog.lift, Prog.bind_op, Prog.bind_ret, Prog.pure_eq_ret]
  iintro ⟨#HE, HCS⟩ Hk
  iapply (mv_csend m K c (i := 6) (by decide) (dev37_eq c) (k0_off4_eq c) (k0_off4_eq c) (sem17o (pr c 6) (off2_eq c (6 : Fin 15)) _) (sem18o c (k0_off3_eq c) _)) $$ [HCS]
  · isplitr; · iexact HE
    iexact HCS
  iintro HCS
  iapply (mv_csend m K c (i := 7) (by decide) (dev38_eq c) (k0_off4_eq c) (k0_off4_eq c) (sem17o (pr c 7) (off2_eq c (7 : Fin 15)) _) (sem18o c (k0_off3_eq c) _)) $$ [HCS]
  · isplitr; · iexact HE
    iexact HCS
  iintro HCS
  iapply Hk
  iexact HCS

theorem part48 (v2 : BitVec 32) (v1585 : BitVec 32) (c16_i32_1099 : BitVec 32) (v1586 : BitVec 1) {k : (PUnit) → Prog (TpuEff nD τ sig (Elt F) Λ₀ .tc) α} :
    iprop(Env m K ∗ CS m c 8)
      ⊢ iprop(((CS m c 9) -∗ W c (k ⟨⟩) Q)
        -∗ W c (k0_part48 xM xW qM qW oM oW kA kAW vA vAW yM yW kM kW vM vW aM aW pM pW bM bW rM rW gM gW sK sV sA rA sC rC c v2 v1585 c16_i32_1099 v1586 >>= k) Q) := by
  rw [k0_part48_eq_skeleton]
  unfold k0_part48_skel
  simp only [semSignalWord, semWaitWord, Prog.lift, Prog.bind_op, Prog.bind_ret, Prog.pure_eq_ret]
  iintro ⟨#HE, HCS⟩ Hk
  iapply (mv_csend m K c (i := 8) (by decide) (dev39_eq c) (k0_off4_eq c) (k0_off4_eq c) (sem17o (pr c 8) (off2_eq c (8 : Fin 15)) _) (sem18o c (k0_off3_eq c) _)) $$ [HCS]
  · isplitr; · iexact HE
    iexact HCS
  iintro HCS
  iapply Hk
  iexact HCS

theorem part49 (v2 : BitVec 32) {k : (BitVec 32) → Prog (TpuEff nD τ sig (Elt F) Λ₀ .tc) α} :
    iprop(Env m K ∗ CS m c 9)
      ⊢ iprop((∀ (r0 : BitVec 32), (CS m c 11) -∗ W c (k (r0)) Q)
        -∗ W c (k0_part49 xM xW qM qW oM oW kA kAW vA vAW yM yW kM kW vM vW aM aW pM pW bM bW rM rW gM gW sK sV sA rA sC rC c v2 >>= k) Q) := by
  rw [k0_part49_eq_skeleton]
  unfold k0_part49_skel
  simp only [semSignalWord, semWaitWord, Prog.lift, Prog.bind_op, Prog.bind_ret, Prog.pure_eq_ret]
  iintro ⟨#HE, HCS⟩ Hk
  iapply (mv_csend m K c (i := 9) (by decide) (dev40_eq c) (k0_off4_eq c) (k0_off4_eq c) (sem17o (pr c 9) (off2_eq c (9 : Fin 15)) _) (sem18o c (k0_off3_eq c) _)) $$ [HCS]
  · isplitr; · iexact HE
    iexact HCS
  iintro HCS
  iapply (mv_csend m K c (i := 10) (by decide) (dev41_eq c) (k0_off4_eq c) (k0_off4_eq c) (sem17o (pr c 10) (off2_eq c (10 : Fin 15)) _) (sem18o c (k0_off3_eq c) _)) $$ [HCS]
  · isplitr; · iexact HE
    iexact HCS
  iintro HCS
  iapply Hk
  iexact HCS

theorem part50 (v2 : BitVec 32) (v1659 : BitVec 32) {k : (Σ' (v1692 : BitVec 32) (v1693 : BitVec 32), BitVec 1) → Prog (TpuEff nD τ sig (Elt F) Λ₀ .tc) α} :
    iprop(Env m K ∗ CS m c 11)
      ⊢ iprop((∀ (r0 : BitVec 32) (r1 : BitVec 32) (r2 : BitVec 1), (CS m c 13) -∗ W c (k ⟨r0, r1, r2⟩) Q)
        -∗ W c (k0_part50 xM xW qM qW oM oW kA kAW vA vAW yM yW kM kW vM vW aM aW pM pW bM bW rM rW gM gW sK sV sA rA sC rC c v2 v1659 >>= k) Q) := by
  rw [k0_part50_eq_skeleton]
  unfold k0_part50_skel
  simp only [semSignalWord, semWaitWord, Prog.lift, Prog.bind_op, Prog.bind_ret, Prog.pure_eq_ret]
  iintro ⟨#HE, HCS⟩ Hk
  iapply (mv_csend m K c (i := 11) (by decide) (dev42_eq c) (k0_off4_eq c) (k0_off4_eq c) (sem17o (pr c 11) (off2_eq c (11 : Fin 15)) _) (sem18o c (k0_off3_eq c) _)) $$ [HCS]
  · isplitr; · iexact HE
    iexact HCS
  iintro HCS
  iapply (mv_csend m K c (i := 12) (by decide) (dev43_eq c) (k0_off4_eq c) (k0_off4_eq c) (sem17o (pr c 12) (off2_eq c (12 : Fin 15)) _) (sem18o c (k0_off3_eq c) _)) $$ [HCS]
  · isplitr; · iexact HE
    iexact HCS
  iintro HCS
  iapply Hk
  iexact HCS

theorem part51 (v2 : BitVec 32) (v1692 : BitVec 32) (v1693 : BitVec 32) (v1694 : BitVec 1) {k : (PUnit) → Prog (TpuEff nD τ sig (Elt F) Λ₀ .tc) α} :
    iprop(Env m K ∗ CS m c 13)
      ⊢ iprop(((CS m c 15) -∗ W c (k ⟨⟩) Q)
        -∗ W c (k0_part51 xM xW qM qW oM oW kA kAW vA vAW yM yW kM kW vM vW aM aW pM pW bM bW rM rW gM gW sK sV sA rA sC rC c v2 v1692 v1693 v1694 >>= k) Q) := by
  rw [k0_part51_eq_skeleton]
  unfold k0_part51_skel
  simp only [semSignalWord, semWaitWord, Prog.lift, Prog.bind_op, Prog.bind_ret, Prog.pure_eq_ret]
  iintro ⟨#HE, HCS⟩ Hk
  iapply (mv_csend m K c (i := 13) (by decide) (dev44_eq c) (k0_off4_eq c) (k0_off4_eq c) (sem17o (pr c 13) (off2_eq c (13 : Fin 15)) _) (sem18o c (k0_off3_eq c) _)) $$ [HCS]
  · isplitr; · iexact HE
    iexact HCS
  iintro HCS
  iapply (mv_csend m K c (i := 14) (by decide) (dev45_eq c) (k0_off4_eq c) (k0_off4_eq c) (sem17o (pr c 14) (off2_eq c (14 : Fin 15)) _) (sem18o c (k0_off3_eq c) _)) $$ [HCS]
  · isplitr; · iexact HE
    iexact HCS
  iintro HCS
  iapply Hk
  iexact HCS

end Parts

end Cert.KernelIdealProof

end
-- ==== Proof.KernelIdealParts8.lean ====
/-
What the stretches 52 to 59 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part52 (v2 : BitVec 32) {k : (PUnit) → Prog (TpuEff nD τ sig (Elt F) Λ₀ .tc) α} :
    iprop(Env m K ∗ CR m c 0)
      ⊢ iprop(((CR m c 1) -∗ W c (k ⟨⟩) Q)
        -∗ W c (k0_part52 xM xW qM qW oM oW kA kAW vA vAW yM yW kM kW vM vW aM aW pM pW bM bW rM rW gM gW sK sV sA rA sC rC c v2 >>= k) Q) := by
  rw [k0_part52_eq_skeleton]
  unfold k0_part52_skel
  simp only [semSignalWord, semWaitWord, Prog.lift, Prog.bind_op, Prog.bind_ret, Prog.pure_eq_ret]
  iintro ⟨#HE, HCR⟩ Hk
  iapply (mv_crecv m K c (i := 0) (by decide) (sem18o (pr c 0) (off2_eq c (0 : Fin 15)) _)) $$ [HCR]
  · isplitr; · iexact HE
    iexact HCR
  iintro HCR
  iapply Hk
  iexact HCR

theorem part53 (v2 : BitVec 32) {k : (BitVec 32) → Prog (TpuEff nD τ sig (Elt F) Λ₀ .tc) α} :
    iprop(Env m K ∗ CR m c 1)
      ⊢ iprop((∀ (r0 : BitVec 32), (CR m c 3) -∗ W c (k (r0)) Q)
        -∗ W c (k0_part53 xM xW qM qW oM oW kA kAW vA vAW yM yW kM kW vM vW aM aW pM pW bM bW rM rW gM gW sK sV sA rA sC rC c v2 >>= k) Q) := by
  rw [k0_part53_eq_skeleton]
  unfold k0_part53_skel
  simp only [semSignalWord, semWaitWord, Prog.lift, Prog.bind_op, Prog.bind_ret, Prog.pure_eq_ret]
  iintro ⟨#HE, HCR⟩ Hk
  iapply (mv_crecv m K c (i := 1) (by decide) (sem18o (pr c 1) (off2_eq c (1 : Fin 15)) _)) $$ [HCR]
  · isplitr; · iexact HE
    iexact HCR
  iintro HCR
  iapply (mv_crecv m K c (i := 2) (by decide) (sem18o (pr c 2) (off2_eq c (2 : Fin 15)) _)) $$ [HCR]
  · isplitr; · iexact HE
    iexact HCR
  iintro HCR
  iapply Hk
  iexact HCR

theorem part54 (v2 : BitVec 32) (v1799 : BitVec 32) {k : (Σ' (v1829 : BitVec 32) (v1830 : BitVec 32), BitVec 1) → Prog (TpuEff nD τ sig (Elt F) Λ₀ .tc) α} :
    iprop(Env m K ∗ CR m c 3)
      ⊢ iprop((∀ (r0 : BitVec 32) (r1 : BitVec 32) (r2 : BitVec 1), (CR m c 5) -∗ W c (k ⟨r0, r1, r2⟩) Q)
        -∗ W c (k0_part54 xM xW qM qW oM oW kA kAW vA vAW yM yW kM kW vM vW aM aW pM pW bM bW rM rW gM gW sK sV sA rA sC rC c v2 v1799 >>= k) Q) := by
  rw [k0_part54_eq_skeleton]
  unfold k0_part54_skel
  simp only [semSignalWord, semWaitWord, Prog.lift, Prog.bind_op, Prog.bind_ret, Prog.pure_eq_ret]
  iintro ⟨#HE, HCR⟩ Hk
  iapply (mv_crecv m K c (i := 3) (by decide) (sem18o (pr c 3) (off2_eq c (3 : Fin 15)) _)) $$ [HCR]
  · isplitr; · iexact HE
    iexact HCR
  iintro HCR
  iapply (mv_crecv m K c (i := 4) (by decide) (sem18o (pr c 4) (off2_eq c (4 : Fin 15)) _)) $$ [HCR]
  · isplitr; · iexact HE
    iexact HCR
  iintro HCR
  iapply Hk
  iexact HCR

theorem part55 (v2 : BitVec 32) (v1829 : BitVec 32) (v1830 : BitVec 32) (v1831 : BitVec 1) {k : (BitVec 32) → Prog (TpuEff nD τ sig (Elt F) Λ₀ .tc) α} :
    iprop(Env m K ∗ CR m c 5)
      ⊢ iprop((∀ (r0 : BitVec 32), (CR m c 7) -∗ W c (k (r0)) Q)
        -∗ W c (k0_part55 xM xW qM qW oM oW kA kAW vA vAW yM yW kM kW vM vW aM aW pM pW bM bW rM rW gM gW sK sV sA rA sC rC c v2 v1829 v1830 v1831 >>= k) Q) := by
  rw [k0_part55_eq_skeleton]
  unfold k0_part55_skel
  simp only [semSignalWord, semWaitWord, Prog.lift, Prog.bind_op, Prog.bind_ret, Prog.pure_eq_ret]
  iintro ⟨#HE, HCR⟩ Hk
  iapply (mv_crecv m K c (i := 5) (by decide) (sem18o (pr c 5) (off2_eq c (5 : Fin 15)) _)) $$ [HCR]
  · isplitr; · iexact HE
    iexact HCR
  iintro HCR
  iapply (mv_crecv m K c (i := 6) (by decide) (sem18o (pr c 6) (off2_eq c (6 : Fin 15)) _)) $$ [HCR]
  · isplitr; · iexact HE
    iexact HCR
  iintro HCR
  iapply Hk
  iexact HCR

theorem part56 (v2 : BitVec 32) (v1865 : BitVec 32) {k : (PUnit) → Prog (TpuEff nD τ sig (Elt F) Λ₀ .tc) α} :
    iprop(Env m K ∗ CR m c 7)
      ⊢ iprop(((CR m c 8) -∗ W c (k ⟨⟩) Q)
        -∗ W c (k0_part56 xM xW qM qW oM oW kA kAW vA vAW yM yW kM kW vM vW aM aW pM pW bM bW rM rW gM gW sK sV sA rA sC rC c v2 v1865 >>= k) Q) := by
  rw [k0_part56_eq_skeleton]
  unfold k0_part56_skel
  simp only [semSignalWord, semWaitWord, Prog.lift, Prog.bind_op, Prog.bind_ret, Prog.pure_eq_ret]
  iintro ⟨#HE, HCR⟩ Hk
  iapply (mv_crecv m K c (i := 7) (by decide) (sem18o (pr c 7) (off2_eq c (7 : Fin 15)) _)) $$ [HCR]
  · isplitr; · iexact HE
    iexact HCR
  iintro HCR
  iapply Hk
  iexact HCR

theorem part57 (v2 : BitVec 32) {k : (Σ' (v1932 : BitVec 32), BitVec 32) → Prog (TpuEff nD τ sig (Elt F) Λ₀ .tc) α} :
    iprop(Env m K ∗ CR m c 8)
      ⊢ iprop((∀ (r0 : BitVec 32) (r1 : BitVec 32), (CR m c 10) -∗ W c (k ⟨r0, r1⟩) Q)
        -∗ W c (k0_part57 xM xW qM qW oM oW kA kAW vA vAW yM yW kM kW vM vW aM aW pM pW bM bW rM rW gM gW sK sV sA rA sC rC c v2 >>= k) Q) := by
  rw [k0_part57_eq_skeleton]
  unfold k0_part57_skel
  simp only [semSignalWord, semWaitWord, Prog.lift, Prog.bind_op, Prog.bind_ret, Prog.pure_eq_ret]
  iintro ⟨#HE, HCR⟩ Hk
  iapply (mv_crecv m K c (i := 8) (by decide) (sem18o (pr c 8) (off2_eq c (8 : Fin 15)) _)) $$ [HCR]
  · isplitr; · iexact HE
    iexact HCR
  iintro HCR
  iapply (mv_crecv m K c (i := 9) (by decide) (sem18o (pr c 9) (off2_eq c (9 : Fin 15)) _)) $$ [HCR]
  · isplitr; · iexact HE
    iexact HCR
  iintro HCR
  iapply Hk
  iexact HCR

theorem part58 (v2 : BitVec 32) (v1932 : BitVec 32) (c1_i32_1337 : BitVec 32) {k : (Σ' (v1962 : BitVec 32) (v1963 : BitVec 32) (v1964 : BitVec 1), BitVec 1) → Prog (TpuEff nD τ sig (Elt F) Λ₀ .tc) α} :
    iprop(Env m K ∗ CR m c 10)
      ⊢ iprop((∀ (r0 : BitVec 32) (r1 : BitVec 32) (r2 : BitVec 1) (r3 : BitVec 1), (CR m c 12) -∗ W c (k ⟨r0, r1, r2, r3⟩) Q)
        -∗ W c (k0_part58 xM xW qM qW oM oW kA kAW vA vAW yM yW kM kW vM vW aM aW pM pW bM bW rM rW gM gW sK sV sA rA sC rC c v2 v1932 c1_i32_1337 >>= k) Q) := by
  rw [k0_part58_eq_skeleton]
  unfold k0_part58_skel
  simp only [semSignalWord, semWaitWord, Prog.lift, Prog.bind_op, Prog.bind_ret, Prog.pure_eq_ret]
  iintro ⟨#HE, HCR⟩ Hk
  iapply (mv_crecv m K c (i := 10) (by decide) (sem18o (pr c 10) (off2_eq c (10 : Fin 15)) _)) $$ [HCR]
  · isplitr; · iexact HE
    iexact HCR
  iintro HCR
  iapply (mv_crecv m K c (i := 11) (by decide) (sem18o (pr c 11) (off2_eq c (11 : Fin 15)) _)) $$ [HCR]
  · isplitr; · iexact HE
    iexact HCR
  iintro HCR
  iapply Hk
  iexact HCR

theorem part59 (v2 : BitVec 32) (v1962 : BitVec 32) (v1963 : BitVec 32) (v1964 : BitVec 1) (v1965 : BitVec 1) {k : (Σ' (v1998 : BitVec 32) (c16_i32_1386 : BitVec 32), BitVec 32) → Prog (TpuEff nD τ sig (Elt F) Λ₀ .tc) α} :
    iprop(Env m K ∗ CR m c 12)
      ⊢ iprop((∀ (r0 : BitVec 32) (r1 : BitVec 32) (r2 : BitVec 32), (CR m c 14) -∗ W c (k ⟨r0, r1, r2⟩) Q)
        -∗ W c (k0_part59 xM xW qM qW oM oW kA kAW vA vAW yM yW kM kW vM vW aM aW pM pW bM bW rM rW gM gW sK sV sA rA sC rC c v2 v1962 v1963 v1964 v1965 >>= k) Q) := by
  rw [k0_part59_eq_skeleton]
  unfold k0_part59_skel
  simp only [semSignalWord, semWaitWord, Prog.lift, Prog.bind_op, Prog.bind_ret, Prog.pure_eq_ret]
  iintro ⟨#HE, HCR⟩ Hk
  iapply (mv_crecv m K c (i := 12) (by decide) (sem18o (pr c 12) (off2_eq c (12 : Fin 15)) _)) $$ [HCR]
  · isplitr; · iexact HE
    iexact HCR
  iintro HCR
  iapply (mv_crecv m K c (i := 13) (by decide) (sem18o (pr c 13) (off2_eq c (13 : Fin 15)) _)) $$ [HCR]
  · isplitr; · iexact HE
    iexact HCR
  iintro HCR
  iapply Hk
  iexact HCR

end Parts

end Cert.KernelIdealProof

end
-- ==== Proof.KernelIdealParts9.lean ====
/-
What the stretches 60 to 65 of the kernel do, each as one move.
-/
module

public import proofs.«01_k».proof.Proof.KernelIdealSplit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts
variable (K : Dev nD × Fin 81 → ℕ) (c : Dev nD) {α : Type} {Q : α → sProp (MT nD τ sig Unit (Elt F) ℕ UU ℕ)}

theorem part60 (v2 : BitVec 32) (v1998 : BitVec 32) (c16_i32_1386 : BitVec 32) (c0_i32_1387 : BitVec 32) {k : (PUnit) → Prog (TpuEff nD τ sig (Elt F) Λ₀ .tc) α} :
    iprop(Env m K ∗ CR m c 14 ∗ gslot (Transfers.shareDrop fullShare 15) c c.val (gathF m) ∗ BO0 c ∗ (bigSep (Finset.range 15) fun i => midN c NA (20 + (pr c i).val)))
      ⊢ iprop((((bigSep (Finset.range 15) fun i => postN m c (68 + (pr c i).val)) ∗ gslot (Transfers.shareDrop fullShare 15) c c.val (gathF m) ∗ BO m c ∗ AW m c 1) -∗ W c (k ⟨⟩) Q)
        -∗ W c (k0_part60 xM xW qM qW oM oW kA kAW vA vAW yM yW kM kW vM vW aM aW pM pW bM bW rM rW gM gW sK sV sA rA sC rC c v2 (accF m c) v1998 c16_i32_1386 c0_i32_1387 >>= k) Q) := by
  rw [k0_part60_eq_skeleton]
  unfold k0_part60_skel
  simp only [semSignalWord, semWaitWord, Prog.lift, Prog.bind_op, Prog.bind_ret, Prog.pure_eq_ret]
  iintro ⟨#HE, HCR, HG, HO5, HAM⟩ Hk
  iapply (mv_crecv m K c (i := 14) (by decide) (sem18o (pr c 14) (off2_eq c (14 : Fin 15)) _)) $$ [HCR]
  · isplitr; · iexact HE
    iexact HCR
  iintro HCR
  iapply (mv_loadG m c) $$ [HG HCR]
  · isplitl [HG]; · iexact HG
    iexact HCR
  iintro ⟨HG, HCR⟩
  iapply (mv_deadO c) $$ [HO5]
  · iexact HO5
  iintro %v HO5
  iapply (mv_storeO m c (w := k0_pay22 (gathF m)) rfl) $$ [HO5]
  · iexact HO5
  iintro HO5
  iapply (mv_deadO1 m c) $$ [HO5]
  · iexact HO5
  iintro %v HO5
  iapply (mv_storeO1 m c (w := accF m c) rfl (k0_off7_eq c)) $$ [HO5]
  · iexact HO5
  iintro HO5
  ihave Hh := (CR_AW m c) $$ [HCR HAM]
  · isplitl [HCR]; · iexact HCR
    iexact HAM
  icases Hh with ⟨HAW, HCR⟩
  iapply (mv_asendw m K c (i := 0) (by decide) (sem15o (pr c 0) (off2_eq c (0 : Fin 15)) _)) $$ [HAW]
  · isplitr; · iexact HE
    iexact HAW
  iintro HAW
  iapply Hk
  isplitl [HCR]; · iexact HCR
  isplitl [HG]; · iexact HG
  isplitl [HO5]; · iexact HO5
  iexact HAW

theorem part61  {k : (PUnit) → Prog (TpuEff nD τ sig (Elt F) Λ₀ .tc) α} :
    iprop(Env m K ∗ AW m c 1)
      ⊢ iprop(((AW m c 7) -∗ W c (k ⟨⟩) Q)
        -∗ W c (k0_part61 xM xW qM qW oM oW kA kAW vA vAW yM yW kM kW vM vW aM aW pM pW bM bW rM rW gM gW sK sV sA rA sC rC c >>= k) Q) := by
  rw [k0_part61_eq_skeleton]
  unfold k0_part61_skel
  simp only [semSignalWord, semWaitWord, Prog.lift, Prog.bind_op, Prog.bind_ret, Prog.pure_eq_ret]
  iintro ⟨#HE, HAW⟩ Hk
  iapply (mv_asendw m K c (i := 1) (by decide) (sem15o (pr c 1) (off2_eq c (1 : Fin 15)) _)) $$ [HAW]
  · isplitr; · iexact HE
    iexact HAW
  iintro HAW
  iapply (mv_asendw m K c (i := 2) (by decide) (sem15o (pr c 2) (off2_eq c (2 : Fin 15)) _)) $$ [HAW]
  · isplitr; · iexact HE
    iexact HAW
  iintro HAW
  iapply (mv_asendw m K c (i := 3) (by decide) (sem15o (pr c 3) (off2_eq c (3 : Fin 15)) _)) $$ [HAW]
  · isplitr; · iexact HE
    iexact HAW
  iintro HAW
  iapply (mv_asendw m K c (i := 4) (by decide) (sem15o (pr c 4) (off2_eq c (4 : Fin 15)) _)) $$ [HAW]
  · isplitr; · iexact HE
    iexact HAW
  iintro HAW
  iapply (mv_asendw m K c (i := 5) (by decide) (sem15o (pr c 5) (off2_eq c (5 : Fin 15)) _)) $$ [HAW]
  · isplitr; · iexact HE
    iexact HAW
  iintro HAW
  iapply (mv_asendw m K c (i := 6) (by decide) (sem15o (pr c 6) (off2_eq c (6 : Fin 15)) _)) $$ [HAW]
  · isplitr; · iexact HE
    iexact HAW
  iintro HAW
  iapply Hk
  iexact HAW

theorem part62  {k : (PUnit) → Prog (TpuEff nD τ sig (Elt F) Λ₀ .tc) α} :
    iprop(Env m K ∗ AW m c 7)
      ⊢ iprop(((AW m c 13) -∗ W c (k ⟨⟩) Q)
        -∗ W c (k0_part62 xM xW qM qW oM oW kA kAW vA vAW yM yW kM kW vM vW aM aW pM pW bM bW rM rW gM gW sK sV sA rA sC rC c >>= k) Q) := by
  rw [k0_part62_eq_skeleton]
  unfold k0_part62_skel
  simp only [semSignalWord, semWaitWord, Prog.lift, Prog.bind_op, Prog.bind_ret, Prog.pure_eq_ret]
  iintro ⟨#HE, HAW⟩ Hk
  iapply (mv_asendw m K c (i := 7) (by decide) (sem15o (pr c 7) (off2_eq c (7 : Fin 15)) _)) $$ [HAW]
  · isplitr; · iexact HE
    iexact HAW
  iintro HAW
  iapply (mv_asendw m K c (i := 8) (by decide) (sem15o (pr c 8) (off2_eq c (8 : Fin 15)) _)) $$ [HAW]
  · isplitr; · iexact HE
    iexact HAW
  iintro HAW
  iapply (mv_asendw m K c (i := 9) (by decide) (sem15o (pr c 9) (off2_eq c (9 : Fin 15)) _)) $$ [HAW]
  · isplitr; · iexact HE
    iexact HAW
  iintro HAW
  iapply (mv_asendw m K c (i := 10) (by decide) (sem15o (pr c 10) (off2_eq c (10 : Fin 15)) _)) $$ [HAW]
  · isplitr; · iexact HE
    iexact HAW
  iintro HAW
  iapply (mv_asendw m K c (i := 11) (by decide) (sem15o (pr c 11) (off2_eq c (11 : Fin 15)) _)) $$ [HAW]
  · isplitr; · iexact HE
    iexact HAW
  iintro HAW
  iapply (mv_asendw m K c (i := 12) (by decide) (sem15o (pr c 12) (off2_eq c (12 : Fin 15)) _)) $$ [HAW]
  · isplitr; · iexact HE
    iexact HAW
  iintro HAW
  iapply Hk
  iexact HAW

theorem part63  {k : (PUnit) → Prog (TpuEff nD τ sig (Elt F) Λ₀ .tc) α} :
    iprop(Env m K ∗ AW m c 13 ∗ (bigSep (Finset.range 15) fun i => midN c NA (52 + (pr c i).val)))
      ⊢ iprop((((bigSep (Finset.range 15) fun i => postN m c (20 + (pr c i).val)) ∗ CW m c 3) -∗ W c (k ⟨⟩) Q)
        -∗ W c (k0_part63 xM xW qM qW oM oW kA kAW vA vAW yM yW kM kW vM vW aM aW pM pW bM bW rM rW gM gW sK sV sA rA sC rC c >>= k) Q) := by
  rw [k0_part63_eq_skeleton]
  unfold k0_part63_skel
  simp only [semSignalWord, semWaitWord, Prog.lift, Prog.bind_op, Prog.bind_ret, Prog.pure_eq_ret]
  iintro ⟨#HE, HAW, HCM⟩ Hk
  iapply (mv_asendw m K c (i := 13) (by decide) (sem15o (pr c 13) (off2_eq c (13 : Fin 15)) _)) $$ [HAW]
  · isplitr; · iexact HE
    iexact HAW
  iintro HAW
  iapply (mv_asendw m K c (i := 14) (by decide) (sem15o (pr c 14) (off2_eq c (14 : Fin 15)) _)) $$ [HAW]
  · isplitr; · iexact HE
    iexact HAW
  iintro HAW
  ihave Hh := (AW_CW m c) $$ [HAW HCM]
  · isplitl [HAW]; · iexact HAW
    iexact HCM
  icases Hh with ⟨HCW, HAW⟩
  iapply (mv_csendw m K c (i := 0) (by decide) (sem17o (pr c 0) (off2_eq c (0 : Fin 15)) _)) $$ [HCW]
  · isplitr; · iexact HE
    iexact HCW
  iintro HCW
  iapply (mv_csendw m K c (i := 1) (by decide) (sem17o (pr c 1) (off2_eq c (1 : Fin 15)) _)) $$ [HCW]
  · isplitr; · iexact HE
    iexact HCW
  iintro HCW
  iapply (mv_csendw m K c (i := 2) (by decide) (sem17o (pr c 2) (off2_eq c (2 : Fin 15)) _)) $$ [HCW]
  · isplitr; · iexact HE
    iexact HCW
  iintro HCW
  iapply Hk
  isplitl [HAW]; · iexact HAW
  iexact HCW

theorem part64  {k : (PUnit) → Prog (TpuEff nD τ sig (Elt F) Λ₀ .tc) α} :
    iprop(Env m K ∗ CW m c 3)
      ⊢ iprop(((CW m c 8) -∗ W c (k ⟨⟩) Q)
        -∗ W c (k0_part64 xM xW qM qW oM oW kA kAW vA vAW yM yW kM kW vM vW aM aW pM pW bM bW rM rW gM gW sK sV sA rA sC rC c >>= k) Q) := by
  rw [k0_part64_eq_skeleton]
  unfold k0_part64_skel
  simp only [semSignalWord, semWaitWord, Prog.lift, Prog.bind_op, Prog.bind_ret, Prog.pure_eq_ret]
  iintro ⟨#HE, HCW⟩ Hk
  iapply (mv_csendw m K c (i := 3) (by decide) (sem17o (pr c 3) (off2_eq c (3 : Fin 15)) _)) $$ [HCW]
  · isplitr; · iexact HE
    iexact HCW
  iintro HCW
  iapply (mv_csendw m K c (i := 4) (by decide) (sem17o (pr c 4) (off2_eq c (4 : Fin 15)) _)) $$ [HCW]
  · isplitr; · iexact HE
    iexact HCW
  iintro HCW
  iapply (mv_csendw m K c (i := 5) (by decide) (sem17o (pr c 5) (off2_eq c (5 : Fin 15)) _)) $$ [HCW]
  · isplitr; · iexact HE
    iexact HCW
  iintro HCW
  iapply (mv_csendw m K c (i := 6) (by decide) (sem17o (pr c 6) (off2_eq c (6 : Fin 15)) _)) $$ [HCW]
  · isplitr; · iexact HE
    iexact HCW
  iintro HCW
  iapply (mv_csendw m K c (i := 7) (by decide) (sem17o (pr c 7) (off2_eq c (7 : Fin 15)) _)) $$ [HCW]
  · isplitr; · iexact HE
    iexact HCW
  iintro HCW
  iapply Hk
  iexact HCW

theorem part65  {k : (PUnit) → Prog (TpuEff nD τ sig (Elt F) Λ₀ .tc) α} :
    iprop(Env m K ∗ CW m c 8)
      ⊢ iprop(((CW m c 13) -∗ W c (k ⟨⟩) Q)
        -∗ W c (k0_part65 xM xW qM qW oM oW kA kAW vA vAW yM yW kM kW vM vW aM aW pM pW bM bW rM rW gM gW sK sV sA rA sC rC c >>= k) Q) := by
  rw [k0_part65_eq_skeleton]
  unfold k0_part65_skel
  simp only [semSignalWord, semWaitWord, Prog.lift, Prog.bind_op, Prog.bind_ret, Prog.pure_eq_ret]
  iintro ⟨#HE, HCW⟩ Hk
  iapply (mv_csendw m K c (i := 8) (by decide) (sem17o (pr c 8) (off2_eq c (8 : Fin 15)) _)) $$ [HCW]
  · isplitr; · iexact HE
    iexact HCW
  iintro HCW
  iapply (mv_csendw m K c (i := 9) (by decide) (sem17o (pr c 9) (off2_eq c (9 : Fin 15)) _)) $$ [HCW]
  · isplitr; · iexact HE
    iexact HCW
  iintro HCW
  iapply (mv_csendw m K c (i := 10) (by decide) (sem17o (pr c 10) (off2_eq c (10 : Fin 15)) _)) $$ [HCW]
  · isplitr; · iexact HE
    iexact HCW
  iintro HCW
  iapply (mv_csendw m K c (i := 11) (by decide) (sem17o (pr c 11) (off2_eq c (11 : Fin 15)) _)) $$ [HCW]
  · isplitr; · iexact HE
    iexact HCW
  iintro HCW
  iapply (mv_csendw m K c (i := 12) (by decide) (sem17o (pr c 12) (off2_eq c (12 : Fin 15)) _)) $$ [HCW]
  · isplitr; · iexact HE
    iexact HCW
  iintro HCW
  iapply Hk
  iexact HCW

end Parts

end Cert.KernelIdealProof

end
-- ==== Proof.KernelIdealBody.lean ====
/-
The kernel from start to end: the stretches one after another.
-/
module

public import proofs.«01_k».proof.Proof.KernelIdealParts1
public import proofs.«01_k».proof.Proof.KernelIdealParts2
public import proofs.«01_k».proof.Proof.KernelIdealParts3
public import proofs.«01_k».proof.Proof.KernelIdealParts4
public import proofs.«01_k».proof.Proof.KernelIdealParts5
public import proofs.«01_k».proof.Proof.KernelIdealParts6
public import proofs.«01_k».proof.Proof.KernelIdealParts7
public import proofs.«01_k».proof.Proof.KernelIdealParts8
public import proofs.«01_k».proof.Proof.KernelIdealParts9

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (c : Dev nD)
/-- The rights to pay for transfer `i` of the first and of the second exchange. -/
def aTok (i : ℕ) : sProp 𝕄 :=
  iprop(dutyTok ER (dcell c (20 + (pr c i).val)) 0 (0 : Dev nD)
    ∗ dutyTok ER (dcell (pr c i) (36 + c.val)) 0 (0 : Dev nD) ∗ atPos ER (dcell c (20 + (pr c i).val)) 0 ∅ 0)
def cTok (i : ℕ) : sProp 𝕄 :=
  iprop(dutyTok ER (dcell c (52 + (pr c i).val)) 0 (0 : Dev nD)
    ∗ dutyTok ER (dcell (pr c i) (68 + c.val)) 0 (0 : Dev nD) ∗ atPos ER (dcell c (52 + (pr c i).val)) 0 ∅ 0)

/-- What the barrier hands over goes into the two exchanges. -/
theorem bar_go : iprop(BAR1 (F := F) c ∗ bigSep (Finset.range 15) (aTok (F := F) c) ∗ bigSep (Finset.range 15) (cTok (F := F) c))
    ⊢ iprop(semVal (bcell c) 0 ∗ bigSep (Finset.range 15) (aRest (F := F) c) ∗ bigSep (Finset.range 15) (cPre (F := F) c)) := by
  have h1 : (bigSep (Finset.range 15) (fun i => barPay (F := F) (pr c i) c) : sProp 𝕄)
      = iprop((bigSep (Finset.range 15) fun i => iprop(∃ f, rslot (F := F) (pr c i) c.val f)) ∗ bigSep (Finset.range 15) fun i => iprop(∃ f, gslot (F := F) fullShare (pr c i) c.val f)) := bigSep_sep _ _ _
  have h2 : (bigSep (Finset.range 15) (aRest (F := F) c) : sProp 𝕄)
      = iprop((bigSep (Finset.range 15) fun i => iprop(∃ f, rslot (F := F) (pr c i) c.val f)) ∗ bigSep (Finset.range 15) (aTok (F := F) c)) := bigSep_sep _ _ _
  have h3 : (bigSep (Finset.range 15) (cPre (F := F) c) : sProp 𝕄)
      = iprop((bigSep (Finset.range 15) fun i => iprop(∃ f, gslot (F := F) fullShare (pr c i) c.val f)) ∗ bigSep (Finset.range 15) (cTok (F := F) c)) := bigSep_sep _ _ _
  unfold BAR1
  rw [h1, h2, h3]
  iintro ⟨⟨Hv, Hr, Hg⟩, Ha, Hc⟩
  isplitl [Hv]; · iexact Hv
  isplitl [Hr Ha]
  · isplitl [Hr] <;> iassumption
  isplitl [Hg] <;> iassumption

theorem W_bind {α β : Type} (p : Prog (TpuEff nD τ sig (Elt F) Λ₀ .tc) β) (k : β → Prog (TpuEff nD τ sig (Elt F) Λ₀ .tc) α) (Q : α → sProp (MT nD τ sig Unit (Elt F) ℕ UU ℕ)) :
    W c (p >>= k) Q = W c p fun a => W c (k a) Q := by
  unfold W; rw [wp_bind]
theorem W_pure {α : Type} (a : α) (Q : α → sProp (MT nD τ sig Unit (Elt F) ℕ UU ℕ)) : Q a ⊢ W c (pure a) Q := by
  unfold W; rw [wp_pure]
  iintro H; imodintro; iexact H
theorem W_ret {α : Type} (a : α) (Q : α → sProp (MT nD τ sig Unit (Elt F) ℕ UU ℕ)) : Q a ⊢ W c (.ret a) Q := W_pure c a Q
end Body

section Run
variable (K : Dev nD × Fin 81 → ℕ) (c : Dev nD)

/-- The kernel up to its last waits, from what a device starts with. -/
theorem run66 {Q : Dev nD → sProp (MT nD τ sig Unit (Elt F) ℕ UU ℕ)} :
    iprop(Env m K ∗ SG c 0 ∗ BAR0 c ∗ KC m c 0 ∗ VC m c 0 ∗ BX m c ∗ BWq m c ∗ BWo m c ∗ AT m c 0 ∗ BP0 c ∗ BB0 c ∗ BG0 c ∗ BO0 c ∗ (bigSep (Finset.range 15) (aTok (F := F) c)) ∗ (bigSep (Finset.range 15) (cTok (F := F) c)) ∗ (bigSep (Finset.range 15) fun i => midN c NA (36 + (pr c i).val)) ∗ (bigSep (Finset.range 15) fun i => midN c NA (68 + (pr c i).val)))
      ⊢ iprop(((semVal (bcell c) 0 ∗ KW m c 8 ∗ VW m c 8 ∗ BX m c ∗ BWq m c ∗ BWo m c ∗ BA m c ∗ BP m c ∗ prow c c.val (pbfF m c) ∗ (bigSep (Finset.range 15) fun i => postN m c (36 + (pr c i).val)) ∗ (bigSep (Finset.range 15) fun i => postN m c (68 + (pr c i).val)) ∗ gslot (Transfers.shareDrop fullShare 15) c c.val (gathF m) ∗ BO m c ∗ AW m c 1 ∗ (bigSep (Finset.range 15) fun i => midN c NA (52 + (pr c i).val))) -∗ Q c)
        -∗ W c (k0_part66 xM xW qM qW oM oW kA kAW vA vAW yM yW kM kW vM vW aM aW pM pW bM bW rM rW gM gW sK sV sA rA sC rC) Q) := by
  rw [k0_part66_eq_skeleton]
  unfold k0_part66_skel
  iintro ⟨#HE, HSG, HBAR, HKC, HVC, HX, HWq, HWo, HAT, HP, HB, HG, HO5, HaT, HcT, HM36, HM68⟩ Hk
  iapply (part1 m K c) $$ [HSG]
  · isplitr; · iexact HE
    iexact HSG
  iintro %r1_0 %r1_1 %r1_2 %r1_3 HSG
  iapply (part2 m K c) $$ [HSG]
  · isplitr; · iexact HE
    iexact HSG
  iintro %r2_0 %r2_1 %r2_2 HSG
  iapply (part3 m K c) $$ [HSG]
  · isplitr; · iexact HE
    iexact HSG
  iintro %r3_0 %r3_1 %r3_2 HSG
  iapply (part4 m K c) $$ [HSG]
  · isplitr; · iexact HE
    iexact HSG
  iintro %r4_0 %r4_1 %r4_2 HSG
  iapply (part5 m K c) $$ [HSG]
  · isplitr; · iexact HE
    iexact HSG
  iintro %r5_0 %r5_1 %r5_2 HSG
  iapply (part6 m K c) $$ [HSG]
  · isplitr; · iexact HE
    iexact HSG
  iintro %r6_0 %r6_1 %r6_2 HSG
  iapply (part7 m K c) $$ [HSG HBAR HKC HVC]
  · isplitr; · iexact HE
    isplitl [HSG]; · iexact HSG
    isplitl [HBAR]; · iexact HBAR
    isplitl [HKC]; · iexact HKC
    iexact HVC
  iintro %r7_0 ⟨HBAR, HO, HKC, HVC⟩
  ihave Hh := (bar_go c) $$ [HBAR HaT HcT]
  · isplitl [HBAR]; · iexact HBAR
    isplitl [HaT] <;> iassumption
  icases Hh with ⟨HV, HR, HCP⟩
  iapply (part8 m K c) $$ [HKC HVC]
  · isplitr; · iexact HE
    isplitl [HKC]; · iexact HKC
    iexact HVC
  iintro ⟨HKC, HVC⟩
  iapply (part9 m K c) $$ [HKC HVC]
  · isplitr; · iexact HE
    isplitl [HKC]; · iexact HKC
    iexact HVC
  iintro ⟨HKC, HVC⟩
  iapply (part10 m K c) $$ [HKC HVC]
  · isplitr; · iexact HE
    isplitl [HKC]; · iexact HKC
    iexact HVC
  iintro ⟨HKC, HVC⟩
  iapply (part11 m K c) $$ [HKC HVC HX HWq HO]
  · isplitr; · iexact HE
    isplitl [HKC]; · iexact HKC
    isplitl [HVC]; · iexact HVC
    isplitl [HX]; · iexact HX
    isplitl [HWq]; · iexact HWq
    iexact HO
  iintro ⟨HVC, HX, HWq, HKW, HO⟩
  iapply (part12 m K c) $$ [HVC HO HKW HAT]
  · isplitr; · iexact HE
    isplitl [HVC]; · iexact HVC
    isplitl [HO]; · iexact HO
    isplitl [HKW]; · iexact HKW
    iexact HAT
  iintro ⟨HVW, HO, HKW, HAT⟩
  iapply (part13 m K c) $$ [HO HVW HKW HAT]
  · isplitr; · iexact HE
    isplitl [HO]; · iexact HO
    isplitl [HVW]; · iexact HVW
    isplitl [HKW]; · iexact HKW
    iexact HAT
  iintro ⟨HO, HVW, HKW, HAT⟩
  iapply (part14 m K c) $$ [HO HVW HKW HAT]
  · isplitr; · iexact HE
    isplitl [HO]; · iexact HO
    isplitl [HVW]; · iexact HVW
    isplitl [HKW]; · iexact HKW
    iexact HAT
  iintro ⟨HO, HVW, HKW, HAT⟩
  iapply (part15 m K c) $$ [HO HVW HKW HAT]
  · isplitr; · iexact HE
    isplitl [HO]; · iexact HO
    isplitl [HVW]; · iexact HVW
    isplitl [HKW]; · iexact HKW
    iexact HAT
  iintro ⟨HO, HVW, HKW, HAT⟩
  iapply (part16 m K c) $$ [HO HVW HKW HAT]
  · isplitr; · iexact HE
    isplitl [HO]; · iexact HO
    isplitl [HVW]; · iexact HVW
    isplitl [HKW]; · iexact HKW
    iexact HAT
  iintro ⟨HO, HVW, HKW, HAT⟩
  iapply (part17 m K c) $$ [HO HVW HKW HAT]
  · isplitr; · iexact HE
    isplitl [HO]; · iexact HO
    isplitl [HVW]; · iexact HVW
    isplitl [HKW]; · iexact HKW
    iexact HAT
  iintro ⟨HO, HVW, HKW, HAT⟩
  iapply (part18 m K c) $$ [HO HVW HKW HAT]
  · isplitr; · iexact HE
    isplitl [HO]; · iexact HO
    isplitl [HVW]; · iexact HVW
    isplitl [HKW]; · iexact HKW
    iexact HAT
  iintro ⟨HO, HVW, HKW, HAT⟩
  iapply (part19 m K c) $$ [HO HVW HKW HAT HWo HP HB]
  · isplitr; · iexact HE
    isplitl [HO]; · iexact HO
    isplitl [HVW]; · iexact HVW
    isplitl [HKW]; · iexact HKW
    isplitl [HAT]; · iexact HAT
    isplitl [HWo]; · iexact HWo
    isplitl [HP]; · iexact HP
    iexact HB
  iintro ⟨HO, HVW, HKW, HWo, HA, HP, HB⟩
  iapply (part20 m K c) $$ [HB HO HR]
  · isplitr; · iexact HE
    isplitl [HB]; · iexact HB
    isplitl [HO]; · iexact HO
    iexact HR
  iintro ⟨HB, HAS⟩
  iapply (part21 m K c) $$ [HAS]
  · isplitr; · iexact HE
    iexact HAS
  iintro %r21_0 %r21_1 %r21_2 %r21_3 %r21_4 HAS
  iapply (part22 m K c) $$ [HAS]
  · isplitr; · iexact HE
    iexact HAS
  iintro %r22_0 %r22_1 %r22_2 HAS
  iapply (part23 m K c) $$ [HAS]
  · isplitr; · iexact HE
    iexact HAS
  iintro HAS
  iapply (part24 m K c) $$ [HAS]
  · isplitr; · iexact HE
    iexact HAS
  iintro %r24_0 %r24_1 HAS
  iapply (part25 m K c) $$ [HAS]
  · isplitr; · iexact HE
    iexact HAS
  iintro %r25_0 %r25_1 %r25_2 HAS
  iapply (part26 m K c) $$ [HAS]
  · isplitr; · iexact HE
    iexact HAS
  iintro HAS
  iapply (part27 m K c) $$ [HAS]
  · isplitr; · iexact HE
    iexact HAS
  iintro HAS
  iapply (part28 m K c) $$ [HAS]
  · isplitr; · iexact HE
    iexact HAS
  iintro %r28_0 %r28_1 %r28_2 %r28_3 %r28_4 HAS
  ihave Hh := (AS_AR m c) $$ [HAS HM36]
  · isplitl [HAS] <;> iassumption
  icases Hh with ⟨HAR, HAM⟩
  iapply (part29 m K c) $$ [HAR]
  · isplitr; · iexact HE
    iexact HAR
  iintro %r29_0 %r29_1 %r29_2 HAR
  iapply (part30 m K c) $$ [HAR]
  · isplitr; · iexact HE
    iexact HAR
  iintro %r30_0 %r30_1 %r30_2 %r30_3 HAR
  iapply (part31 m K c) $$ [HAR]
  · isplitr; · iexact HE
    iexact HAR
  iintro %r31_0 HAR
  iapply (part32 m K c) $$ [HAR]
  · isplitr; · iexact HE
    iexact HAR
  iintro HAR
  iapply (part33 m K c) $$ [HAR]
  · isplitr; · iexact HE
    iexact HAR
  iintro HAR
  iapply (part34 m K c) $$ [HAR]
  · isplitr; · iexact HE
    iexact HAR
  iintro HAR
  iapply (part35 m K c) $$ [HAR]
  · isplitr; · iexact HE
    iexact HAR
  iintro %r35_0 HAR
  iapply (part36 m K c) $$ [HAR HP]
  · isplitr; · iexact HE
    isplitl [HAR]; · iexact HAR
    iexact HP
  iintro %r36_0 %r36_1 %r36_2 ⟨HAR, HP⟩
  iapply (part37 m K c) $$ [HAR]
  · isplitr; · iexact HE
    iexact HAR
  iintro HAR
  iapply (part38 m K c) $$ [HAR]
  · isplitr; · iexact HE
    iexact HAR
  iintro %r38_0 %r38_1 %r38_2 HAR
  iapply (part39 m K c) $$ [HAR]
  · isplitr; · iexact HE
    iexact HAR
  iintro %r39_0 %r39_1 %r39_2 %r39_3 %r39_4 HAR
  iapply (part40 m K c) $$ [HAR]
  · isplitr; · iexact HE
    iexact HAR
  iintro HAR
  iapply (part41 m K c) $$ [HAR]
  · isplitr; · iexact HE
    iexact HAR
  iintro %r41_0 %r41_1 %r41_2 HAR
  iapply (part42 m K c) $$ [HAR]
  · isplitr; · iexact HE
    iexact HAR
  iintro HAR
  iapply (part43 m K c) $$ [HAR HG HCP]
  · isplitr; · iexact HE
    isplitl [HAR]; · iexact HAR
    isplitl [HG]; · iexact HG
    iexact HCP
  iintro %r43_0 %r43_1 %r43_2 ⟨HAR, HCS⟩
  iapply (part44 m K c) $$ [HCS]
  · isplitr; · iexact HE
    iexact HCS
  iintro HCS
  iapply (part45 m K c) $$ [HCS]
  · isplitr; · iexact HE
    iexact HCS
  iintro HCS
  iapply (part46 m K c) $$ [HCS]
  · isplitr; · iexact HE
    iexact HCS
  iintro %r46_0 %r46_1 %r46_2 %r46_3 HCS
  iapply (part47 m K c) $$ [HCS]
  · isplitr; · iexact HE
    iexact HCS
  iintro %r47_0 %r47_1 %r47_2 HCS
  iapply (part48 m K c) $$ [HCS]
  · isplitr; · iexact HE
    iexact HCS
  iintro HCS
  iapply (part49 m K c) $$ [HCS]
  · isplitr; · iexact HE
    iexact HCS
  iintro %r49_0 HCS
  iapply (part50 m K c) $$ [HCS]
  · isplitr; · iexact HE
    iexact HCS
  iintro %r50_0 %r50_1 %r50_2 HCS
  iapply (part51 m K c) $$ [HCS]
  · isplitr; · iexact HE
    iexact HCS
  iintro HCS
  ihave Hh := (CS_CR m c) $$ [HCS HM68]
  · isplitl [HCS] <;> iassumption
  icases Hh with ⟨HCR, HG, HCM⟩
  iapply (part52 m K c) $$ [HCR]
  · isplitr; · iexact HE
    iexact HCR
  iintro HCR
  iapply (part53 m K c) $$ [HCR]
  · isplitr; · iexact HE
    iexact HCR
  iintro %r53_0 HCR
  iapply (part54 m K c) $$ [HCR]
  · isplitr; · iexact HE
    iexact HCR
  iintro %r54_0 %r54_1 %r54_2 HCR
  iapply (part55 m K c) $$ [HCR]
  · isplitr; · iexact HE
    iexact HCR
  iintro %r55_0 HCR
  iapply (part56 m K c) $$ [HCR]
  · isplitr; · iexact HE
    iexact HCR
  iintro HCR
  iapply (part57 m K c) $$ [HCR]
  · isplitr; · iexact HE
    iexact HCR
  iintro %r57_0 %r57_1 HCR
  iapply (part58 m K c) $$ [HCR]
  · isplitr; · iexact HE
    iexact HCR
  iintro %r58_0 %r58_1 %r58_2 %r58_3 HCR
  iapply (part59 m K c) $$ [HCR]
  · isplitr; · iexact HE
    iexact HCR
  iintro %r59_0 %r59_1 %r59_2 HCR
  iapply (part60 m K c) $$ [HCR HG HO5 HAM]
  · isplitr; · iexact HE
    isplitl [HCR]; · iexact HCR
    isplitl [HG]; · iexact HG
    isplitl [HO5]; · iexact HO5
    iexact HAM
  iintro ⟨HCR, HG, HO5, HAW⟩
  iapply (W_pure c c Q)
  iapply Hk
  isplitl [HV]; · iexact HV
  isplitl [HKW]; · iexact HKW
  isplitl [HVW]; · iexact HVW
  isplitl [HX]; · iexact HX
  isplitl [HWq]; · iexact HWq
  isplitl [HWo]; · iexact HWo
  isplitl [HA]; · iexact HA
  isplitl [HP]; · iexact HP
  isplitl [HB]; · iexact HB
  isplitl [HAR]; · iexact HAR
  isplitl [HCR]; · iexact HCR
  isplitl [HG]; · iexact HG
  isplitl [HO5]; · iexact HO5
  isplitl [HAW]; · iexact HAW
  iexact HCM

/-- The kernel from start to end on device `c`. -/
theorem run_body {Q : PUnit → sProp (MT nD τ sig Unit (Elt F) ℕ UU ℕ)} :
    iprop(Env m K ∗ SG c 0 ∗ BAR0 c ∗ KC m c 0 ∗ VC m c 0 ∗ BX m c ∗ BWq m c ∗ BWo m c ∗ AT m c 0 ∗ BP0 c ∗ BB0 c ∗ BG0 c ∗ BO0 c ∗ (bigSep (Finset.range 15) (aTok (F := F) c)) ∗ (bigSep (Finset.range 15) (cTok (F := F) c)) ∗ (bigSep (Finset.range 15) fun i => midN c NA (36 + (pr c i).val)) ∗ (bigSep (Finset.range 15) fun i => midN c NA (68 + (pr c i).val)))
      ⊢ iprop(((semVal (bcell c) 0 ∗ KW m c 8 ∗ VW m c 8 ∗ BX m c ∗ BWq m c ∗ BWo m c ∗ BA m c ∗ BP m c ∗ prow c c.val (pbfF m c) ∗ (bigSep (Finset.range 15) fun i => postN m c (36 + (pr c i).val)) ∗ (bigSep (Finset.range 15) fun i => postN m c (68 + (pr c i).val)) ∗ gslot (Transfers.shareDrop fullShare 15) c c.val (gathF m) ∗ BO m c ∗ (bigSep (Finset.range 15) fun i => postN m c (20 + (pr c i).val)) ∗ CW m c 15) -∗ Q ⟨⟩)
        -∗ W c (cc0_body xM xW qM qW oM oW kA kAW vA vAW yM yW kM kW vM vW aM aW pM pW bM bW rM rW gM gW sK sV sA rA sC rC) Q) := by
  rw [cc0_body_eq_skeleton]
  unfold cc0_body_skel
  rw [W_bind]
  iintro ⟨#HE, HSG, HBAR, HKC, HVC, HX, HWq, HWo, HAT, HP, HB, HG, HO5, HaT, HcT, HM36, HM68⟩ Hk
  iapply (run66 m K c) $$ [HSG HBAR HKC HVC HX HWq HWo HAT HP HB HG HO5 HaT HcT HM36 HM68]
  · isplitr; · iexact HE
    isplitl [HSG]; · iexact HSG
    isplitl [HBAR]; · iexact HBAR
    isplitl [HKC]; · iexact HKC
    isplitl [HVC]; · iexact HVC
    isplitl [HX]; · iexact HX
    isplitl [HWq]; · iexact HWq
    isplitl [HWo]; · iexact HWo
    isplitl [HAT]; · iexact HAT
    isplitl [HP]; · iexact HP
    isplitl [HB]; · iexact HB
    isplitl [HG]; · iexact HG
    isplitl [HO5]; · iexact HO5
    isplitl [HaT]; · iexact HaT
    isplitl [HcT]; · iexact HcT
    isplitl [HM36]; · iexact HM36
    iexact HM68
  iintro ⟨HV, HKW, HVW, HX, HWq, HWo, HA, HP, HB, HAR, HCR, HG, HO5, HAW, HCM⟩
  iapply (part61 m K c) $$ [HAW]
  · isplitr; · iexact HE
    iexact HAW
  iintro HAW
  iapply (part62 m K c) $$ [HAW]
  · isplitr; · iexact HE
    iexact HAW
  iintro HAW
  iapply (part63 m K c) $$ [HAW HCM]
  · isplitr; · iexact HE
    isplitl [HAW]; · iexact HAW
    iexact HCM
  iintro ⟨HAW, HCW⟩
  iapply (part64 m K c) $$ [HCW]
  · isplitr; · iexact HE
    iexact HCW
  iintro HCW
  iapply (part65 m K c) $$ [HCW]
  · isplitr; · iexact HE
    iexact HCW
  iintro HCW
  simp only [Prog.lift, Prog.bind_op, Prog.bind_ret, Prog.pure_eq_ret]
  iapply (mv_csendw m K c (i := 13) (by decide) (sem17o (pr c 13) (off2_eq c (13 : Fin 15)) _)) $$ [HCW]
  · isplitr; · iexact HE
    iexact HCW
  iintro HCW
  iapply (mv_csendw m K c (i := 14) (by decide) (sem17o (pr c 14) (off2_eq c (14 : Fin 15)) _)) $$ [HCW]
  · isplitr; · iexact HE
    iexact HCW
  iintro HCW
  iapply (W_ret c (⟨⟩ : PUnit) Q)
  iapply Hk
  isplitl [HV]; · iexact HV
  isplitl [HKW]; · iexact HKW
  isplitl [HVW]; · iexact HVW
  isplitl [HX]; · iexact HX
  isplitl [HWq]; · iexact HWq
  isplitl [HWo]; · iexact HWo
  isplitl [HA]; · iexact HA
  isplitl [HP]; · iexact HP
  isplitl [HB]; · iexact HB
  isplitl [HAR]; · iexact HAR
  isplitl [HCR]; · iexact HCR
  isplitl [HG]; · iexact HG
  isplitl [HO5]; · iexact HO5
  isplitl [HAW]; · iexact HAW
  iexact HCW

end Run

end Cert.KernelIdealProof

end
-- ==== Proof.KernelIdealGhost.lean ====
/-
The launch of the schedule: the cells of a device family by family, the duty tokens dealt to whoever pays them, the
invariants of all cells put up at once, and each device's launch credit.
-/
module

public import proofs.«01_k».proof.Proof.KernelIdealBody

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families indexed by numbers -/

section Families
variable {M : Type} [URA M]

theorem bigSep_fin (n : ℕ) (Φ : ℕ → sProp M) : bigSep (Finset.univ : Finset (Fin n)) (fun k => Φ k.val) = bigSep (Finset.range n) Φ := by
  have h : (Finset.range n) = (Finset.univ : Finset (Fin n)).map Fin.valEmbedding := by
    ext k; simp only [Finset.mem_range, Finset.mem_map, Finset.mem_univ, true_and, Fin.valEmbedding_apply]
    exact ⟨fun h => ⟨⟨k, h⟩, rfl⟩, fun ⟨a, e⟩ => e ▸ a.isLt⟩
  rw [h, bigSep_map]; rfl

theorem bigSep_range_succ (n : ℕ) (Φ : ℕ → sProp M) : bigSep (Finset.range (n + 1)) Φ = iprop(Φ n ∗ bigSep (Finset.range n) Φ) := by
  rw [Finset.range_add_one]; exact bigSep_insert (Finset.notMem_range_self)

theorem bigSep_range_add (a b : ℕ) (Φ : ℕ → sProp M) :
    bigSep (Finset.range (a + b)) Φ = iprop(bigSep (Finset.range a) Φ ∗ bigSep (Finset.range b) fun i => Φ (a + i)) := by
  induction b with
  | zero =>
    refine eq_of ⟨?_, ?_⟩
    · iintro H
      isplitl
      · iexact H
      · rw [Finset.range_zero, bigSep_empty]; iempintro
    · iintro ⟨H, -⟩; iexact H
  | succ b ih =>
    rw [← Nat.add_assoc, bigSep_range_succ, ih, bigSep_range_succ]
    refine eq_of ⟨?_, ?_⟩
    · iintro ⟨H1, H2, H3⟩
      isplitl [H2]; · iexact H2
      isplitl [H1]; · iexact H1
      iexact H3
    · iintro ⟨H2, H1, H3⟩
      isplitl [H1]; · iexact H1
      isplitl [H2]; · iexact H2
      iexact H3

/-- Sixteen things, one per device: device `c`'s, and its peers' in their order. -/
theorem bigSep_dev (c : Dev nD) (Φ : ℕ → sProp M) :
    bigSep (Finset.range 16) Φ = iprop(Φ c.val ∗ bigSep (Finset.range 15) fun i => Φ (pr c i).val) := by
  have h1 : bigSep (Finset.univ : Finset (Dev nD)) (fun d => Φ d.val) = bigSep (Finset.range 16) Φ := bigSep_fin 16 Φ
  have h2 : bigSep (Finset.univ : Finset (Dev nD)) (fun d => Φ d.val) = iprop(Φ c.val ∗ bigSep (Finset.univ.erase c) (fun d => Φ d.val)) := bigSep_univ_split c
  rw [← h1, h2, bigSep_pr]

/-- A family of pairs is a pair of families. -/
theorem bigSep_pair (s : Finset ℕ) (A B : ℕ → sProp M) : bigSep s (fun i => iprop(A i ∗ B i)) = iprop(bigSep s A ∗ bigSep s B) := bigSep_sep _ _ _
end Families

/-! ## The cells of one device, family by family -/

section Cells
variable {M : Type} [URA M] (c : Dev nD)

/-- What a family of sixteen semaphores starting at number `b` has: the idle entry, and the peers'. -/
def fam (Φ : GSem nD τ sig → sProp M) (b : ℕ) : sProp M :=
  iprop(Φ (dcell c (b + c.val)) ∗ bigSep (Finset.range 15) fun i => Φ (dcell c (b + (pr c i).val)))

theorem dma_eq (Φ : GSem nD τ sig → sProp M) :
    bigSep (Finset.range 80) (fun n => Φ (dcell c (4 + n)))
      = iprop((bigSep (Finset.range 8) fun h => Φ (dcell c (4 + h))) ∗ (bigSep (Finset.range 8) fun h => Φ (dcell c (12 + h)))
          ∗ fam c Φ 20 ∗ fam c Φ 36 ∗ fam c Φ 52 ∗ fam c Φ 68) := by
  have hf (g : ℕ → ℕ) (b : ℕ) (h : ∀ i, g i = b + i) : bigSep (Finset.range 16) (fun i => Φ (dcell c (g i))) = fam c Φ b := by
    unfold fam
    rw [← bigSep_dev c (fun i => Φ (dcell c (b + i)))]
    exact bigSep_congr fun i _ => by rw [h]
  have h8 : bigSep (Finset.range 8) (fun i => Φ (dcell c (4 + (8 + i)))) = bigSep (Finset.range 8) fun h => Φ (dcell c (12 + h)) :=
    bigSep_congr fun i _ => by rw [← Nat.add_assoc]
  rw [show (80 : ℕ) = 8 + (8 + (16 + (16 + (16 + 16)))) from rfl]
  simp only [bigSep_range_add]
  rw [h8, hf (fun i => 4 + (8 + (8 + i))) 20 fun i => by omega, hf (fun i => 4 + (8 + (8 + (16 + i)))) 36 fun i => by omega,
    hf (fun i => 4 + (8 + (8 + (16 + (16 + i))))) 52 fun i => by omega, hf (fun i => 4 + (8 + (8 + (16 + (16 + (16 + i)))))) 68 fun i => by omega]

theorem cells_dma (Φ : GSem nD τ sig → sProp M) :
    bigSep Finset.univ (fun k : Fin 81 => Φ (kcell (c, k))) = iprop(Φ (bcell c) ∗ bigSep (Finset.range 80) fun n => Φ (dcell c (4 + n))) := by
  have h0 := bigSep_fin 81 (fun n => Φ (if n = 0 then bcell c else dcell c (n + 3)))
  have h1 : bigSep Finset.univ (fun k : Fin 81 => Φ (kcell (c, k))) = bigSep (Finset.range (1 + 80)) (fun n => Φ (if n = 0 then bcell c else dcell c (n + 3))) := h0
  have h2 : bigSep (Finset.range 1) (fun n => Φ (if n = 0 then bcell c else dcell c (n + 3))) = Φ (bcell c) := by
    rw [Finset.range_one, bigSep_singleton]; rfl
  rw [h1, bigSep_range_add, h2]
  refine congrArg (fun X => iprop(Φ (bcell c) ∗ X)) (bigSep_congr fun i _ => ?_)
  rw [if_neg (by omega), show 1 + i + 3 = 4 + i from by omega]

theorem cells_eq (Φ : GSem nD τ sig → sProp M) :
    bigSep Finset.univ (fun k : Fin 81 => Φ (kcell (c, k)))
      = iprop(Φ (bcell c) ∗ (bigSep (Finset.range 8) fun h => Φ (dcell c (4 + h))) ∗ (bigSep (Finset.range 8) fun h => Φ (dcell c (12 + h)))
          ∗ fam c Φ 20 ∗ fam c Φ 36 ∗ fam c Φ 52 ∗ fam c Φ 68) := by
  rw [cells_dma, dma_eq]
end Cells

theorem kcell_injective : Function.Injective kcell := by
  rintro ⟨c, k⟩ ⟨c', k'⟩ h
  have hk := k.isLt
  have hk' := k'.isLt
  have hd : ∀ j : Dev nD × Fin 81, (kcell j).1.1 = j.1 := fun j => by unfold kcell; split <;> rfl
  have h1 : c = c' := by have := congrArg (fun g : GSem nD τ sig => g.1.1) h; rwa [hd, hd] at this
  subst h1
  unfold kcell at h
  have h2 : k.val = k'.val := by
    by_cases h0 : k.val = 0 <;> by_cases h0' : k'.val = 0
    · omega
    · rw [if_pos h0, if_neg h0'] at h; exact absurd (congrArg Prod.snd h) (fun e => by cases e)
    · rw [if_neg h0, if_pos h0'] at h; exact absurd (congrArg Prod.snd h) (fun e => by cases e)
    · rw [if_neg h0, if_neg h0'] at h
      have e : SemLoc.dma (dsem (k.val + 3)) = SemLoc.dma (dsem (k'.val + 3)) := congrArg Prod.snd h
      have := dsem_inj (by omega) (by omega) (SemLoc.dma.inj e)
      omega
  exact congrArg _ (Fin.ext h2)

def ringCells : Finset (GSem nD τ sig) := Finset.univ.map ⟨kcell, kcell_injective⟩

/-! ## The duty tokens, dealt to whoever pays -/

/-- The `n`-th duty device `c` pays: 15 signals, then per transfer of the first exchange its send and its receive duty,
    the same for the second, then the eight key copies and the eight value copies. -/
def tokOf (x : Dev nD × Fin 91) : GSem nD τ sig × ℕ × Dev nD :=
  if x.2.val < 15 then (bcell (pr x.1 x.2.val), 0, x.1)
  else if x.2.val < 30 then (dcell x.1 (20 + (pr x.1 (x.2.val - 15)).val), 0, 0)
  else if x.2.val < 45 then (dcell (pr x.1 (x.2.val - 30)) (36 + x.1.val), 0, 0)
  else if x.2.val < 60 then (dcell x.1 (52 + (pr x.1 (x.2.val - 45)).val), 0, 0)
  else if x.2.val < 75 then (dcell (pr x.1 (x.2.val - 60)) (68 + x.1.val), 0, 0)
  else if x.2.val < 83 then (dcell x.1 (4 + (x.2.val - 75)), 0, 0)
  else (dcell x.1 (12 + (x.2.val - 83)), 0, 0)

/-- Who pays a duty, and which of its duties it is: read back from the cell. -/
def tokBack (t : GSem nD τ sig × ℕ × Dev nD) : ℕ :=
  match t.1.2 with
  | .reg _ => 91 * t.2.2.val + (t.1.1.1.val + 15 - t.2.2.val) % 16
  | .dma q =>
    let j := t.1.1.1.val
    let n := (q : Fin 84).val
    if n < 12 then 91 * j + (75 + (n - 4))
    else if n < 20 then 91 * j + (83 + (n - 12))
    else if n < 36 then 91 * j + (15 + (n - 20 + 15 - j) % 16)
    else if n < 52 then 91 * (n - 36) + (30 + (j + 15 - (n - 36)) % 16)
    else if n < 68 then 91 * j + (45 + (n - 52 + 15 - j) % 16)
    else 91 * (n - 68) + (60 + (j + 15 - (n - 68)) % 16)

set_option maxRecDepth 10000 in
theorem tokBack_tokOf : ∀ c : Dev nD, ∀ k : Fin 91, tokBack (tokOf (c, k)) = 91 * c.val + k.val := by decide +kernel

theorem tokOf_injective : Function.Injective tokOf := by
  rintro ⟨c, k⟩ ⟨c', k'⟩ h
  have e := congrArg tokBack h
  rw [tokBack_tokOf, tokBack_tokOf] at e
  have hk := k.isLt
  have hk' := k'.isLt
  have h1 : c.val = c'.val := by omega
  have h2 : k.val = k'.val := by omega
  exact Prod.ext (Fin.ext h1) (Fin.ext h2)

def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

section Ghost
variable (c : Dev nD)

/-- The duty tokens device `c` pays with. -/
def toks : sProp 𝕄 :=
  iprop((bigSep (Finset.range 15) fun i => dutyTok ER (bcell (pr c i)) 0 c)
    ∗ (bigSep (Finset.range 15) fun i => dutyTok ER (dcell c (20 + (pr c i).val)) 0 (0 : Dev nD))
    ∗ (bigSep (Finset.range 15) fun i => dutyTok ER (dcell (pr c i) (36 + c.val)) 0 (0 : Dev nD))
    ∗ (bigSep (Finset.range 15) fun i => dutyTok ER (dcell c (52 + (pr c i).val)) 0 (0 : Dev nD))
    ∗ (bigSep (Finset.range 15) fun i => dutyTok ER (dcell (pr c i) (68 + c.val)) 0 (0 : Dev nD))
    ∗ (bigSep (Finset.range 8) fun h => dutyTok ER (dcell c (4 + h)) 0 (0 : Dev nD))
    ∗ (bigSep (Finset.range 8) fun h => dutyTok ER (dcell c (12 + h)) 0 (0 : Dev nD)))

omit [FloatOps F] in
theorem toks_eq : bigSep Finset.univ (fun k : Fin 91 => (dutyTok ER (tokOf (c, k)).1 (tokOf (c, k)).2.1 (tokOf (c, k)).2.2 : sProp 𝕄)) = toks c := by
  let T : ℕ → GSem nD τ sig × ℕ × Dev nD := fun n =>
    if n < 15 then (bcell (pr c n), 0, c)
    else if n < 30 then (dcell c (20 + (pr c (n - 15)).val), 0, 0)
    else if n < 45 then (dcell (pr c (n - 30)) (36 + c.val), 0, 0)
    else if n < 60 then (dcell c (52 + (pr c (n - 45)).val), 0, 0)
    else if n < 75 then (dcell (pr c (n - 60)) (68 + c.val), 0, 0)
    else if n < 83 then (dcell c (4 + (n - 75)), 0, 0)
    else (dcell c (12 + (n - 83)), 0, 0)
  have h0 : bigSep Finset.univ (fun k : Fin 91 => (dutyTok ER (tokOf (c, k)).1 (tokOf (c, k)).2.1 (tokOf (c, k)).2.2 : sProp 𝕄))
      = bigSep (Finset.range (15 + (15 + (15 + (15 + (15 + (8 + 8))))))) (fun n => (dutyTok ER (T n).1 (T n).2.1 (T n).2.2 : sProp 𝕄)) :=
    bigSep_fin 91 (fun n => (dutyTok ER (T n).1 (T n).2.1 (T n).2.2 : sProp 𝕄))
  have g1 : ∀ i ∈ Finset.range 15, T i = (bcell (pr c i), 0, c) := fun i hi => by
    have := Finset.mem_range.mp hi; simp only [T]; rw [if_pos (by omega)]
  have g2 : ∀ i ∈ Finset.range 15, T (15 + i) = (dcell c (20 + (pr c i).val), 0, 0) := fun i hi => by
    have := Finset.mem_range.mp hi; simp only [T]; rw [if_neg (by omega), if_pos (by omega), show 15 + i - 15 = i from by omega]
  have g3 : ∀ i ∈ Finset.range 15, T (15 + (15 + i)) = (dcell (pr c i) (36 + c.val), 0, 0) := fun i hi => by
    have := Finset.mem_range.mp hi
    simp only [T]; rw [if_neg (by omega), if_neg (by omega), if_pos (by omega), show 15 + (15 + i) - 30 = i from by omega]
  have g4 : ∀ i ∈ Finset.range 15, T (15 + (15 + (15 + i))) = (dcell c (52 + (pr c i).val), 0, 0) := fun i hi => by
    have := Finset.mem_range.mp hi
    simp only [T]; rw [if_neg (by omega), if_neg (by omega), if_neg (by omega), if_pos (by omega), show 15 + (15 + (15 + i)) - 45 = i from by omega]
  have g5 : ∀ i ∈ Finset.range 15, T (15 + (15 + (15 + (15 + i)))) = (dcell (pr c i) (68 + c.val), 0, 0) := fun i hi => by
    have := Finset.mem_range.mp hi
    simp only [T]
    rw [if_neg (by omega), if_neg (by omega), if_neg (by omega), if_neg (by omega), if_pos (by omega), show 15 + (15 + (15 + (15 + i))) - 60 = i from by omega]
  have g6 : ∀ i ∈ Finset.range 8, T (15 + (15 + (15 + (15 + (15 + i))))) = (dcell c (4 + i), 0, 0) := fun i hi => by
    have := Finset.mem_range.mp hi
    simp only [T]
    rw [if_neg (by omega), if_neg (by omega), if_neg (by omega), if_neg (by omega), if_neg (by omega), if_pos (by omega),
      show 15 + (15 + (15 + (15 + (15 + i)))) - 75 = i from by omega]
  have g7 : ∀ i ∈ Finset.range 8, T (15 + (15 + (15 + (15 + (15 + (8 + i)))))) = (dcell c (12 + i), 0, 0) := fun i hi => by
    have := Finset.mem_range.mp hi
    simp only [T]
    rw [if_neg (by omega), if_neg (by omega), if_neg (by omega), if_neg (by omega), if_neg (by omega), if_neg (by omega),
      show 15 + (15 + (15 + (15 + (15 + (8 + i))))) - 83 = i from by omega]
  have s1 : bigSep (Finset.range 15) (fun i => (dutyTok ER (T (i)).1 (T (i)).2.1 (T (i)).2.2 : sProp 𝕄))
      = bigSep (Finset.range 15) fun i => (dutyTok ER (bcell (pr c i)) 0 c : sProp 𝕄) := bigSep_congr fun i hi => by rw [g1 i hi]
  have s2 : bigSep (Finset.range 15) (fun i => (dutyTok ER (T (15 + i)).1 (T (15 + i)).2.1 (T (15 + i)).2.2 : sProp 𝕄))
      = bigSep (Finset.range 15) fun i => (dutyTok ER (dcell c (20 + (pr c i).val)) 0 (0 : Dev nD) : sProp 𝕄) := bigSep_congr fun i hi => by rw [g2 i hi]
  have s3 : bigSep (Finset.range 15) (fun i => (dutyTok ER (T (15 + (15 + i))).1 (T (15 + (15 + i))).2.1 (T (15 + (15 + i))).2.2 : sProp 𝕄))
      = bigSep (Finset.range 15) fun i => (dutyTok ER (dcell (pr c i) (36 + c.val)) 0 (0 : Dev nD) : sProp 𝕄) := bigSep_congr fun i hi => by rw [g3 i hi]
  have s4 : bigSep (Finset.range 15) (fun i => (dutyTok ER (T (15 + (15 + (15 + i)))).1 (T (15 + (15 + (15 + i)))).2.1 (T (15 + (15 + (15 + i)))).2.2 : sProp 𝕄))
      = bigSep (Finset.range 15) fun i => (dutyTok ER (dcell c (52 + (pr c i).val)) 0 (0 : Dev nD) : sProp 𝕄) := bigSep_congr fun i hi => by rw [g4 i hi]
  have s5 : bigSep (Finset.range 15) (fun i => (dutyTok ER (T (15 + (15 + (15 + (15 + i))))).1 (T (15 + (15 + (15 + (15 + i))))).2.1 (T (15 + (15 + (15 + (15 + i))))).2.2 : sProp 𝕄))
      = bigSep (Finset.range 15) fun i => (dutyTok ER (dcell (pr c i) (68 + c.val)) 0 (0 : Dev nD) : sProp 𝕄) := bigSep_congr fun i hi => by rw [g5 i hi]
  have s6 : bigSep (Finset.range 8) (fun i => (dutyTok ER (T (15 + (15 + (15 + (15 + (15 + i)))))).1 (T (15 + (15 + (15 + (15 + (15 + i)))))).2.1 (T (15 + (15 + (15 + (15 + (15 + i)))))).2.2 : sProp 𝕄))
      = bigSep (Finset.range 8) fun i => (dutyTok ER (dcell c (4 + i)) 0 (0 : Dev nD) : sProp 𝕄) := bigSep_congr fun i hi => by rw [g6 i hi]
  have s7 : bigSep (Finset.range 8) (fun i => (dutyTok ER (T (15 + (15 + (15 + (15 + (15 + (8 + i))))))).1 (T (15 + (15 + (15 + (15 + (15 + (8 + i))))))).2.1 (T (15 + (15 + (15 + (15 + (15 + (8 + i))))))).2.2 : sProp 𝕄))
      = bigSep (Finset.range 8) fun i => (dutyTok ER (dcell c (12 + i)) 0 (0 : Dev nD) : sProp 𝕄) := bigSep_congr fun i hi => by rw [g7 i hi]
  rw [h0, bigSep_range_add, bigSep_range_add, bigSep_range_add, bigSep_range_add, bigSep_range_add, bigSep_range_add,
    s1, s2, s3, s4, s5, s6, s7]
  rfl

/-- What the launch element deals device `c`. -/
def G : sProp 𝕄 :=
  iprop((bigSep Finset.univ fun k : Fin 81 => roundState ER (sched m) (kcell (c, k)) 0)
    ∗ (bigSep Finset.univ fun k : Fin 81 => iprop(atPos ER (kcell (c, k)) 0 ∅ 0 ∗ reached ER (kcell (c, k)) 0)) ∗ toks c)

/-- The invariants and marks of every cell, at the names `K`. -/
def records (K : Dev nD × Fin 81 → ℕ) : sProp 𝕄 :=
  iprop((bigSep Finset.univ fun j => cellInv ER (sched (F := F) m) (K j) (kcell j)) ∗ (bigSep Finset.univ fun j => reached ER (kcell j) 0))

instance records_persistent (K : Dev nD × Fin 81 → ℕ) : BI.Persistent (records m K) := by unfold records; infer_instance

/-- What the global step makes of it: the records, the device's positions, the tokens it pays with. -/
def G' : sProp 𝕄 :=
  iprop(∃ K, records m K ∗ (bigSep Finset.univ fun k : Fin 81 => atPos ER (kcell (c, k)) 0 ∅ 0) ∗ toks c)
end Ghost

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 81 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores of the launch -/

/-- The kernel's own semaphores. -/
abbrev osem : Fin 80 → SemLoc sig := fun k => .dma (dsem (4 + k.val))

theorem ownSemFacts : Pipeline.OwnSemFacts cfg0.spec osem where
  isScoped := by decide +kernel
  inj := fun a b h => by
    have ha := a.isLt
    have hb := b.isLt
    have := dsem_inj (by omega) (by omega) (SemLoc.dma.inj h)
    exact Fin.ext (by omega)
  disj := by decide +kernel

omit [FloatOps F] in
theorem ownSems0_eq (c : Dev nD) : (Pipeline.ownSems0 (Ix := Unit) (Name := ℕ) (U := UU) (Lvl := ℕ) (Val := Elt F) (τ := τ) osem c : sProp 𝕄)
    = bigSep (Finset.range 80) fun n => semVal (dcell c (4 + n)) 0 :=
  bigSep_fin 80 (fun n => (semVal (dcell c (4 + n)) 0 : sProp 𝕄))
omit [FloatOps F] in
/-- The barrier semaphore is the launch's one unscoped semaphore. -/
theorem unscopedSems0_eq (c : Dev nD) : (unscopedSems0 c : sProp 𝕄) = semVal (bcell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 81 => semVal (kcell (c, k)) 0 : sProp 𝕄) := by
  rw [ownSems0_eq, unscopedSems0_eq, cells_dma c (fun g => (semVal g 0 : sProp 𝕄))]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 81 => semVal (kcell (c, k)) 0) ∗ bigSep Finset.univ fun k : Fin 81 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 81 => iprop(∃ κ : ℕ, cellInv ER (sched m) κ (kcell ck))),
    bigSep_congr (s := Finset.univ) (fun (c : Dev nD) _ => bigSep_sep' Finset.univ (fun k : Fin 81 => (atPos ER (kcell (c, k)) 0 ∅ 0 : sProp 𝕄)) (fun k => reached ER (kcell (c, k)) 0)),
    bigSep_sep', ← bigSep_univ_prod (fun ck : Dev nD × Fin 81 => (reached ER (kcell ck) 0 : sProp 𝕄))]
  iintro ⟨HI, ⟨Hat, #HR⟩, Htok⟩
  ihave HK := (BI.bigSep_exists_pi Finset.univ (fun (ck : Dev nD × Fin 81) (κ : ℕ) => (cellInv ER (sched m) κ (kcell ck) : sProp 𝕄))) $$ HI
  icases HK with ⟨%K, #HI⟩
  iapply (bigSep_with_persistent (R := records m K) (Φ := fun c => iprop((bigSep Finset.univ fun k : Fin 81 => atPos ER (kcell (c, k)) 0 ∅ 0) ∗ toks c))
    (Ψ := G' m) fun c _ => by unfold G'; iintro ⟨#H1, H2⟩; iexists K; isplitr; · iexact H1
                              iexact H2)
  isplitr
  · unfold records; isplitl; · iexact HI
    iexact HR
  · rw [bigSep_sep']
    isplitl [Hat]; · iexact Hat
    iexact Htok

/-- Every device's own and unscoped semaphores at once, put under the schedule. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

section Credit

theorem sum_tally_apply (G : ℕ → GSem nD τ sig) (N : ℕ) (g : GSem nD τ sig) :
    (∑ e ∈ Finset.Ico 0 15, (tallyAt (G e) () N : CellTallies nD τ sig Unit)) g () = ∑ e ∈ Finset.Ico 0 15, (if g = G e then 1 else 0) * N := by
  rw [Finset.sum_apply, Finsupp.finset_sum_apply]
  refine Finset.sum_congr rfl fun e _ => ?_
  rw [tallyAt_apply]
  by_cases h : g = G e
  · rw [if_pos ⟨h, rfl⟩, if_pos h, one_mul]
  · rw [if_neg (fun h' => h h'.1), if_neg h, zero_mul]

theorem bcell_iff {a b : Dev nD} : bcell a = bcell b ↔ a = b :=
  ⟨fun h => congrArg (fun g : GSem nD τ sig => g.1.1) h, fun h => h ▸ rfl⟩
theorem dcell_iff {a b : Dev nD} {n k : ℕ} (hn : n < 84) (hk : k < 84) : dcell a n = dcell b k ↔ a = b ∧ n = k :=
  ⟨fun h => ⟨congrArg (fun g : GSem nD τ sig => g.1.1) h, dsem_inj hn hk (SemLoc.dma.inj (congrArg Prod.snd h))⟩, fun h => by rw [h.1, h.2]⟩

theorem count_bar : ∀ c : Dev nD, (∑ d : Dev nD, ∑ e ∈ Finset.Ico 0 15, if c = pr d e then 1 else 0) = 15 := by decide +kernel
theorem count_dma : ∀ c : Dev nD, ∀ i : Fin 15,
    (∑ d : Dev nD, ∑ e ∈ Finset.Ico 0 15, if c = pr d e ∧ (pr c i.val).val = d.val then 1 else 0) = 1 := by decide +kernel

theorem owed_bar (d c : Dev nD) : O₀ d (bcell c) () = ∑ e ∈ Finset.Ico 0 15, if c = pr d e then 1 else 0 := by
  unfold O₀ OB OA OC
  rw [Pi.add_apply, Finsupp.add_apply, Pi.add_apply, Finsupp.add_apply, sum_tally_apply, sum_tally_apply, sum_tally_apply]
  have h (b : ℕ) : (∑ e ∈ Finset.Ico 0 15, (if bcell c = dcell (pr d e) (b + d.val) then 1 else 0) * NA) = 0 :=
    Finset.sum_eq_zero fun e _ => by rw [if_neg (fun h => by cases congrArg Prod.snd h), zero_mul]
  rw [h, h, Nat.add_zero]
  exact Finset.sum_congr rfl fun e _ => by simp only [bcell_iff, mul_one]

theorem tally_same (d c s : Dev nD) {b : ℕ} (hb : b = 36 ∨ b = 68) (N : ℕ) :
    (∑ e ∈ Finset.Ico 0 15, (if dcell c (b + s.val) = dcell (pr d e) (b + d.val) then 1 else 0) * N)
      = ∑ e ∈ Finset.Ico 0 15, (if c = pr d e ∧ s.val = d.val then 1 else 0) * N := by
  have hs : s.val < 16 := s.isLt
  have hd : d.val < 16 := d.isLt
  refine Finset.sum_congr rfl fun e _ => congrArg (· * N) (if_congr ?_ rfl rfl)
  exact (dcell_iff (by omega) (by omega)).trans (and_congr_right' (by omega))
theorem tally_off (d c s : Dev nD) {b b' : ℕ} (hb : b = 36 ∨ b = 68) (hb' : b' = 36 ∨ b' = 68) (h2 : b ≠ b') (N : ℕ) :
    (∑ e ∈ Finset.Ico 0 15, (if dcell c (b + s.val) = dcell (pr d e) (b' + d.val) then 1 else 0) * N) = 0 := by
  have hs : s.val < 16 := s.isLt
  have hd : d.val < 16 := d.isLt
  refine Finset.sum_eq_zero fun e _ => ?_
  rw [if_neg (fun h => by have := ((dcell_iff (by omega) (by omega)).mp h).2; omega), zero_mul]
theorem tally_bar (d c : Dev nD) (n : ℕ) : (∑ e ∈ Finset.Ico 0 15, (if dcell c n = bcell (pr d e) then 1 else 0) * 1) = 0 :=
  Finset.sum_eq_zero fun e _ => by rw [if_neg (fun h => by cases congrArg Prod.snd h), zero_mul]

theorem owed_dma (d c : Dev nD) {b : ℕ} (hb : b = 36 ∨ b = 68) (s : Dev nD) :
    O₀ d (dcell c (b + s.val)) () = ∑ e ∈ Finset.Ico 0 15, (if c = pr d e ∧ s.val = d.val then 1 else 0) * NA := by
  unfold O₀ OB OA OC
  rw [Pi.add_apply, Finsupp.add_apply, Pi.add_apply, Finsupp.add_apply, sum_tally_apply, sum_tally_apply, sum_tally_apply, tally_bar, Nat.zero_add]
  rcases hb with rfl | rfl
  · rw [tally_same d c s (.inl rfl), tally_off d c s (.inl rfl) (.inr rfl) (by decide), Nat.add_zero]
  · rw [tally_same d c s (.inr rfl), tally_off d c s (.inr rfl) (.inl rfl) (by decide), Nat.zero_add]

theorem launch_bar (c : Dev nD) :
    tallyOn (bcell c) (launchCredit (Pipeline.owing O₀) 0 (bcell c)) = (tallyAt (bcell c) () 15 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_dma (c : Dev nD) {b : ℕ} (hb : b = 36 ∨ b = 68) {i : ℕ} (hi : i < 15) :
    tallyOn (dcell c (b + (pr c i).val)) (launchCredit (Pipeline.owing O₀) 0 (dcell c (b + (pr c i).val)))
      = (tallyAt (dcell c (b + (pr c i).val)) () NA : CellTallies nD τ sig Unit) := by
  unfold tallyAt; refine congrArg _ (Finsupp.ext fun u => ?_); cases u
  rw [Pipeline.launchCredit_owing, Finsupp.single_eq_same, Finset.sum_congr rfl fun d _ => owed_dma d c hb (pr c i)]
  simp only [← Finset.sum_mul]
  rw [count_dma c ⟨i, hi⟩, one_mul]

/-- Entry of peer `i` in the family of sixteen semaphores starting at number `b`. -/
def peerSem (c : Dev nD) (b i : ℕ) : SemLoc sig := .dma (dsem (b + (pr c i).val))
theorem peerSem_inj (c : Dev nD) {b b' i j : ℕ} (hb : b = 36 ∨ b = 68) (hb' : b' = 36 ∨ b' = 68) (hi : i < 15) (hj : j < 15)
    (h : peerSem c b i = peerSem c b' j) : b = b' ∧ i = j := by
  have h1 : (pr c i).val < 16 := (pr c i).isLt
  have h2 : (pr c j).val < 16 := (pr c j).isLt
  have h3 := dsem_inj (n := b + (pr c i).val) (k := b' + (pr c j).val) (by omega) (by omega) (SemLoc.dma.inj h)
  have h4 : b = b' := by omega
  have h5 : (pr c i).val = (pr c j).val := by omega
  exact ⟨h4, pr_inj c hi hj (Fin.ext h5)⟩
theorem peerSem_ne (c : Dev nD) (b i : ℕ) : peerSem c b i ≠ .reg barS := fun h => by unfold peerSem at h; cases h

/-- Of a family over some semaphores, the members at given ones. -/
theorem bigSep_take {M : Type} [URA M] {I : Type} [DecidableEq I] (s : Finset I) (Ψ : I → sProp M) (f g : ℕ → I) (n : ℕ)
    (hf : ∀ i < n, ∀ j < n, f i = f j → i = j) (hg : ∀ i < n, ∀ j < n, g i = g j → i = j) (hfg : ∀ i < n, ∀ j < n, f i ≠ g j)
    (hfs : ∀ i < n, f i ∈ s) (hgs : ∀ i < n, g i ∈ s) :
    bigSep s Ψ ⊢ iprop((bigSep (Finset.range n) fun i => Ψ (f i)) ∗ (bigSep (Finset.range n) fun i => Ψ (g i))) := by
  have hdis : Disjoint ((Finset.range n).image f) ((Finset.range n).image g) := Finset.disjoint_left.mpr fun x h1 h2 => by
    obtain ⟨i, hi, rfl⟩ := Finset.mem_image.mp h1
    obtain ⟨j, hj, e⟩ := Finset.mem_image.mp h2
    exact hfg i (Finset.mem_range.mp hi) j (Finset.mem_range.mp hj) e.symm
  have hsub : (Finset.range n).image f ∪ (Finset.range n).image g ⊆ s := fun x hx => by
    rcases Finset.mem_union.mp hx with h | h <;> obtain ⟨i, hi, rfl⟩ := Finset.mem_image.mp h
    · exact hfs i (Finset.mem_range.mp hi)
    · exact hgs i (Finset.mem_range.mp hi)
  have hu : bigSep ((Finset.range n).image f ∪ (Finset.range n).image g) Ψ
      = iprop((bigSep (Finset.range n) fun i => Ψ (f i)) ∗ (bigSep (Finset.range n) fun i => Ψ (g i))) :=
    (bigSep_union hdis).trans (congrArg₂ BI.sep
      (bigSep_image_of_injOn (fun i hi j hj h => hf i (Finset.mem_range.mp hi) j (Finset.mem_range.mp hj) h) Ψ)
      (bigSep_image_of_injOn (fun i hi j hj h => hg i (Finset.mem_range.mp hi) j (Finset.mem_range.mp hj) h) Ψ))
  rw [← hu]
  exact bigSep_subset hsub

/-- Of a family over all semaphores of device `c`: the barrier's member, and those of the two exchanges' receive semaphores. -/
theorem sems_take {M : Type} [URA M] (c : Dev nD) (Ψ : SemLoc sig → sProp M) :
    bigSep Finset.univ Ψ ⊢ iprop(Ψ (.reg barS) ∗ (bigSep (Finset.range 15) fun i => Ψ (peerSem c 36 i))
      ∗ (bigSep (Finset.range 15) fun i => Ψ (peerSem c 68 i))) := by
  have h1 : bigSep Finset.univ Ψ = iprop(Ψ (.reg barS) ∗ bigSep (Finset.univ.erase (.reg barS)) Ψ) := bigSep_univ_split _
  rw [h1]
  exact sep_mono_right (bigSep_take _ Ψ (peerSem c 36) (peerSem c 68) 15
    (fun i hi j hj h => (peerSem_inj c (.inl rfl) (.inl rfl) hi hj h).2) (fun i hi j hj h => (peerSem_inj c (.inr rfl) (.inr rfl) hi hj h).2)
    (fun i hi j hj h => absurd (peerSem_inj c (.inl rfl) (.inr rfl) hi hj h).1 (by decide))
    (fun i _ => Finset.mem_erase.mpr ⟨peerSem_ne c 36 i, Finset.mem_univ _⟩) (fun i _ => Finset.mem_erase.mpr ⟨peerSem_ne c 68 i, Finset.mem_univ _⟩))

omit [FloatOps F] in
/-- A device's launch credit: its barrier's fifteen units and a transfer's for each entry of its receive semaphores. -/
theorem creds (c : Dev nD) :
    (Pipeline.launchCred O₀ c : sProp 𝕄) ⊢ iprop(cred (tallyAt (bcell c) () 15)
      ∗ (bigSep (Finset.range 15) fun i => cred (tallyAt (dcell c (36 + (pr c i).val)) () NA))
      ∗ (bigSep (Finset.range 15) fun i => cred (tallyAt (dcell c (68 + (pr c i).val)) () NA))) := by
  have ha (b : ℕ) (hb : b = 36 ∨ b = 68) : (bigSep (Finset.range 15) fun i => (cred (tallyOn (dcell c (b + (pr c i).val))
        (launchCredit (Pipeline.owing O₀) 0 (dcell c (b + (pr c i).val)))) : sProp 𝕄))
      = bigSep (Finset.range 15) fun i => cred (tallyAt (dcell c (b + (pr c i).val)) () NA) :=
    bigSep_congr fun i hi => by rw [launch_dma c hb (Finset.mem_range.mp hi)]
  rw [← launch_bar, ← ha 36 (.inl rfl), ← ha 68 (.inr rfl)]
  exact sems_take c _
end Credit

end Cert.KernelIdealProof

end
-- ==== Proof.KernelIdealRun.lean ====
/-
Each device's part of the launch around the kernel: cutting its buffers, running the kernel, closing the semaphores;
then the run of all devices.
-/
module

public import proofs.«01_k».proof.Proof.KernelIdealGhost

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Run
variable (K : Dev nD × Fin 81 → ℕ) (c : Dev nD)

/-! ## Into the kernel -/

/-- The scratch buffers, each whole at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

/-- The key and value arrays, whole. -/
def arrs : sProp 𝕄 :=
  iprop(((c : Thread nD τ).loc main_arg2 ↦{fullShare} karr m c) ∗ ((c : Thread nD τ).loc main_arg3 ↦{fullShare} varr m c))

/-- The launch credits. -/
def crd : sProp 𝕄 :=
  iprop(cred (tallyAt (bcell c) () 15) ∗ (bigSep (Finset.range 15) fun i => cred (tallyAt (dcell c (36 + (pr c i).val)) () NA))
    ∗ (bigSep (Finset.range 15) fun i => cred (tallyAt (dcell c (68 + (pr c i).val)) () NA)))

/-- What the kernel leaves alone: its own slot of the first landing buffer, the other devices' heads of the key and
    value arrays. -/
def aside : sProp 𝕄 :=
  iprop((∃ f, rslot c c.val f) ∗ ((c : Thread nD τ).loc main_arg2 ↦[Finset.univ \ ownHeads c]{fullShare} karr m c)
    ∗ ((c : Thread nD τ).loc main_arg3 ↦[Finset.univ \ ownHeads c]{fullShare} varr m c))

/-- The positions of the four semaphores nobody pays. -/
def idle : sProp 𝕄 :=
  iprop(atPos ER (dcell c (20 + c.val)) 0 ∅ 0 ∗ atPos ER (dcell c (36 + c.val)) 0 ∅ 0 ∗ atPos ER (dcell c (52 + c.val)) 0 ∅ 0 ∗ atPos ER (dcell c (68 + c.val)) 0 ∅ 0)
/-- The four at zero. -/
def idleZ : sProp 𝕄 :=
  iprop(semVal (dcell c (20 + c.val)) 0 ∗ semVal (dcell c (36 + c.val)) 0 ∗ semVal (dcell c (52 + c.val)) 0 ∗ semVal (dcell c (68 + c.val)) 0)

/-- What the kernel starts from, but for the staged inputs. -/
def entry : sProp 𝕄 :=
  iprop(SG c 0 ∗ BAR0 c ∗ KC m c 0 ∗ VC m c 0 ∗ AT m c 0 ∗ BP0 c ∗ BB0 c ∗ BG0 c
    ∗ (bigSep (Finset.range 15) (aTok (F := F) c)) ∗ (bigSep (Finset.range 15) (cTok (F := F) c))
    ∗ (bigSep (Finset.range 15) fun i => midN c NA (36 + (pr c i).val)) ∗ (bigSep (Finset.range 15) fun i => midN c NA (68 + (pr c i).val)))

theorem SG_start : iprop(OW c (O3 c 0 0 0) ∗ (bigSep (Finset.range 15) fun i => dutyTok ER (bcell (pr c i)) 0 c)
      ∗ (bigSep (Finset.range 15) fun i => iprop(∃ f, rslot c (pr c i).val f)) ∗ (bigSep (Finset.range 15) fun i => iprop(∃ f, gslot fullShare c (pr c i).val f)))
    ⊢ (SG c 0 : sProp 𝕄) := by
  have h : (bigSep (Finset.range 15) (sigPre (F := F) c)) = iprop((bigSep (Finset.range 15) fun i => dutyTok ER (bcell (pr c i)) 0 c)
      ∗ (bigSep (Finset.range 15) fun i => iprop(∃ f, rslot c (pr c i).val f)) ∗ (bigSep (Finset.range 15) fun i => iprop(∃ f, gslot fullShare c (pr c i).val f))) := by
    rw [← bigSep_pair, ← bigSep_pair]; rfl
  unfold SG
  iintro ⟨HO, HR⟩
  isplitl [HO]; · iexact HO
  iapply (St_start (sigPre c) (fun _ => iprop(emp)) 15)
  rw [h]; iexact HR

theorem KC_start : iprop((bigSep (Finset.range 8) fun h => iprop(∃ f, kslab c h f)) ∗ (bigSep (Finset.range 8) fun h => khead m c (8 * c.val + h))
      ∗ (bigSep (Finset.range 8) fun h => dutyTok ER (dcell c (4 + h)) 0 (0 : Dev nD)) ∗ (bigSep (Finset.range 8) fun h => atPos ER (dcell c (4 + h)) 0 ∅ 0))
    ⊢ (KC m c 0 : sProp 𝕄) := by
  have h : (bigSep (Finset.range 8) (kPre m c)) = iprop((bigSep (Finset.range 8) fun h => iprop(∃ f, kslab c h f)) ∗ (bigSep (Finset.range 8) fun h => khead m c (8 * c.val + h))
      ∗ (bigSep (Finset.range 8) fun h => dutyTok ER (dcell c (4 + h)) 0 (0 : Dev nD)) ∗ (bigSep (Finset.range 8) fun h => atPos ER (dcell c (4 + h)) 0 ∅ 0)) := by
    rw [← bigSep_pair, ← bigSep_pair, ← bigSep_pair]; rfl
  unfold KC
  rw [← h]; exact St_start _ _ 8
theorem VC_start : iprop((bigSep (Finset.range 8) fun h => iprop(∃ f, vslab c h f)) ∗ (bigSep (Finset.range 8) fun h => vhead m c (8 * c.val + h))
      ∗ (bigSep (Finset.range 8) fun h => dutyTok ER (dcell c (12 + h)) 0 (0 : Dev nD)) ∗ (bigSep (Finset.range 8) fun h => atPos ER (dcell c (12 + h)) 0 ∅ 0))
    ⊢ (VC m c 0 : sProp 𝕄) := by
  have h : (bigSep (Finset.range 8) (vPre m c)) = iprop((bigSep (Finset.range 8) fun h => iprop(∃ f, vslab c h f)) ∗ (bigSep (Finset.range 8) fun h => vhead m c (8 * c.val + h))
      ∗ (bigSep (Finset.range 8) fun h => dutyTok ER (dcell c (12 + h)) 0 (0 : Dev nD)) ∗ (bigSep (Finset.range 8) fun h => atPos ER (dcell c (12 + h)) 0 ∅ 0)) := by
    rw [← bigSep_pair, ← bigSep_pair, ← bigSep_pair]; rfl
  unfold VC
  rw [← h]; exact St_start _ _ 8

theorem aTok_eq : (bigSep (Finset.range 15) (aTok (F := F) c) : sProp 𝕄)
    = iprop((bigSep (Finset.range 15) fun i => dutyTok ER (dcell c (20 + (pr c i).val)) 0 (0 : Dev nD))
      ∗ (bigSep (Finset.range 15) fun i => dutyTok ER (dcell (pr c i) (36 + c.val)) 0 (0 : Dev nD))
      ∗ (bigSep (Finset.range 15) fun i => atPos ER (dcell c (20 + (pr c i).val)) 0 ∅ 0)) := by
  rw [← bigSep_pair, ← bigSep_pair]; rfl
theorem cTok_eq : (bigSep (Finset.range 15) (cTok (F := F) c) : sProp 𝕄)
    = iprop((bigSep (Finset.range 15) fun i => dutyTok ER (dcell c (52 + (pr c i).val)) 0 (0 : Dev nD))
      ∗ (bigSep (Finset.range 15) fun i => dutyTok ER (dcell (pr c i) (68 + c.val)) 0 (0 : Dev nD))
      ∗ (bigSep (Finset.range 15) fun i => atPos ER (dcell c (52 + (pr c i).val)) 0 ∅ 0)) := by
  rw [← bigSep_pair, ← bigSep_pair]; rfl
theorem mids_eq (b : ℕ) : (bigSep (Finset.range 15) (fun i => midN c NA (b + (pr c i).val)) : sProp 𝕄)
    = iprop((bigSep (Finset.range 15) fun i => atPos ER (dcell c (b + (pr c i).val)) 0 ∅ 0)
      ∗ (bigSep (Finset.range 15) fun i => cred (tallyAt (dcell c (b + (pr c i).val)) () NA))) := by
  rw [← bigSep_pair]; rfl

theorem enter : iprop((bigSep Finset.univ fun k : Fin 81 => atPos ER (kcell (c, k)) 0 ∅ 0) ∗ toks c ∗ crd c ∗ OW c (O3 c 0 0 0) ∗ arrs m c ∗ scratch c)
    ⊢ (iprop(entry m c ∗ aside m c ∗ idle c) : sProp 𝕄) := by
  rw [cells_eq c (fun g => (atPos ER g 0 ∅ 0 : sProp 𝕄))]
  unfold toks crd arrs scratch fam entry aside idle BAR0
  rw [khead_split, vhead_split, aTok_eq, cTok_eq, mids_eq, mids_eq]
  iintro ⟨⟨HaB, HaK, HaV, ⟨Ha20, Ha20s⟩, ⟨Ha36, Ha36s⟩, ⟨Ha52, Ha52s⟩, ⟨Ha68, Ha68s⟩⟩, ⟨HtB, Ht20, Ht36, Ht52, Ht68, HtK, HtV⟩, ⟨HcB, Hc36, Hc68⟩, HO,
    ⟨⟨HkH, HkR⟩, ⟨HvH, HvR⟩⟩, ⟨%f0, H0⟩, ⟨%f1, H1⟩, ⟨%f2, H2⟩, ⟨%f3, H3⟩, ⟨%f4, H4⟩, ⟨%f5, H5⟩, ⟨%f6, H6⟩⟩
  ihave H0 := (kslab_split c f0) $$ H0
  ihave H1 := (vslab_split c f1) $$ H1
  ihave H5 := (recv_split c f5) $$ H5
  ihave H6 := (gath_split c f6) $$ H6
  icases H5 with ⟨H5, H5s⟩
  icases H6 with ⟨H6, H6s⟩
  isplitr [H5 HkR HvR Ha20 Ha36 Ha52 Ha68]
  · isplitl [HO HtB H5s H6s]
    · iapply (SG_start c)
      isplitl [HO]; · iexact HO
      isplitl [HtB]; · iexact HtB
      isplitl [H5s]; · iexact H5s
      iexact H6s
    isplitl [HaB HcB]
    · isplitl [HaB]; · iexact HaB
      iexact HcB
    isplitl [H0 HkH HtK HaK]
    · iapply (KC_start m c)
      isplitl [H0]; · iexact H0
      isplitl [HkH]; · iexact HkH
      isplitl [HtK]; · iexact HtK
      iexact HaK
    isplitl [H1 HvH HtV HaV]
    · iapply (VC_start m c)
      isplitl [H1]; · iexact H1
      isplitl [HvH]; · iexact HvH
      isplitl [HtV]; · iexact HtV
      iexact HaV
    isplitl [H2]
    · unfold AT; iexists f2
      isplitl [H2]; · iexact H2
      ipureintro; exact attnUpTo_zero m c f2
    isplitl [H3]; · unfold BP0; iexists f3; iexact H3
    isplitl [H4]; · unfold BB0; iexists f4; iexact H4
    isplitl [H6]; · unfold BG0; iexact H6
    isplitl [Ht20 Ht36 Ha20s]
    · isplitl [Ht20]; · iexact Ht20
      isplitl [Ht36]; · iexact Ht36
      iexact Ha20s
    isplitl [Ht52 Ht68 Ha52s]
    · isplitl [Ht52]; · iexact Ht52
      isplitl [Ht68]; · iexact Ht68
      iexact Ha52s
    isplitl [Ha36s Hc36]
    · isplitl [Ha36s]; · iexact Ha36s
      iexact Hc36
    isplitl [Ha68s]; · iexact Ha68s
    iexact Hc68
  isplitl [H5 HkR HvR]
  · isplitl [H5]; · iexact H5
    isplitl [HkR]; · iexact HkR
    iexact HvR
  isplitl [Ha20]; · iexact Ha20
  isplitl [Ha36]; · iexact Ha36
  isplitl [Ha52]; · iexact Ha52
  iexact Ha68

/-! ## Out of the kernel -/

/-- What the kernel ends with, but for the staged inputs and the result. -/
def exitP : sProp 𝕄 :=
  iprop(semVal (bcell c) 0 ∗ KW m c 8 ∗ VW m c 8 ∗ BA m c ∗ BP m c ∗ prow c c.val (pbfF m c)
    ∗ (bigSep (Finset.range 15) fun i => postN m c (36 + (pr c i).val)) ∗ (bigSep (Finset.range 15) fun i => postN m c (68 + (pr c i).val))
    ∗ gslot (Transfers.shareDrop fullShare 15) c c.val (gathF m) ∗ (bigSep (Finset.range 15) fun i => postN m c (20 + (pr c i).val)) ∗ CW m c 15)

/-- The device's own semaphores at zero. -/
def zeros : sProp 𝕄 := iprop((bigSep (Finset.range 80) fun n => semVal (dcell c (4 + n)) 0) ∗ semVal (bcell c) 0)

theorem posts_eq (s : Finset ℕ) (n : ℕ → ℕ) (D : ℕ → sProp 𝕄) (hD : ∀ i ∈ s, dmaPay m c (n i) = D i) :
    (bigSep s (fun i => postN m c (n i)) : sProp 𝕄) = iprop(bigSep s D ∗ bigSep s fun i => semVal (dcell c (n i)) 0) := by
  rw [← bigSep_pair]
  exact bigSep_congr fun i hi => by unfold postN; rw [hD i hi]

theorem KW_end : KW m c 8 ⊢ iprop((bigSep (Finset.range 8) fun h => kslab c h (kF m c)) ∗ (bigSep (Finset.range 8) fun h => khead m c (8 * c.val + h))
    ∗ (bigSep (Finset.range 8) fun h => semVal (dcell c (4 + h)) 0)) := by
  unfold KW
  refine (St_end _ _ 8).trans (Entails.of_eq ?_)
  rw [posts_eq m c _ (fun h => 4 + h) (fun h => iprop(kslab c h (kF m c) ∗ khead m c (8 * c.val + h))) (fun h hh => dmaPay_k m c h (Finset.mem_range.mp hh)), bigSep_pair]
  exact eq_of ⟨by iintro ⟨⟨H1, H2⟩, H3⟩; isplitl [H1]; · iexact H1
                  isplitl [H2]; · iexact H2
                  iexact H3, by iintro ⟨H1, H2, H3⟩; isplitr [H3]; · isplitl [H1]; · iexact H1
                                                                     iexact H2
                                iexact H3⟩
theorem VW_end : VW m c 8 ⊢ iprop((bigSep (Finset.range 8) fun h => vslab c h (vF m c)) ∗ (bigSep (Finset.range 8) fun h => vhead m c (8 * c.val + h))
    ∗ (bigSep (Finset.range 8) fun h => semVal (dcell c (12 + h)) 0)) := by
  unfold VW
  refine (St_end _ _ 8).trans (Entails.of_eq ?_)
  rw [posts_eq m c _ (fun h => 12 + h) (fun h => iprop(vslab c h (vF m c) ∗ vhead m c (8 * c.val + h))) (fun h hh => dmaPay_v m c h (Finset.mem_range.mp hh)), bigSep_pair]
  exact eq_of ⟨by iintro ⟨⟨H1, H2⟩, H3⟩; isplitl [H1]; · iexact H1
                  isplitl [H2]; · iexact H2
                  iexact H3, by iintro ⟨H1, H2, H3⟩; isplitr [H3]; · isplitl [H1]; · iexact H1
                                                                     iexact H2
                                iexact H3⟩
theorem CW_end : CW m c 15 ⊢ iprop(OW c (O3 c 15 15 15) ∗ (bigSep (Finset.range 15) fun i => gslot (gtok i) c c.val (gathF m))
    ∗ (bigSep (Finset.range 15) fun i => semVal (dcell c (52 + (pr c i).val)) 0)) := by
  unfold CW
  iintro ⟨HO, H⟩
  isplitl [HO]; · iexact HO
  ihave H := (St_end _ _ 15) $$ H
  ihave H := (Entails.of_eq (posts_eq m c (Finset.range 15) (fun i => 52 + (pr c i).val) (fun i => gslot (gtok i) c c.val (gathF m))
    (fun i hi => dmaPay_cs m c (Finset.mem_range.mp hi)))) $$ H
  iexact H

/-- A semaphore nobody pays closes at once. -/
theorem idle_close {b : ℕ} (hb : b = 20 ∨ b = 36 ∨ b = 52 ∨ b = 68) :
    iprop(records m K ∗ atPos ER (dcell c (b + c.val)) 0 ∅ 0) ⊢ iprop(|={Set.univ}=> semVal (dcell c (b + c.val)) 0 : sProp 𝕄) := by
  have h1 : c.val < 16 := c.isLt
  have h4 : 4 ≤ b + c.val := by omega
  have h84 : b + c.val < 84 := by omega
  have hk := kcell_dma c h4 h84
  have hin : (bigSep Finset.univ fun j => (cellInv ER (sched (F := F) m) (K j) (kcell j) : sProp 𝕄))
      ⊢ cellInv ER (sched (F := F) m) (K (c, ⟨b + c.val - 3, by omega⟩)) (dcell c (b + c.val)) := by
    rw [← hk]; exact bigSep_elim (Finset.mem_univ _)
  unfold records
  iintro ⟨⟨#HI, -⟩, Ha⟩
  ihave #Hi := hin $$ HI
  iapply (Rounds.cell_close ER (sched m) (Set.mem_univ (K (c, ⟨b + c.val - 3, by omega⟩))) (fun h => h) (R := 0)
    (fun r _ => duties_dma_off m c h84 (dmaOff_self c hb) r))
  isplitr; · iexact Hi
  iexact Ha

theorem idle_all : iprop(records m K ∗ idle c) ⊢ iprop(|={Set.univ}=> idleZ c : sProp 𝕄) := by
  unfold idle idleZ
  iintro ⟨#HR, Ha20, Ha36, Ha52, Ha68⟩
  imod (idle_close m K c (b := 20) (.inl rfl)) $$ [Ha20] with Hz20c
  · isplitr; · iexact HR
    iexact Ha20
  imod (idle_close m K c (b := 36) (.inr (.inl rfl))) $$ [Ha36] with Hz36c
  · isplitr; · iexact HR
    iexact Ha36
  imod (idle_close m K c (b := 52) (.inr (.inr (.inl rfl)))) $$ [Ha52] with Hz52c
  · isplitr; · iexact HR
    iexact Ha52
  imod (idle_close m K c (b := 68) (.inr (.inr (.inr rfl)))) $$ [Ha68] with Hz68c
  · isplitr; · iexact HR
    iexact Ha68
  imodintro
  isplitl [Hz20c]; · iexact Hz20c
  isplitl [Hz36c]; · iexact Hz36c
  isplitl [Hz52c]; · iexact Hz52c
  iexact Hz68c

theorem leave : iprop(exitP m c ∗ aside m c ∗ idleZ c)
    ⊢ (iprop(OW c (O3 c 15 15 15) ∗ scratch c ∗ zeros c ∗ arrs m c) : sProp 𝕄) := by
  unfold idleZ
  unfold exitP aside scratch zeros arrs
  rw [dma_eq c (fun g => (semVal g 0 : sProp 𝕄)), khead_split, vhead_split,
    posts_eq m c (Finset.range 15) (fun i => 36 + (pr c i).val) (fun i => rslot c (pr c i).val (recvF m c)) (fun i _ => dmaPay_ar m c (pr c i)),
    posts_eq m c (Finset.range 15) (fun i => 68 + (pr c i).val) (fun i => gslot fullShare c (pr c i).val (gathF m)) (fun i _ => dmaPay_cr m c (pr c i)),
    posts_eq m c (Finset.range 15) (fun i => 20 + (pr c i).val) (fun i => prow c (pr c i).val (pbfF m c)) (fun i _ => dmaPay_as m c (pr c i))]
  unfold fam
  iintro ⟨⟨HzB, HK, HV, HA, HP, Hrow, ⟨H36, Hz36⟩, ⟨H68, Hz68⟩, HG, ⟨H20, Hz20⟩, HC⟩, ⟨H5, HkR, HvR⟩, Hz20c, Hz36c, Hz52c, Hz68c⟩
  ihave HK := (KW_end m c) $$ HK
  ihave HV := (VW_end m c) $$ HV
  ihave HC := (CW_end m c) $$ HC
  icases HK with ⟨HKs, HKh, HzK⟩
  icases HV with ⟨HVs, HVh, HzV⟩
  icases HC with ⟨HO, H52, Hz52⟩
  ihave H0 := (kslab_join m c) $$ HKs
  ihave H1 := (vslab_join m c) $$ HVs
  ihave H5 := (recv_join m c) $$ [H5 H36]
  · isplitl [H5]; · iexact H5
    iexact H36
  ihave HG := (own_join m c) $$ [HG H52]
  · isplitl [HG]; · iexact HG
    iexact H52
  ihave H6 := (gath_join m c) $$ [HG H68]
  · isplitl [HG]; · iexact HG
    iexact H68
  ihave H4 := (Entails.of_eq (rows_split m c).symm) $$ [Hrow H20]
  · isplitl [Hrow]; · iexact Hrow
    iexact H20
  isplitl [HO]; · iexact HO
  isplitl [H0 H1 HA HP H4 H5 H6]
  · isplitl [H0]; · iexact H0
    isplitl [H1]; · iexact H1
    isplitl [HA]; · unfold BA; iexists _; iexact HA
    isplitl [HP]; · unfold BP; iexists _; iexact HP
    isplitl [H4]; · unfold BB; iexists _; iexact H4
    isplitl [H5]; · iexact H5
    iexact H6
  isplitr [HKh HkR HVh HvR]
  · isplitr [HzB]
    · isplitl [HzK]; · iexact HzK
      isplitl [HzV]; · iexact HzV
      isplitl [Hz20c Hz20]
      · isplitl [Hz20c]; · iexact Hz20c
        iexact Hz20
      isplitl [Hz36c Hz36]
      · isplitl [Hz36c]; · iexact Hz36c
        iexact Hz36
      isplitl [Hz52c Hz52]
      · isplitl [Hz52c]; · iexact Hz52c
        iexact Hz52
      isplitl [Hz68c]; · iexact Hz68c
      iexact Hz68
    iexact HzB
  isplitl [HKh HkR]
  · isplitl [HKh]; · iexact HKh
    iexact HkR
  isplitl [HVh]; · iexact HVh
  iexact HvR

/-! ## The kernel's body as the pipeline runs it -/

/-- What device `c`'s body starts from: the records of the cells, its positions and tokens, its credit, the levels, the
    key and value arrays. -/
def start : sProp 𝕄 := iprop(G' m c ∗ crd c ∗ levAts L lv ∗ arrs m c)

def Φ₀ : sProp 𝕄 := iprop(start m c ∗ scratch c)
def Φ₁ : sProp 𝕄 := iprop(scratch c ∗ zeros c ∗ arrs m c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wqstg m c
    | ⟨2, _⟩ => wostg m c
    | ⟨3, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_in (w : Fin cfg0.W) (hw : w.val < 3) (t : Fin cfg0.N) : (cfg0.win w).fetch t = true := by
  rw [fin_N0 t]; revert w; decide

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost : sProp 𝕄 :=
  iprop(Φ₁ m c ∗ (dats m 0 c).owesAt () t₀.succ ∗ stg c cc0_stg0_0 (xstg m c) ∗ stg c cc0_stg1_0 (wqstg m c) ∗ stg c cc0_stg2_0 (wostg m c)
    ∗ stg c cc0_stg3_0 (outF m c))

omit [FloatOps F] in
theorem O3_end : O3 c 15 15 15 = 0 := by unfold O3; rw [OB_end, OA_end, OC_end, add_zero, add_zero]

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem sound_body : bodyPre m c ⊢ W c (cc0_body xM xW qM qW oM oW kA kAW vA vAW yM yW kM kW vM vW aM aW pM pW bM bW rM rW gM gW sK sV sA rA sC rC)
    (fun _ => bodyPost m c) := by
  unfold bodyPre Φ₀ start G'
  iintro ⟨⟨⟨⟨%K, #HR, Hat, Htk⟩, Hcr, #Hlev, Harr⟩, Hscr⟩, Ho, ⟨%d0, %g0, %hg0, Hx⟩, ⟨%d1, %g1, %hg1, Hq⟩, ⟨%d2, %g2, %hg2, Hw⟩, ⟨%d3, %g3, %hg3, Hy⟩⟩
  have h0 : g0 = xstg m c := by rw [hg0]; unfold Dat.before; rw [if_pos (fetch_in (0 : Fin 4) (by decide) t₀)]; rfl
  have h1 : g1 = wqstg m c := by rw [hg1]; unfold Dat.before; rw [if_pos (fetch_in (1 : Fin 4) (by decide) t₀)]; rfl
  have h2 : g2 = wostg m c := by rw [hg2]; unfold Dat.before; rw [if_pos (fetch_in (2 : Fin 4) (by decide) t₀)]; rfl
  subst h0 h1 h2
  unfold Dat.owesAt Pipeline.owesWithin
  icases Ho with ⟨%V, %hV, HO⟩
  rw [show (dats m 0 c).owed t₀.castSucc = O3 c 0 0 0 from rfl]
  ihave He := (enter m c) $$ [Hat Htk Hcr HO Harr Hscr]
  · isplitl [Hat]; · iexact Hat
    isplitl [Htk]; · iexact Htk
    isplitl [Hcr]; · iexact Hcr
    isplitl [HO]; · unfold OW; iexists V; iexact HO
    isplitl [Harr]; · iexact Harr
    iexact Hscr
  icases He with ⟨He, Has, Hidle⟩
  imod (idle_all m K c) $$ [Hidle] with Hidle
  · isplitr; · iexact HR
    iexact Hidle
  unfold entry
  icases He with ⟨HSG, HBAR, HKC, HVC, HAT, HP, HB, HG, HaT, HcT, HM36, HM68⟩
  iapply (run_body m K c) $$ [HSG HBAR HKC HVC HAT HP HB HG HaT HcT HM36 HM68 Hx Hq Hw Hy]
  · isplitr
    · unfold Env
      unfold records
      icases HR with ⟨HI, HRr⟩
      isplitr; · iexact HI
      isplitr; · iexact HRr
      iexact Hlev
    isplitl [HSG]; · iexact HSG
    isplitl [HBAR]; · iexact HBAR
    isplitl [HKC]; · iexact HKC
    isplitl [HVC]; · iexact HVC
    isplitl [Hx]; · unfold BX; iexact Hx
    isplitl [Hq]; · unfold BWq; iexact Hq
    isplitl [Hw]; · unfold BWo; iexact Hw
    isplitl [HAT]; · iexact HAT
    isplitl [HP]; · iexact HP
    isplitl [HB]; · iexact HB
    isplitl [HG]; · iexact HG
    isplitl [Hy]; · unfold BO0; iexists g3; iexact Hy
    isplitl [HaT]; · iexact HaT
    isplitl [HcT]; · iexact HcT
    isplitl [HM36]; · iexact HM36
    iexact HM68
  iintro ⟨HzB, HKW, HVW, HX, HWq, HWo, HA, HP, HB, HAR, HCR, HG, HBO, HAW, HCW⟩
  ihave Hend := (leave m c) $$ [HzB HKW HVW HA HP HB HAR HCR HG HAW HCW Has Hidle]
  · isplitr [Has Hidle]
    · unfold exitP
      isplitl [HzB]; · iexact HzB
      isplitl [HKW]; · iexact HKW
      isplitl [HVW]; · iexact HVW
      isplitl [HA]; · iexact HA
      isplitl [HP]; · iexact HP
      isplitl [HB]; · iexact HB
      isplitl [HAR]; · iexact HAR
      isplitl [HCR]; · iexact HCR
      isplitl [HG]; · iexact HG
      isplitl [HAW]; · iexact HAW
      iexact HCW
    isplitl [Has]; · iexact Has
    iexact Hidle
  icases Hend with ⟨HO, Hscr, Hz, Harr⟩
  unfold OW
  icases HO with ⟨%V', HO⟩
  unfold bodyPost Φ₁ Dat.owesAt Pipeline.owesWithin
  rw [show (dats m 0 c).owed t₀.succ = O3 c 15 15 15 from (O3_end c).symm]
  isplitl [Hscr Hz Harr]
  · isplitl [Hscr]; · iexact Hscr
    isplitl [Hz]; · iexact Hz
    iexact Harr
  isplitl [HO]
  · iexists V'
    isplitr; · ipureintro; exact fun _ _ => Or.inl trivial
    iexact HO
  isplitl [HX]
  · iexists _; isplitr; · (ipureintro; rfl)
    unfold BX; iexact HX
  isplitl [HWq]
  · iexists _; isplitr; · (ipureintro; rfl)
    unfold BWq; iexact HWq
  isplitl [HWo]
  · iexists _; isplitr; · (ipureintro; rfl)
    unfold BWo; iexact HWo
  iexists _; isplitr; · (ipureintro; rfl)
  unfold BO; iexact HBO

set_option maxRecDepth 100000 in
/-- The library's body obligation on device `c`. -/
theorem body_obligation : BodyObligation (dats (F := F) m 0 c) (defs₀ (F := F)) 𝒱₀ () Set.univ := fun t => by
  rw [fin_N0 t]
  rw [bigSep_W, bigSep_W]
  simp only [owns_whole_eq]
  show bodyPre m c ⊢ wp frame (wpE (defs₀ (F := F)) 𝒱₀ c none) Set.univ
    (cc0_body xM xW qM qW oM oW kA kAW vA vAW yM yW kM kW vM vW aM aW pM pW bM bW rM rW gM gW sK sV sA rA sC rC) (fun _ => bodyPost m c)
  exact sound_body m c

end Run

end Cert.KernelIdealProof

end
-- ==== Proof.KernelIdealLaunch.lean ====
/-
The run of all sixteen devices: the launch, and what the arrays hold after it.
-/
module

public import proofs.«01_k».proof.Proof.KernelIdealRun
public import Idealize.ShloMosaic.Lib.Pipeline.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

omit [FloatOps F] in
theorem arrs_eq (c : Dev nD) : (Pipeline.unscopedRestP (Ix := Unit) (Name := ℕ) (U := UU) (Lvl := ℕ) Pipeline.Prefetch.none cfg0.spec c (fun b => m ((c : Thread nD τ).loc b)) : sProp 𝕄) = arrs m c := by
  rw [Pipeline.unscopedRestP_none, unscopedRest0_eq]; rfl

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [arrs_eq]
  iintro ⟨Harr, Hlev, Hcr, -, HG⟩
  ihave Hc := (creds (F := F) c) $$ Hcr
  imodintro
  unfold start crd
  isplitl
  · isplitl [HG]; · iexact HG
    isplitl [Hc]; · iexact Hc
    isplitl [Hlev]; · iexact Hlev
    iexact Harr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ arrs m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch zeros
  iintro ⟨Hr, ⟨Hz, HzB⟩, Harr⟩
  isplitl [HzB Harr]
  · isplitl [HzB]; · iexact HzB
    iexact Harr
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t => by
    have hs : semLv (.dma (((cfgs 0).win w).sem s)) = 0 := by revert w s; decide +kernel
    rcases t with ⟨_ | _, ht⟩
    · exact mayWait_lv c _ 0 0 0 (.inl (by omega)) (.inl (by omega)) (.inl (by omega))
    · have h := mayWait_lv (F := F) c (.dma (((cfgs 0).win w).sem s)) 15 15 15 (.inr rfl) (.inr rfl) (.inr rfl)
      have e : (0 : CellTallies nD τ sig Unit) = OB c 15 + OA c 15 + OC c 15 := (O3_end c).symm
      rw [← e] at h
      exact h

/-- The array `w` on device `c` after the run. -/
def finalA (c : Dev nD) (w : Fin cfg0.W) : Buf (Elt F) ((cfg0.win w).arr.view.loc (c : Thread nD τ)) := (dats m 0 c).arrAt w cfg0.N

/-- The key and value arrays, and the unscoped semaphores, read at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = karr m c ∧ s.mem ((c : Thread nD τ).loc main_arg3) = varr m c

omit [FloatOps F] in
theorem arr_read (c : Dev nD) (b : Ref sig .tc) (f : Buf (Elt F) ((c : Thread nD τ).loc b)) (s' : Phys nD τ sig (Elt F)) :
    iprop((((c : Thread nD τ).loc b) ↦{fullShare} f : sProp 𝕄) ∗ SI s') ⊢ iprop(⌜s'.mem.mem ((c : Thread nD τ).loc b) = f⌝ ∗ SI s') := by
  iintro ⟨H, HSI⟩
  icombine HSI H gives %h
  isplitr
  · ipureintro; exact Buf.eq_of_forall_mem_univ h
  · iexact HSI

theorem read_end (c : Dev nD) (s' : Phys nD τ sig (Elt F)) :
    iprop((unscopedSems0 c ∗ arrs m c) ∗ emp ∗ SI s') ⊢ |={Set.univ}=> iprop(⌜QY m c s'.mem⌝ ∗ SI s') := by
  unfold arrs
  iintro ⟨⟨Hu, Hk, Hv⟩, -, HSI⟩
  ihave H := (arr_read c main_arg2 (karr m c) s') $$ [Hk HSI]
  · isplitl [Hk] <;> iassumption
  icases H with ⟨%hk, HSI⟩
  ihave H := (arr_read c main_arg3 (varr m c) s') $$ [Hv HSI]
  · isplitl [Hv] <;> iassumption
  icases H with ⟨%hv, HSI⟩
  ihave %hu := (tcUnscoped_read c s') $$ [Hu HSI]
  · isplitl [Hu] <;> iassumption
  imodintro
  isplitr
  · ipureintro; exact ⟨hu, hk, hv⟩
  · iexact HSI

/-- What a run leaves: every window's array as computed, the key and value arrays as they were. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = karr m c ∧ r.2.mem ((c : Thread nD τ).loc main_arg3) = varr m c

set_option maxRecDepth 100000 in
/-- From any memory with zero counters, for any float values, every weakly fair execution of @main on the sixteen
    devices ends, with each device's result array at the computed contents, every argument unchanged and every
    semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(unscopedSems0 c ∗ arrs m c)) (Z := fun _ => iprop(emp))
    (hX := start_intro m ρ) (hin := phi0_intro m) (hout := phi1_exit m)
    (QY := QY m) (hY := read_end m)
    (hQ := fun _ h hs => ⟨fun c => ⟨(h c).1, (h c).2.2.2⟩, sem_eq_zero hs fun c => (h c).2.2.1⟩)

/-! ## The arrays after the run -/

theorem finalA_in (c : Dev nD) (w : Fin cfg0.W) (hw : (cfg0.win w).isOut = false) : finalA m c w = m ((cfg0.win w).arr.view.loc (c : Thread nD τ)) :=
  (dats (F := F) m 0 c).arrAt_in w hw _

theorem flushed_eq (c : Dev nD) (t : Fin cfg0.N) : (dats m 0 c).flushed (3 : Fin 4) t = ((cfg0.win (3 : Fin 4)).blk t).view.read (Elt F) (outF m c) := by
  obtain rfl := fin_N0 t
  have ha : (dats m 0 c).after (3 : Fin 4) t0_0 = outF m c := rfl
  unfold Pipeline.Dat.flushed
  rw [ha]
  funext i
  refine congrArg (outF m c) (funext fun a => Fin.ext ?_)
  show (i a).val = 0 * _ + 1 * (i a).val
  omega

theorem cover (i : S256x1024.Idx) : ∃ t : Fin cfg0.N, (cfg0.win (3 : Fin 4)).flush t = true ∧ i ∈ ((cfg0.win (3 : Fin 4)).blk t).view.set := by
  refine ⟨t0_0, by decide, ?_⟩
  show i ∈ ((View.whole main_v1).slice (win0_3.rect t0_0)).set
  rw [View.set_slice_whole, Rect.mem_set_unit]
  intro a
  have h0 : (i 0 : ℕ) < 256 := (i 0).isLt
  have h1 : (i 1 : ℕ) < 1024 := (i 1).isLt
  fin_cases a
  · exact ⟨Nat.zero_le _, h0⟩
  · exact ⟨Nat.zero_le _, h1⟩

theorem finalA_out (c : Dev nD) : finalA m c (3 : Fin 4) = outF m c :=
  (dats m 0 c).arrAt_eq_of_cover (3 : Fin 4) (outF m c) (fun t _ => flushed_eq m c t) cover

/-- The run in terms of the arguments and the result: `outF` on each device, the five arguments unchanged. -/
theorem run_end : θ_run defs (onTc (τ := τ) (main (F := F))) (s₀ m ρ) (fun r =>
    (∀ c : Dev nD, r.2.mem ((c : Thread nD τ).loc main_v1) = outF m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun r h => ⟨fun c => ⟨((h.1 c).1 (3 : Fin 4)).trans (finalA_out m c),
    ((h.1 c).1 (0 : Fin 4)).trans (finalA_in m c (0 : Fin 4) rfl), ((h.1 c).1 (1 : Fin 4)).trans (finalA_in m c (1 : Fin 4) rfl),
    (h.1 c).2.1, (h.1 c).2.2, ((h.1 c).1 (2 : Fin 4)).trans (finalA_in m c (2 : Fin 4) rfl)⟩, h.2⟩) (run_main m ρ)

/-! ## The staged inputs are the arguments -/

theorem xstg_eq (c : Dev nD) : xstg m c = m ((c : Thread nD τ).loc main_arg0) := by
  funext i
  refine congrArg (m ((c : Thread nD τ).loc main_arg0)) (funext fun a => Fin.ext ?_)
  show 0 * _ + 1 * (i a).val = (i a).val
  omega

end Cert.KernelIdealProof

end
-- ==== Proof.Same.lean ====
/-
No operation of the kernel was rewritten for the ideal instance: the program printed for reading there is the kernel,
under other names. What is proved of the one at every instance holds of the other.
-/
module

public import proofs.«01_k».proof.Defs
public import proofs.«01_k».proof.Proof.Gen.Kernel
public import proofs.«01_k».proof.Proof.KernelIdealLaunch

@[expose] public section

noncomputable section

namespace Cert.Proof

open Idealize.ShloMosaic Idealize.SL.Sem

attribute [local instance] Cert.Kernel.Gen.facts Cert.KernelIdeal.Gen.facts

variable {F : FTy → Type} [FloatOps F]

/-- The two programs' kernels have the same body. -/
theorem defs₀_eq : @Cert.Kernel.defs₀ F _ _ = @Cert.KernelIdeal.defs₀ F _ _ := by
  unfold Cert.Kernel.defs₀ Cert.KernelIdeal.defs₀
  refine congrArg Defs.onTc (funext fun k => ?_)
  have h : k = (0 : Fin 1) := Fin.ext (by have := k.isLt; omega)
  subst h
  rfl

/-- The two programs have the same body table. -/
theorem defs_eq : @Cert.Kernel.defs F _ _ = @Cert.KernelIdeal.defs F _ _ :=
  congrArg (Pipeline.defs Cert.KernelIdeal.pcfgs) defs₀_eq

/-- **The kernel's frame**, at every instance: it runs to the end on all sixteen devices, its arguments unchanged and
    every semaphore at zero. -/
theorem frame_any (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_eq]
  exact (θ_run Cert.KernelIdeal.defs _ _).mono (fun _ h => ⟨fun c => (h.1 c).2, h.2⟩) (Cert.KernelIdealProof.run_end (F := F) m g)

end Cert.Proof

end
-- ==== Proof.ValueMath.lean ====
/-
The mathematics of the value claim, on extended reals alone: a softmax taken chunk by chunk with a running maximum is
the softmax taken at once with no maximum, when the scores are real numbers.
-/
module

public import Idealize.ShloMosaic.PureOps.Ideal
public import Idealize.ShloMosaic.PureOps.Ideal.Laws
public import Mathlib.Data.EReal.Operations
public import Mathlib.Data.EReal.Inv
public import Mathlib.Algebra.BigOperators.Fin

@[expose] public section

noncomputable section

namespace Cert.Attention

open Idealize.ShloMosaic
open scoped BigOperators

/-! ## Extended reals -/

/-- A real factor that is not negative distributes over a finite sum. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert x s hx ih =>
    rw [Finset.sum_insert hx, Finset.sum_insert hx, ← ih]
    exact EReal.left_distrib_of_nonneg_of_ne_top (EReal.coe_nonneg.mpr ha) (EReal.coe_ne_top a) _ _

theorem coe_mul_add {a : ℝ} (ha : 0 ≤ a) (x y : EReal) : (a : EReal) * (x + y) = (a : EReal) * x + (a : EReal) * y :=
  EReal.left_distrib_of_nonneg_of_ne_top (EReal.coe_nonneg.mpr ha) (EReal.coe_ne_top a) _ _

/-- A finite sum of real numbers is real. -/
theorem sum_coe {ι : Type} (s : Finset ι) (f : ι → ℝ) : ∑ i ∈ s, (f i : EReal) = ((∑ i ∈ s, f i : ℝ) : EReal) := by
  classical
  induction s using Finset.induction_on with
  | empty => simp
  | insert x s hx ih => rw [Finset.sum_insert hx, Finset.sum_insert hx, ih, EReal.coe_add]

/-- The greatest of some real numbers, taken from minus infinity, is real. -/
theorem fold_max_coe {ι : Type} (s : Finset ι) (hs : s.Nonempty) (f : ι → EReal) (hf : ∀ i, ∃ r : ℝ, f i = r) :
    ∃ M : ℝ, s.fold max ⊥ f = M := by
  classical
  induction hs using Finset.Nonempty.cons_induction with
  | singleton a =>
    obtain ⟨r, hr⟩ := hf a
    exact ⟨r, by rw [Finset.fold_singleton, hr]; exact max_eq_left bot_le⟩
  | cons a s ha hs ih =>
    obtain ⟨M, hM⟩ := ih
    obtain ⟨r, hr⟩ := hf a
    exact ⟨max r M, by rw [Finset.fold_cons, hM, hr]; exact (EReal.coe_strictMono.monotone.map_max).symm⟩

theorem exp_coe (r : ℝ) : Ideal.exp (r : EReal) = (Real.exp r : EReal) := rfl

/-- Division by a real number that is not zero. -/
theorem div_coe_ne {x : EReal} {b : ℝ} (hb : b ≠ 0) : Ideal.div x (b : EReal) = x * ((b⁻¹ : ℝ) : EReal) := by
  unfold Ideal.div
  rw [if_neg (by exact_mod_cast hb), EReal.coe_inv]

/-- A positive real factor of numerator and denominator cancels. -/
theorem div_mul_cancel {a b : ℝ} (ha : 0 < a) (hb : 0 < b) (x : EReal) :
    Ideal.div ((a : EReal) * x) ((a : EReal) * (b : EReal)) = Ideal.div x (b : EReal) := by
  rw [← EReal.coe_mul, div_coe_ne (mul_pos ha hb).ne', div_coe_ne hb.ne', mul_comm (a : EReal) x, mul_assoc, ← EReal.coe_mul]
  congr 2
  field_simp

/-! ## Splitting a sum along blocks -/

/-- Position `j` of block `i` of `a` blocks of length `b`. -/
def at2 {n a b : ℕ} (h : a * b = n) (i : Fin a) (j : Fin b) : Fin n :=
  ⟨b * i.val + j.val, by
    have h1 := i.isLt; have h2 := j.isLt
    calc b * i.val + j.val < b * i.val + b := by omega
      _ = b * (i.val + 1) := by rw [Nat.mul_add, Nat.mul_one]
      _ ≤ b * a := Nat.mul_le_mul_left _ h1
      _ = n := by rw [Nat.mul_comm, h]⟩

theorem at2_val {n a b : ℕ} (h : a * b = n) (i : Fin a) (j : Fin b) : (at2 h i j).val = b * i.val + j.val := rfl

/-- A sum over `a * b` positions, block by block. -/
theorem sum_blocks {M : Type} [AddCommMonoid M] {n a b : ℕ} (h : a * b = n) (f : Fin n → M) :
    ∑ k, f k = ∑ i : Fin a, ∑ j : Fin b, f (at2 h i j) := by
  subst h
  rw [← Equiv.sum_comp finProdFinEquiv, Fintype.sum_prod_type]
  refine Finset.sum_congr rfl fun i _ => Finset.sum_congr rfl fun j _ => congrArg f (Fin.ext ?_)
  simp only [finProdFinEquiv_apply_val, at2_val]
  omega

/-! ## The softmax of one row -/

/-- The values weighted by the exponentials of the scores, over the weights' sum. -/
def softAvg {n : ℕ} (s v : Fin n → EReal) : EReal :=
  Ideal.div (∑ j, Ideal.exp (s j) * v j) (∑ j, Ideal.exp (s j))

/-- The running state of the softmax by chunks: the maximum, the sum of weights, the weighted values. -/
structure Run where
  m : EReal
  l : EReal
  o : EReal

/-- One chunk of the softmax with a running maximum. -/
def Run.step {n : ℕ} (t : Run) (s v : Fin n → EReal) : Run where
  m := max t.m ((Finset.univ : Finset (Fin n)).fold max ⊥ s)
  l := t.l * Ideal.exp (t.m - max t.m ((Finset.univ : Finset (Fin n)).fold max ⊥ s))
    + ∑ j, Ideal.exp (s j - max t.m ((Finset.univ : Finset (Fin n)).fold max ⊥ s))
  o := t.o * Ideal.exp (t.m - max t.m ((Finset.univ : Finset (Fin n)).fold max ⊥ s))
    + ∑ j, v j * Ideal.exp (s j - max t.m ((Finset.univ : Finset (Fin n)).fold max ⊥ s))

/-- The state before the first chunk. -/
def Run.start : Run := ⟨⊥, 0, 0⟩

/-- The state stands for the sum of weights `L` and the weighted values `O`, both scaled by the exponential of the
    maximum's negative. -/
def Run.Is (t : Run) (L : ℝ) (O : EReal) : Prop :=
  ∃ μ : ℝ, t.m = μ ∧ t.l = (Real.exp (-μ) : EReal) * (L : EReal) ∧ t.o = (Real.exp (-μ) : EReal) * O

section Step
variable {n : ℕ} (s v : Fin n → EReal) (r : Fin n → ℝ) (hs : ∀ j, s j = r j)
include hs

theorem exp_shift (μ : ℝ) (j : Fin n) :
    Ideal.exp (s j - (μ : EReal)) = (Real.exp (-μ) : EReal) * (Real.exp (r j) : EReal) := by
  rw [hs, ← EReal.coe_sub, exp_coe, ← EReal.coe_mul, ← Real.exp_add]
  congr 2; ring

theorem sum_shift (μ : ℝ) :
    ∑ j, Ideal.exp (s j - (μ : EReal)) = (Real.exp (-μ) : EReal) * ((∑ j, Real.exp (r j) : ℝ) : EReal) := by
  rw [← sum_coe, coe_mul_sum _ (Real.exp_pos _).le]
  exact Finset.sum_congr rfl fun j _ => exp_shift s r hs μ j

theorem sum_shift_mul (μ : ℝ) :
    ∑ j, v j * Ideal.exp (s j - (μ : EReal)) = (Real.exp (-μ) : EReal) * ∑ j, (Real.exp (r j) : EReal) * v j := by
  rw [coe_mul_sum _ (Real.exp_pos _).le]
  refine Finset.sum_congr rfl fun j _ => ?_
  rw [exp_shift s r hs μ j, mul_comm (v j), mul_assoc]

theorem step_first (h0 : 0 < n) : (Run.start.step s v).Is (∑ j, Real.exp (r j)) (∑ j, (Real.exp (r j) : EReal) * v j) := by
  obtain ⟨M, hM⟩ := fold_max_coe (Finset.univ : Finset (Fin n)) ⟨⟨0, h0⟩, Finset.mem_univ _⟩ s fun j => ⟨r j, hs j⟩
  have hm : max (⊥ : EReal) (M : EReal) = (M : EReal) := max_eq_right bot_le
  refine ⟨M, ?_, ?_, ?_⟩
  · show max ⊥ _ = _; rw [hM, hm]
  · show 0 * _ + ∑ j, Ideal.exp (s j - max ⊥ _) = _
    rw [hM, hm, zero_mul, zero_add]; exact sum_shift s r hs M
  · show 0 * _ + ∑ j, v j * Ideal.exp (s j - max ⊥ _) = _
    rw [hM, hm, zero_mul, zero_add]; exact sum_shift_mul s v r hs M

theorem step_next (h0 : 0 < n) (t : Run) (L : ℝ) (O : EReal) (ht : t.Is L O) :
    (t.step s v).Is (L + ∑ j, Real.exp (r j)) (O + ∑ j, (Real.exp (r j) : EReal) * v j) := by
  obtain ⟨M, hM⟩ := fold_max_coe (Finset.univ : Finset (Fin n)) ⟨⟨0, h0⟩, Finset.mem_univ _⟩ s fun j => ⟨r j, hs j⟩
  obtain ⟨μ, hμ, hl, ho⟩ := ht
  have hm : max (μ : EReal) (M : EReal) = ((max μ M : ℝ) : EReal) := (EReal.coe_strictMono.monotone.map_max).symm
  have he : Ideal.exp ((μ : EReal) - ((max μ M : ℝ) : EReal)) = (Real.exp (μ - max μ M) : EReal) := by
    rw [← EReal.coe_sub, exp_coe]
  have hk : ∀ x : EReal, (Real.exp (-μ) : EReal) * x * (Real.exp (μ - max μ M) : EReal) = (Real.exp (-max μ M) : EReal) * x := fun x => by
    rw [mul_comm (_ * x), ← mul_assoc, ← EReal.coe_mul, ← Real.exp_add]
    congr 3; ring
  refine ⟨max μ M, ?_, ?_, ?_⟩
  · show max t.m _ = _; rw [hM, hμ, hm]
  · show t.l * Ideal.exp (t.m - max t.m _) + ∑ j, Ideal.exp (s j - max t.m _) = _
    rw [hM, hμ, hm, he, hl, hk, sum_shift s r hs, EReal.coe_add, coe_mul_add (Real.exp_pos _).le]
  · show t.o * Ideal.exp (t.m - max t.m _) + ∑ j, v j * Ideal.exp (s j - max t.m _) = _
    rw [hM, hμ, hm, he, ho, hk, sum_shift_mul s v r hs, coe_mul_add (Real.exp_pos _).le]

end Step

/-- Chunk `b` of four of a row of scores or values. -/
def chunk (x : Fin 4096 → EReal) (b : Fin 4) : Fin 1024 → EReal := fun j => x (at2 (by decide) b j)

/-- The state after the four chunks. -/
def run4 (s v : Fin 4096 → EReal) : Run :=
  (((Run.start.step (chunk s 0) (chunk v 0)).step (chunk s 1) (chunk v 1)).step (chunk s 2) (chunk v 2)).step (chunk s 3) (chunk v 3)

/-- **The softmax by chunks is the softmax at once**, when the scores are real. -/
theorem run4_eq (s v : Fin 4096 → EReal) (hs : ∀ j, ∃ r : ℝ, s j = r) :
    Ideal.div (run4 s v).o (run4 s v).l = softAvg s v := by
  choose r hr using hs
  let R : Fin 4 → Fin 1024 → ℝ := fun b j => r (at2 (by decide) b j)
  have hR : ∀ b j, chunk s b j = R b j := fun b j => hr _
  have h1 := step_first (chunk s 0) (chunk v 0) (R 0) (hR 0) (by decide)
  have h2 := step_next (chunk s 1) (chunk v 1) (R 1) (hR 1) (by decide) _ _ _ h1
  have h3 := step_next (chunk s 2) (chunk v 2) (R 2) (hR 2) (by decide) _ _ _ h2
  obtain ⟨μ, -, hl, ho⟩ := step_next (chunk s 3) (chunk v 3) (R 3) (hR 3) (by decide) _ _ _ h3
  have hL : (∑ j, Real.exp (R 0 j)) + (∑ j, Real.exp (R 1 j)) + (∑ j, Real.exp (R 2 j)) + (∑ j, Real.exp (R 3 j)) = ∑ j, Real.exp (r j) := by
    rw [sum_blocks (show 4 * 1024 = 4096 by decide), Fin.sum_univ_four]
  have hO : (∑ j, (Real.exp (R 0 j) : EReal) * chunk v 0 j) + (∑ j, (Real.exp (R 1 j) : EReal) * chunk v 1 j)
      + (∑ j, (Real.exp (R 2 j) : EReal) * chunk v 2 j) + (∑ j, (Real.exp (R 3 j) : EReal) * chunk v 3 j) = ∑ j, (Real.exp (r j) : EReal) * v j := by
    rw [sum_blocks (show 4 * 1024 = 4096 by decide), Fin.sum_univ_four]
    rfl
  have hpos : 0 < ∑ j, Real.exp (r j) := Finset.sum_pos (fun j _ => Real.exp_pos _) ⟨⟨0, by decide⟩, Finset.mem_univ _⟩
  rw [hL] at hl
  rw [hO] at ho
  unfold run4
  rw [hl, ho, div_mul_cancel (Real.exp_pos _) hpos]
  unfold softAvg
  have e : ∀ j, Ideal.exp (s j) = (Real.exp (r j) : EReal) := fun j => by rw [hr, exp_coe]
  simp only [e]
  rw [sum_coe]

/-- A product of real numbers, and a sum of them, is real. -/
def IsReal (x : EReal) : Prop := ∃ r : ℝ, x = r
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} [Fintype ι] {f : ι → EReal} (h : ∀ i, IsReal (f i)) : IsReal (∑ i, f i) := by
  choose r hr using h
  exact ⟨∑ i, r i, by rw [← sum_coe]; exact Finset.sum_congr rfl fun i _ => hr i⟩

/-- A scale on the queries is a scale on the scores, the queries and keys being real. -/
theorem scale_sum {n : ℕ} (q k : Fin n → EReal) (a : EReal) (hq : ∀ e, IsReal (q e)) (hk : ∀ e, IsReal (k e)) (ha : IsReal a) :
    ∑ e, (q e * a) * k e = (∑ e, q e * k e) * a := by
  choose q' hq using hq
  choose k' hk using hk
  obtain ⟨a, rfl⟩ := ha
  have e1 : ∀ e, (q e * (a : EReal)) * k e = ((q' e * k' e * a : ℝ) : EReal) := fun e => by
    rw [hq, hk, ← EReal.coe_mul, ← EReal.coe_mul]; congr 1; ring
  have e2 : ∀ e, q e * k e = ((q' e * k' e : ℝ) : EReal) := fun e => by rw [hq, hk, ← EReal.coe_mul]
  simp only [e1, e2]
  rw [sum_coe, sum_coe, ← EReal.coe_mul, Finset.sum_mul]

end Cert.Attention

end
-- ==== Proof.ValueKernel.lean ====
/-
The kernel's result at the ideal instance, entry by entry: the sum over the devices, the heads and the heads' columns of
the attention times the output weights.
-/
module

public import proofs.«01_k».proof.Proof.KernelIdealLaunch
public import proofs.«01_k».proof.Proof.ValueMath
public import Idealize.ShloMosaic.Lib.MatmulPlain
public import Idealize.ShloMosaic.Lib.ValueLayout
public import Idealize.ShloMosaic.Lib.ValueLayoutCasts
public import Idealize.ShloMosaic.PureOps.Ideal.Laws

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Cert.Attention

/-! ## The printed operations at the ideal instance -/

/-- The kernel's scale of the queries. -/
def scaleE : EReal := Ideal.ofBits .f32 0x3DB504F3#32

theorem S256_lift (h : S256x4096.Reduces [1] S256) (i : Fin 256) (k : Fin 4096) : h.lift (ValueIdx.ix1 i) k = ValueIdx.ix2 i k := by
  funext a; apply Fin.ext
  fin_cases a <;> rfl

theorem bcast_col (x : S256x1.Idx → EReal) (i : Fin 256) (d : Fin 128) :
    broadcastTo S256x128 x broadcasts_S256x1_S256x128 (ValueIdx.ix2 i d) = x (ValueIdx.ix2 i (0 : Fin 1)) :=
  broadcastTo_apply x _ _ _ fun a => match a with | ⟨0, _⟩ => rfl | ⟨1, _⟩ => rfl

/-- One head's attention at an offset of the queries' columns, as the kernel computes it. -/
def headGen (o : ℕ) (hs : S256x1024.Slices ![0, o] S256x128) (q : FVec Ideal S256x1024 .bf16) (k v : Vec Ideal S1x4096x128 .f32) :
    FVec Ideal S256x128 .bf16 :=
  let p : FVec Ideal S256x4096 .f32 := exp (matmul (φ₁ := .bf16) (φ₂ := .bf16) dot_S256x128_S4096x128_S256x4096_1_1_0_0_n_n none (extractStridedSlice S256x128 ![0, o] q hs)
    (truncf (φ := .f32) .bf16 (shapeCast S4096x128 k shapeCasts_S1x4096x128_S4096x128) bitsLt_bf16_f32) (constant S256x4096 .f32 0x00000000#32))
  shapeCast S256x128 (truncf (φ := .f32) .bf16 (divf (matmul (φ₁ := .bf16) (φ₂ := .bf16) dot_S256x4096_S4096x128_S256x128_1_0_0_1_n_n none (truncf .bf16 p bitsLt_bf16_f32)
      (truncf (φ := .f32) .bf16 (shapeCast S4096x128 v shapeCasts_S1x4096x128_S4096x128) bitsLt_bf16_f32) (constant S256x128 .f32 0x00000000#32))
    (broadcastTo S256x128 (shapeCast S256x1 (multiReduction .add [1] S256 p 0x00000000#32 reduces_S256x4096_S256 (.inl rfl) rfl)
      shapeCasts_S256_S256x1) broadcasts_S256x1_S256x128)) bitsLt_bf16_f32) shapeCasts_S256x128_S256x128

theorem headGen_apply (o : ℕ) (hs : S256x1024.Slices ![0, o] S256x128) (q : FVec Ideal S256x1024 .bf16) (k v : Vec Ideal S1x4096x128 .f32)
    (col : Fin 128 → Fin 1024) (hcol : ∀ e, (col e).val = o + e.val) (i : Fin 256) (d : Fin 128) :
    headGen o hs q k v (ValueIdx.ix2 i d)
      = softAvg (fun j => ∑ e : Fin 128, q (ValueIdx.ix2 i (col e)) * k (ValueIdx.ix3 (0 : Fin 1) j e)) (fun j => v (ValueIdx.ix3 (0 : Fin 1) j d)) := by
  have hp : ∀ j : Fin 4096, (exp (matmul (φ₁ := .bf16) (φ₂ := .bf16) dot_S256x128_S4096x128_S256x4096_1_1_0_0_n_n none (extractStridedSlice S256x128 ![0, o] q hs)
      (truncf (φ := .f32) .bf16 (shapeCast S4096x128 k shapeCasts_S1x4096x128_S4096x128) bitsLt_bf16_f32) (constant S256x4096 .f32 0x00000000#32)) : FVec Ideal S256x4096 .f32) (ValueIdx.ix2 i j)
      = Ideal.exp (∑ e : Fin 128, q (ValueIdx.ix2 i (col e)) * k (ValueIdx.ix3 (0 : Fin 1) j e)) := fun j => by
    refine congrArg Ideal.exp ((Ideal.matmul_transposedRhs_apply (M := 256) (K := 128) (N := 4096) (φ₁ := .bf16) (φ₂ := .bf16) none _ _ _ i j).trans ?_)
    show Ideal.ofBits .f32 0x00000000#32 + _ = _
    rw [Ideal.ofBits_zero_f32, zero_add]
    refine Finset.sum_congr rfl fun e _ => congr (congrArg _ ?_) ?_
    · exact ValueIdx.slice2_axis1_apply o q hs i e (col e) (hcol e)
    · exact ValueIdx.shapeCast_1ab_ab_apply (a := 4096) (b := 128) k _ j e
  unfold headGen
  dsimp only
  rw [shapeCast_self]
  show Ideal.div _ _ = _
  unfold softAvg
  refine congr (congrArg Ideal.div ?_) ?_
  · refine (Ideal.matmul_plain_apply (M := 256) (K := 4096) (N := 128) (φ₁ := .bf16) (φ₂ := .bf16) none _ _ _ i d).trans ?_
    show Ideal.ofBits .f32 0x00000000#32 + _ = _
    rw [Ideal.ofBits_zero_f32, zero_add]
    refine Finset.sum_congr rfl fun j _ => congr (congrArg _ (hp j)) ?_
    exact ValueIdx.shapeCast_1ab_ab_apply (a := 4096) (b := 128) v _ j d
  · rw [bcast_col]
    refine (ValueIdx.shapeCast_a_a1_apply (a := 256) _ _ i 0).trans ?_
    refine (Ideal.multiReduction_add_single _ _ _ _ _ _).trans ?_
    exact Finset.sum_congr rfl fun j _ => (congrArg _ (S256_lift _ i j)).trans (hp j)

theorem headFn_apply (h : Fin 8) (q : S256x1024.Idx → Elt Ideal .bf16) (k v : S1x4096x128.Idx → Elt Ideal .f32) (i : Fin 256) (d : Fin 128) :
    headFn (F := Ideal) h.val q k v (ValueIdx.ix2 i d)
      = softAvg (fun j => ∑ e : Fin 128, q (ValueIdx.ix2 i (at2 (a := 8) (b := 128) rfl h e)) * k (ValueIdx.ix3 (0 : Fin 1) j e)) (fun j => v (ValueIdx.ix3 (0 : Fin 1) j d)) := by
  have hc : ∀ e : Fin 128, (at2 (n := 1024) (a := 8) (b := 128) rfl h e).val = 128 * h.val + e.val := fun e => rfl
  fin_cases h
  · exact headGen_apply 0 slices_S256x1024_o0_0_S256x128 q k v _ hc i d
  · exact headGen_apply 128 slices_S256x1024_o0_128_S256x128 q k v _ hc i d
  · exact headGen_apply 256 slices_S256x1024_o0_256_S256x128 q k v _ hc i d
  · exact headGen_apply 384 slices_S256x1024_o0_384_S256x128 q k v _ hc i d
  · exact headGen_apply 512 slices_S256x1024_o0_512_S256x128 q k v _ hc i d
  · exact headGen_apply 640 slices_S256x1024_o0_640_S256x128 q k v _ hc i d
  · exact headGen_apply 768 slices_S256x1024_o0_768_S256x128 q k v _ hc i d
  · exact headGen_apply 896 slices_S256x1024_o0_896_S256x128 q k v _ hc i d

/-! ## The contents -/

section Contents
variable (m : (ℓ : Loc nD τ sig) → Buf (Elt Ideal) ℓ)

theorem wqstg_eq (c : Dev nD) : wqstg m c = m ((c : Thread nD τ).loc main_arg1) := by
  funext i
  refine congrArg (m ((c : Thread nD τ).loc main_arg1)) (funext fun a => Fin.ext ?_)
  show 0 * _ + 1 * (i a).val = (i a).val
  omega
theorem wostg_eq (c : Dev nD) : wostg m c = m ((c : Thread nD τ).loc main_arg4) := by
  funext i
  refine congrArg (m ((c : Thread nD τ).loc main_arg4)) (funext fun a => Fin.ext ?_)
  show 0 * _ + 1 * (i a).val = (i a).val
  omega

/-- The device's queries, scaled. -/
theorem qv_apply (c : Dev nD) (i : Fin 256) (n : Fin 1024) :
    qv m c (ValueIdx.ix2 i n) = (∑ k : Fin 1024, xstg m c (ValueIdx.ix3 (0 : Fin 1) i k) * wqstg m c (ValueIdx.ix2 k n)) * scaleE := by
  show (_ : EReal) * scaleE = _
  refine congrArg (· * scaleE) ((Ideal.matmul_plain_apply (M := 256) (K := 1024) (N := 1024) (φ₁ := .bf16) (φ₂ := .bf16) none _ _ _ i n).trans ?_)
  show Ideal.ofBits .f32 0x00000000#32 + _ = _
  rw [Ideal.ofBits_zero_f32, zero_add]
  refine Finset.sum_congr rfl fun k _ => congr (congrArg _ ?_) ?_
  · refine (ValueIdx.shapeCast_1ab_ab_apply (a := 256) (b := 1024) (shapeCast S1x256x1024 (xstg m c) shapeCasts_S1x256x1024_S1x256x1024)
      shapeCasts_S1x256x1024_S256x1024 i k).trans ?_
    exact congrFun (shapeCast_self (xstg m c) _) _
  · exact congrFun (shapeCast_self (wqstg m c) _) _

/-- The device's attention, at head `h` and column `e` of it. -/
theorem attnF_apply (c : Dev nD) (i : Fin 256) (h : Fin 8) (e : Fin 128) :
    attnF m c (ValueIdx.ix2 i (at2 (a := 8) (b := 128) rfl h e)) = headPay m c h (ValueIdx.ix2 i e) := by
  have h1 : colHead (at2 (n := 1024) (a := 8) (b := 128) rfl h e) = h := Fin.ext (by
    show (128 * h.val + e.val) / 128 = h.val
    have := e.isLt; omega)
  have h2 : colIn (at2 (n := 1024) (a := 8) (b := 128) rfl h e) = e := Fin.ext (by
    show (128 * h.val + e.val) % 128 = e.val
    have := e.isLt; omega)
  show headPay m c (colHead (at2 (n := 1024) (a := 8) (b := 128) rfl h e)) (ValueIdx.ix2 i (colIn (at2 (n := 1024) (a := 8) (b := 128) rfl h e))) = _
  rw [h1, h2]

/-- The device's partial result. -/
theorem partF_apply (c : Dev nD) (i : Fin 256) (n : Fin 1024) :
    partF m c (ValueIdx.ix2 i n) = ∑ h : Fin 8, ∑ e : Fin 128, headPay m c h (ValueIdx.ix2 i e) * wostg m c (ValueIdx.ix2 (at2 (a := 8) (b := 128) rfl h e) n) := by
  refine (congrFun (shapeCast_self (k0_pay10 (wostg m c) (attnF m c)) _) _).trans ?_
  refine (Ideal.matmul_plain_apply (M := 256) (K := 1024) (N := 1024) (φ₁ := .bf16) (φ₂ := .bf16) none _ _ _ i n).trans ?_
  show Ideal.ofBits .f32 0x00000000#32 + _ = _
  rw [Ideal.ofBits_zero_f32, zero_add, sum_blocks (a := 8) (b := 128) rfl]
  refine Finset.sum_congr rfl fun h _ => Finset.sum_congr rfl fun e _ => congr (congrArg _ (attnF_apply m c i h e)) ?_
  exact congrFun (shapeCast_self (wostg m c) _) _

theorem pbfF_eq (c : Dev nD) (i : S256x1024.Idx) : pbfF m c i = partF m c i := by
  refine (congrFun (shapeCast_self (truncf .bf16 (k0_pay10 (wostg m c) (attnF m c)) bitsLt_bf16_f32) _) i).trans ?_
  exact (congrFun (shapeCast_self (k0_pay10 (wostg m c) (attnF m c)) _) i).symm

/-- What the kernel adds of its `d`-th peer's rows. -/
theorem rv_add (c : Dev nD) (d : ℕ) (r : Fin 16) (n : Fin 1024) :
    (extf .f32 (shapeCast S16x1024 (rv m c d) shapeCasts_S1x16x1024_S16x1024 : FVec Ideal S16x1024 .bf16) bitsLt_bf16_f32 : FVec Ideal S16x1024 .f32) (ValueIdx.ix2 r n)
      = partF m (pr c d) (ValueIdx.ix2 (rowOf c r) n) :=
  (ValueIdx.shapeCast_1ab_ab_apply (a := 16) (b := 1024) (rv m c d) shapeCasts_S1x16x1024_S16x1024 r n).trans (pbfF_eq m (pr c d) _)

/-- **The reduction**: device `c`'s rows, summed over the sixteen devices. -/
theorem accF_apply (c : Dev nD) (r : Fin 16) (n : Fin 1024) :
    accF m c (ValueIdx.ix2 r n) = ∑ p : Dev nD, partF m p (ValueIdx.ix2 (rowOf c r) n) := by
  have e : accF m c (ValueIdx.ix2 r n) = partF m c (ValueIdx.ix2 (rowOf c r) n) + ∑ d ∈ Finset.range 15, partF m (pr c d) (ValueIdx.ix2 (rowOf c r) n) := by
    simp only [← rv_add m c, Finset.sum_range_succ, Finset.sum_range_zero, zero_add, ← add_assoc]
    rfl
  rw [e, ← Finset.sum_image (f := fun p : Dev nD => partF m p (ValueIdx.ix2 (rowOf c r) n))
    (fun i hi j hj h => pr_inj c (Finset.mem_range.mp hi) (Finset.mem_range.mp hj) h), pr_image]
  exact Finset.add_sum_erase _ (fun p : Dev nD => partF m p (ValueIdx.ix2 (rowOf c r) n)) (Finset.mem_univ c)

theorem gathF_apply (c : Dev nD) (r : Fin 16) (n : Fin 1024) : gathF m (ValueIdx.ix3 c r n) = accF m c (ValueIdx.ix2 r n) := by
  show k0_pay21 (acc6 m c) (rv m c 14) (ValueIdx.ix3 (0 : Fin 1) r n) = _
  refine (congrFun (shapeCast_self (shapeCast S1x16x1024 (truncf .bf16 (k0_pay20 (acc6 m c) (rv m c 14)) bitsLt_bf16_f32) shapeCasts_S16x1024_S1x16x1024) _) _).trans ?_
  exact ValueIdx.shapeCast_ab_1ab_apply (a := 16) (b := 1024) _ _ 0 r n

/-- **The kernel's result**: on every device the sum of the devices' partial results. -/
theorem outF_apply (c : Dev nD) (i : Fin 256) (n : Fin 1024) : outF m c (ValueIdx.ix2 i n) = ∑ p : Dev nD, partF m p (ValueIdx.ix2 i n) := by
  have key : ∀ (d : Dev nD) (r : Fin 16), 16 * d.val + r.val = i.val → accF m d (ValueIdx.ix2 r n) = ∑ p : Dev nD, partF m p (ValueIdx.ix2 i n) := fun d r hdr => by
    rw [accF_apply]
    have : rowOf d r = i := Fin.ext hdr
    rw [this]
  unfold outF
  split
  · rename_i h
    have h : i.val / 16 = c.val := h
    exact key c ⟨i.val % 16, Nat.mod_lt _ (by decide)⟩ (by show 16 * c.val + i.val % 16 = i.val; omega)
  · have hi := i.isLt
    let d : Dev nD := ⟨i.val / 16, by show i.val / 16 < 16; omega⟩
    let r : Fin 16 := ⟨i.val % 16, Nat.mod_lt _ (by decide)⟩
    refine Eq.trans ?_ (key d r (by show 16 * (i.val / 16) + i.val % 16 = i.val; omega))
    rw [← gathF_apply]
    refine shapeCast_apply (s := S16x16x1024) (t := S256x1024) (gathF m) shapeCasts_S16x16x1024_S256x1024 (ValueIdx.ix2 i n) (ValueIdx.ix3 d r n) ?_
    rw [Shape.rowMajor_val_three, Shape.rowMajor_val_two]
    show (i.val / 16 * 16 + i.val % 16) * 1024 + n.val = i.val * 1024 + n.val
    congr 2; omega

end Contents

end Cert.KernelIdealProof

end
-- ==== Proof.ValueReference.lean ====
/-
The reference's result at the ideal instance, entry by entry: the attention of each head, taken by chunks of the keys with
a running maximum, is the softmax average when the scores are real; the result is that times the output weights.
-/
module

public import proofs.«01_k».proof.Proof.Gen.ReferenceIdeal.Run
public import proofs.«01_k».proof.Proof.ValueMath
public import Idealize.ShloMosaic.Lib.ValueLayout
public import Idealize.ShloMosaic.Lib.ValueLayoutCasts
public import Idealize.ShloMosaic.Lib.IdealHost
public import Idealize.ShloMosaic.PureOps.Ideal.Laws

@[expose] public section

noncomputable section

namespace Cert.ReferenceIdealProof

open Cert.ReferenceIdeal Cert.ReferenceIdeal.Gen Idealize.ShloMosaic Idealize.ShloMosaic.TcCoe
open Cert.Attention
open scoped BigOperators

/-! ## The reference's steps, as it computes them -/

section Steps
variable {F : FTy → Type} [FloatOps F]

/-- The queries, head by head. -/
def qR (x : FVec F S1x256x1024 .f32) (wq : FVec F S1024x16384 .f32) : FVec F S1x256x128x128 .f32 :=
  shapeCast _ (Host.dotGeneral dot_S1x256x1024_S1024x16384_S1x256x16384_2_0_01_1_n_n none x wq) shapeCasts_S1x256x16384_S1x256x128x128
/-- The scaled scores of a chunk of the keys. -/
def sR (q : FVec F S1x256x128x128 .f32) (k : FVec F S1x1024x128x128 .f32) : FVec F S1x128x256x1024 .f32 :=
  mulf (Host.dotGeneral dot_S1x256x128x128_S1x1024x128x128_S1x128x256x1024_3_3_1_1_02_02 none q k)
    (broadcastInDim S1x128x256x1024 ![] bcast_S_S1x128x256x1024 (constant S_ .f32 0x3DB504F3#32))
/-- The running maximum after the chunk. -/
def mR (m : FVec F S1x128x256x1 .f32) (s : FVec F S1x128x256x1024 .f32) : FVec F S1x128x256x1 .f32 :=
  maximumf m (broadcastInDim S1x128x256x1 ![0, 1, 2] bcast_S1x128x256_S1x128x256x1_0_1_2
    (Host.reduce FloatOps.maximumf s (constant S_ .f32 0xFF800000#32) reducesTo_S1x128x256x1024_S1x128x256_d3 h_S_))
/-- The correction of what was summed before the chunk. -/
def aR (m m' : FVec F S1x128x256x1 .f32) : FVec F S1x128x256x1 .f32 := Host.exp (subf m m')
/-- The chunk's weights. -/
def pR (s : FVec F S1x128x256x1024 .f32) (m' : FVec F S1x128x256x1 .f32) : FVec F S1x128x256x1024 .f32 :=
  Host.exp (subf s (broadcastInDim S1x128x256x1024 ![0, 1, 2, 3] bcast_S1x128x256x1_S1x128x256x1024_0_1_2_3 m'))
/-- The sum of weights after the chunk. -/
def lR (l a : FVec F S1x128x256x1 .f32) (p : FVec F S1x128x256x1024 .f32) : FVec F S1x128x256x1 .f32 :=
  addf (mulf l a) (broadcastInDim S1x128x256x1 ![0, 1, 2] bcast_S1x128x256_S1x128x256x1_0_1_2
    (Host.reduceAdd p (constant S_ .f32 0x00000000#32) reducesTo_S1x128x256x1024_S1x128x256_d3 h_S_))
/-- The head's column of a row's number, laid out with the rows first. -/
def tR (a : FVec F S1x128x256x1 .f32) : FVec F S1x256x128x128 .f32 :=
  broadcastInDim S1x256x128x128 ![0, 1, 2, 3] bcast_S1x256x128x1_S1x256x128x128_0_1_2_3
    (transpose S1x256x128x1 [0, 2, 1, 3] a transposes_S1x128x256x1_S1x256x128x1_0_2_1_3)
/-- The weighted values of the chunk. -/
def wR (v : FVec F S1x1024x128x128 .f32) (p : FVec F S1x128x256x1024 .f32) : FVec F S1x256x128x128 .f32 :=
  transpose S1x256x128x128 [0, 3, 1, 2] (Host.dotGeneral dot_S1x1024x128x128_S1x128x256x1024_S1x128x128x256_1_3_3_2_02_01 none v p)
    transposes_S1x128x128x256_S1x256x128x128_0_3_1_2

/-- The reference's state between chunks. -/
structure St (F : FTy → Type) where
  m : FVec F S1x128x256x1 .f32
  l : FVec F S1x128x256x1 .f32
  o : FVec F S1x256x128x128 .f32

/-- The state before the first chunk. -/
def st0 : St F where
  m := broadcastInDim S1x128x256x1 ![] bcast_S_S1x128x256x1 (constant S_ .f32 0xFF800000#32)
  l := broadcastInDim S1x128x256x1 ![] bcast_S_S1x128x256x1 (constant S_ .f32 0x00000000#32)
  o := broadcastInDim S1x256x128x128 ![] bcast_S_S1x256x128x128 (constant S_ .f32 0x00000000#32)

/-- The state after a chunk. -/
def St.next (t : St F) (q : FVec F S1x256x128x128 .f32) (k v : FVec F S1x1024x128x128 .f32) : St F where
  m := mR t.m (sR q k)
  l := lR t.l (aR t.m (mR t.m (sR q k))) (pR (sR q k) (mR t.m (sR q k)))
  o := addf (mulf t.o (tR (aR t.m (mR t.m (sR q k))))) (wR v (pR (sR q k) (mR t.m (sR q k))))

/-- The result from the last state. -/
def finR (t : St F) (wo : FVec F S16384x1024 .f32) : FVec F S256x1024 .f32 :=
  shapeCast _ (Host.dotGeneral dot_S1x256x16384_S16384x1024_S1x256x1024_2_0_01_1_n_n none
    (shapeCast _ (Host.divf t.o (tR t.l)) shapeCasts_S1x256x128x128_S1x256x16384) wo) shapeCasts_S1x256x1024_S256x1024

/-- The state after the four chunks. -/
def st4 (q : FVec F S1x256x128x128 .f32) (k v : FVec F S1x4096x128x128 .f32) : St F :=
  (((st0.next q (extractStridedSlice S1x1024x128x128 ![0, 0, 0, 0] k slices_S1x4096x128x128_S1x1024x128x128_0_0_0_0)
      (extractStridedSlice S1x1024x128x128 ![0, 0, 0, 0] v slices_S1x4096x128x128_S1x1024x128x128_0_0_0_0)).next q
      (extractStridedSlice S1x1024x128x128 ![0, 1024, 0, 0] k slices_S1x4096x128x128_S1x1024x128x128_0_1024_0_0)
      (extractStridedSlice S1x1024x128x128 ![0, 1024, 0, 0] v slices_S1x4096x128x128_S1x1024x128x128_0_1024_0_0)).next q
      (extractStridedSlice S1x1024x128x128 ![0, 2048, 0, 0] k slices_S1x4096x128x128_S1x1024x128x128_0_2048_0_0)
      (extractStridedSlice S1x1024x128x128 ![0, 2048, 0, 0] v slices_S1x4096x128x128_S1x1024x128x128_0_2048_0_0)).next q
      (extractStridedSlice S1x1024x128x128 ![0, 3072, 0, 0] k slices_S1x4096x128x128_S1x1024x128x128_0_3072_0_0)
      (extractStridedSlice S1x1024x128x128 ![0, 3072, 0, 0] v slices_S1x4096x128x128_S1x1024x128x128_0_3072_0_0)

/-- The reference's result is the composition of its steps. -/
theorem res_eq (m : (ℓ : Loc nD τ sig) → Buf (Elt F) ℓ) (c : Dev nD) :
    Cert.ReferenceIdeal.Value.res_main_v102 m c
      = finR (st4 (qR (m ((c.tc : Thread nD τ).loc main_arg0)) (m ((c.tc : Thread nD τ).loc main_arg1)))
          (m ((c.tc : Thread nD τ).loc main_arg2)) (m ((c.tc : Thread nD τ).loc main_arg3))) (m ((c.tc : Thread nD τ).loc main_arg4)) := by
  unfold Cert.ReferenceIdeal.Value.res_main_v102
  rfl

end Steps

/-! ## The steps at the ideal instance, entry by entry -/

/-- The reference's scale of the scores. -/
def scaleR : EReal := Ideal.ofBits .f32 0x3DB504F3#32

theorem ofBits_negInf : Ideal.ofBits .f32 0xFF800000#32 = ⊥ := by simp [Ideal.ofBits, Ideal.ieee]

theorem qR_apply (x : FVec Ideal S1x256x1024 .f32) (wq : FVec Ideal S1024x16384 .f32) (i : Fin 256) (hh e : Fin 128) :
    qR x wq (ValueIdx.ix4 (0 : Fin 1) i hh e) = ∑ k : Fin 1024, x (ValueIdx.ix3 (0 : Fin 1) i k) * wq (ValueIdx.ix2 k (at2 (a := 128) (b := 128) rfl hh e)) := by
  unfold qR
  refine (shapeCast_apply (s := S1x256x16384) (t := S1x256x128x128) _ _ (ValueIdx.ix4 (0 : Fin 1) i hh e) (ValueIdx.ix3 (0 : Fin 1) i (at2 (a := 128) (b := 128) rfl hh e)) ?_).trans ?_
  · rw [Shape.rowMajor_val_three, Shape.rowMajor_val_four]
    show (0 * 256 + i.val) * 16384 + (128 * hh.val + e.val) = ((0 * 256 + i.val) * 128 + hh.val) * 128 + e.val
    omega
  simp only [Host.dotGeneral]
  rw [Ideal.dotGeneral_apply]
  let D := dot_S1x256x1024_S1024x16384_S1x256x16384_2_0_01_1_n_n
  have hr : D.contr.rank = 1 := rfl
  have hs : D.contr.size ⟨0, by rw [hr]; exact Nat.one_pos⟩ = 1024 := rfl
  rw [← Equiv.sum_comp (ValueIdx.contrEquiv1 D 1024 hr hs).symm]
  refine Finset.sum_congr rfl fun k _ => ?_
  have hk := ValueIdx.contrEquiv1_symm_val D 1024 hr hs k
  refine congr (congrArg _ (congrArg x ?_)) (congrArg wq ?_)
  · funext a; apply Fin.ext
    match a with
    | ⟨0, _⟩ => rfl
    | ⟨1, _⟩ => rfl
    | ⟨2, _⟩ => exact hk
  · funext a; apply Fin.ext
    match a with
    | ⟨0, _⟩ => exact hk
    | ⟨1, _⟩ => rfl

theorem sR_apply (q : FVec Ideal S1x256x128x128 .f32) (k : FVec Ideal S1x1024x128x128 .f32) (hh : Fin 128) (i : Fin 256) (j : Fin 1024) :
    sR q k (ValueIdx.ix4 (0 : Fin 1) hh i j) = (∑ e : Fin 128, q (ValueIdx.ix4 (0 : Fin 1) i hh e) * k (ValueIdx.ix4 (0 : Fin 1) j hh e)) * scaleR := by
  unfold sR
  show (_ : EReal) * scaleR = _
  refine congrArg (· * scaleR) ?_
  simp only [Host.dotGeneral]
  rw [Ideal.dotGeneral_apply]
  let D := dot_S1x256x128x128_S1x1024x128x128_S1x128x256x1024_3_3_1_1_02_02
  have hr : D.contr.rank = 1 := rfl
  have hs : D.contr.size ⟨0, by rw [hr]; exact Nat.one_pos⟩ = 128 := rfl
  rw [← Equiv.sum_comp (ValueIdx.contrEquiv1 D 128 hr hs).symm]
  refine Finset.sum_congr rfl fun e _ => ?_
  have hk := ValueIdx.contrEquiv1_symm_val D 128 hr hs e
  refine congr (congrArg _ (congrArg q ?_)) (congrArg k ?_)
  · funext a; apply Fin.ext
    match a with
    | ⟨0, _⟩ => rfl
    | ⟨1, _⟩ => rfl
    | ⟨2, _⟩ => rfl
    | ⟨3, _⟩ => exact hk
  · funext a; apply Fin.ext
    match a with
    | ⟨0, _⟩ => rfl
    | ⟨1, _⟩ => rfl
    | ⟨2, _⟩ => rfl
    | ⟨3, _⟩ => exact hk

theorem red_d3 : S1x128x256x1024.Reduces [3] S1x128x256 := by decide

theorem red_lift (hh : Fin 128) (i : Fin 256) (j : Fin 1024) :
    red_d3.lift (ValueIdx.ix3 (0 : Fin 1) hh i) j = ValueIdx.ix4 (0 : Fin 1) hh i j := by
  funext a; apply Fin.ext
  fin_cases a <;> rfl

theorem bcast_d3 (x : S1x128x256.Idx → EReal) (hh : Fin 128) (i : Fin 256) :
    broadcastInDim S1x128x256x1 ![0, 1, 2] bcast_S1x128x256_S1x128x256x1_0_1_2 x (ValueIdx.ix4 (0 : Fin 1) hh i (0 : Fin 1)) = x (ValueIdx.ix3 (0 : Fin 1) hh i) :=
  broadcastInDim_apply _ _ x _ _ fun a => match a with | ⟨0, _⟩ => rfl | ⟨1, _⟩ => rfl | ⟨2, _⟩ => rfl

theorem mR_apply (m : FVec Ideal S1x128x256x1 .f32) (s : FVec Ideal S1x128x256x1024 .f32) (hh : Fin 128) (i : Fin 256) :
    mR m s (ValueIdx.ix4 (0 : Fin 1) hh i (0 : Fin 1))
      = max (m (ValueIdx.ix4 (0 : Fin 1) hh i (0 : Fin 1))) ((Finset.univ : Finset (Fin 1024)).fold max ⊥ fun j => s (ValueIdx.ix4 (0 : Fin 1) hh i j)) := by
  unfold mR
  show max _ _ = _
  refine congrArg (max (m (ValueIdx.ix4 (0 : Fin 1) hh i (0 : Fin 1)))) ((bcast_d3 _ hh i).trans ?_)
  rw [Host.reduce_eq_fold_single FloatOps.maximumf s _ _ red_d3]
  show (Finset.univ : Finset (Fin 1024)).fold max (Ideal.ofBits .f32 0xFF800000#32) _ = _
  rw [ofBits_negInf]
  exact congrArg (fun f => (Finset.univ : Finset (Fin 1024)).fold max ⊥ f) (funext fun j => congrArg s (red_lift hh i j))

theorem pR_apply (s : FVec Ideal S1x128x256x1024 .f32) (m : FVec Ideal S1x128x256x1 .f32) (hh : Fin 128) (i : Fin 256) (j : Fin 1024) :
    pR s m (ValueIdx.ix4 (0 : Fin 1) hh i j) = Ideal.exp (s (ValueIdx.ix4 (0 : Fin 1) hh i j) - m (ValueIdx.ix4 (0 : Fin 1) hh i (0 : Fin 1))) := by
  unfold pR
  refine congrArg Ideal.exp (congrArg (s (ValueIdx.ix4 (0 : Fin 1) hh i j) - ·) ?_)
  exact broadcastInDim_apply _ _ m _ _ fun a => match a with | ⟨0, _⟩ => rfl | ⟨1, _⟩ => rfl | ⟨2, _⟩ => rfl | ⟨3, _⟩ => rfl

theorem lR_apply (l a : FVec Ideal S1x128x256x1 .f32) (p : FVec Ideal S1x128x256x1024 .f32) (hh : Fin 128) (i : Fin 256) :
    lR l a p (ValueIdx.ix4 (0 : Fin 1) hh i (0 : Fin 1))
      = l (ValueIdx.ix4 (0 : Fin 1) hh i (0 : Fin 1)) * a (ValueIdx.ix4 (0 : Fin 1) hh i (0 : Fin 1)) + ∑ j : Fin 1024, p (ValueIdx.ix4 (0 : Fin 1) hh i j) := by
  unfold lR
  show (_ : EReal) + _ = _
  refine congrArg (_ + ·) ((bcast_d3 _ hh i).trans ?_)
  rw [ValueIdx.hostReduceAdd_apply, Ideal.hostReduceAdd_single _ red_d3]
  show Ideal.ofBits .f32 0x00000000#32 + _ = _
  rw [Ideal.ofBits_zero_f32, zero_add]
  exact Finset.sum_congr rfl fun j _ => congrArg p (red_lift hh i j)

theorem tR_apply (a : FVec Ideal S1x128x256x1 .f32) (i : Fin 256) (hh d : Fin 128) :
    tR a (ValueIdx.ix4 (0 : Fin 1) i hh d) = a (ValueIdx.ix4 (0 : Fin 1) hh i (0 : Fin 1)) := by
  unfold tR
  refine (broadcastInDim_apply _ _ _ _ (ValueIdx.ix4 (0 : Fin 1) i hh (0 : Fin 1)) fun a => match a with | ⟨0, _⟩ => rfl | ⟨1, _⟩ => rfl | ⟨2, _⟩ => rfl | ⟨3, _⟩ => rfl).trans ?_
  exact transpose_apply _ a _ _ _ fun b => match b with | ⟨0, _⟩ => rfl | ⟨1, _⟩ => rfl | ⟨2, _⟩ => rfl | ⟨3, _⟩ => rfl

theorem wR_apply (v : FVec Ideal S1x1024x128x128 .f32) (p : FVec Ideal S1x128x256x1024 .f32) (i : Fin 256) (hh d : Fin 128) :
    wR v p (ValueIdx.ix4 (0 : Fin 1) i hh d) = ∑ j : Fin 1024, v (ValueIdx.ix4 (0 : Fin 1) j hh d) * p (ValueIdx.ix4 (0 : Fin 1) hh i j) := by
  unfold wR
  refine (transpose_apply _ _ _ _ (ValueIdx.ix4 (0 : Fin 1) hh d i) fun b => match b with | ⟨0, _⟩ => rfl | ⟨1, _⟩ => rfl | ⟨2, _⟩ => rfl | ⟨3, _⟩ => rfl).trans ?_
  simp only [Host.dotGeneral]
  rw [Ideal.dotGeneral_apply]
  let D := dot_S1x1024x128x128_S1x128x256x1024_S1x128x128x256_1_3_3_2_02_01
  have hr : D.contr.rank = 1 := rfl
  have hs : D.contr.size ⟨0, by rw [hr]; exact Nat.one_pos⟩ = 1024 := rfl
  rw [← Equiv.sum_comp (ValueIdx.contrEquiv1 D 1024 hr hs).symm]
  refine Finset.sum_congr rfl fun j _ => ?_
  have hk := ValueIdx.contrEquiv1_symm_val D 1024 hr hs j
  refine congr (congrArg _ (congrArg v ?_)) (congrArg p ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk

/-! ## A row of the state -/

/-- The state at row `i`, head `hh` and column `d`. -/
def St.row (t : St Ideal) (hh : Fin 128) (i : Fin 256) (d : Fin 128) : Run where
  m := t.m (ValueIdx.ix4 (0 : Fin 1) hh i (0 : Fin 1))
  l := t.l (ValueIdx.ix4 (0 : Fin 1) hh i (0 : Fin 1))
  o := t.o (ValueIdx.ix4 (0 : Fin 1) i hh d)

theorem st0_row (hh : Fin 128) (i : Fin 256) (d : Fin 128) : (st0 : St Ideal).row hh i d = Run.start := by
  have e0 : Ideal.ofBits .f32 0x00000000#32 = 0 := Ideal.ofBits_zero_f32
  show Run.mk (Ideal.ofBits .f32 0xFF800000#32) (Ideal.ofBits .f32 0x00000000#32) (Ideal.ofBits .f32 0x00000000#32) = _
  rw [ofBits_negInf, e0]
  rfl

theorem next_row (t : St Ideal) (q : FVec Ideal S1x256x128x128 .f32) (k v : FVec Ideal S1x1024x128x128 .f32) (hh : Fin 128) (i : Fin 256) (d : Fin 128) :
    (t.next q k v).row hh i d = (t.row hh i d).step (fun j => sR q k (ValueIdx.ix4 (0 : Fin 1) hh i j)) (fun j => v (ValueIdx.ix4 (0 : Fin 1) j hh d)) := by
  have hm := mR_apply t.m (sR q k) hh i
  have ha : aR t.m (mR t.m (sR q k)) (ValueIdx.ix4 (0 : Fin 1) hh i (0 : Fin 1))
      = Ideal.exp (t.m (ValueIdx.ix4 (0 : Fin 1) hh i (0 : Fin 1)) - mR t.m (sR q k) (ValueIdx.ix4 (0 : Fin 1) hh i (0 : Fin 1))) := rfl
  unfold Run.step
  refine congr (congr (congrArg Run.mk hm) ?_) ?_
  · refine (lR_apply _ _ _ hh i).trans ?_
    simp only [ha, pR_apply, hm]
    rfl
  · show (_ : EReal) * tR (aR t.m (mR t.m (sR q k))) (ValueIdx.ix4 (0 : Fin 1) i hh d) + wR v (pR (sR q k) (mR t.m (sR q k))) (ValueIdx.ix4 (0 : Fin 1) i hh d) = _
    rw [tR_apply, wR_apply]
    simp only [ha, pR_apply, hm]
    rfl

/-- The score of row `i` and key `j` at head `hh`. -/
def scoreR (q : FVec Ideal S1x256x128x128 .f32) (k : FVec Ideal S1x4096x128x128 .f32) (hh : Fin 128) (i : Fin 256) (j : Fin 4096) : EReal :=
  (∑ e : Fin 128, q (ValueIdx.ix4 (0 : Fin 1) i hh e) * k (ValueIdx.ix4 (0 : Fin 1) j hh e)) * scaleR

theorem slice_key (o : ℕ) (b : Fin 4) (hob : o = 1024 * b.val) (h : S1x4096x128x128.Slices ![0, o, 0, 0] S1x1024x128x128)
    (k : FVec Ideal S1x4096x128x128 .f32) (j : Fin 1024) (hh e : Fin 128) :
    extractStridedSlice S1x1024x128x128 ![0, o, 0, 0] k h (ValueIdx.ix4 (0 : Fin 1) j hh e) = k (ValueIdx.ix4 (0 : Fin 1) (at2 (n := 4096) (a := 4) (b := 1024) rfl b j) hh e) :=
  ValueIdx.slice4_axis1_apply o k h 0 j hh e _ (by rw [hob]; rfl)

theorem st4_row (q : FVec Ideal S1x256x128x128 .f32) (k v : FVec Ideal S1x4096x128x128 .f32) (hh : Fin 128) (i : Fin 256) (d : Fin 128) :
    (st4 q k v).row hh i d = run4 (scoreR q k hh i) (fun j => v (ValueIdx.ix4 (0 : Fin 1) j hh d)) := by
  have hsl : ∀ (o : ℕ) (b : Fin 4) (hob : o = 1024 * b.val) (h : S1x4096x128x128.Slices ![0, o, 0, 0] S1x1024x128x128) (t : Run),
      t.step (fun j => sR q (extractStridedSlice S1x1024x128x128 ![0, o, 0, 0] k h) (ValueIdx.ix4 (0 : Fin 1) hh i j))
        (fun j => extractStridedSlice S1x1024x128x128 ![0, o, 0, 0] v h (ValueIdx.ix4 (0 : Fin 1) j hh d))
      = t.step (chunk (scoreR q k hh i) b) (chunk (fun j => v (ValueIdx.ix4 (0 : Fin 1) j hh d)) b) := fun o b hob h t => by
    refine congr (congrArg _ (funext fun j => ?_)) (funext fun j => slice_key o b hob h v j hh d)
    rw [sR_apply]
    exact congrArg (· * scaleR) (Finset.sum_congr rfl fun e _ => congrArg _ (slice_key o b hob h k j hh e))
  unfold st4 run4
  rw [next_row, next_row, next_row, next_row, st0_row, hsl 0 0 rfl, hsl 1024 1 rfl, hsl 2048 2 rfl, hsl 3072 3 rfl]

/-- **The reference's result**: the sum over the heads and their columns of the softmax average times the output weights,
    when the scores are real. -/
theorem finR_apply (q : FVec Ideal S1x256x128x128 .f32) (k v : FVec Ideal S1x4096x128x128 .f32) (wo : FVec Ideal S16384x1024 .f32)
    (hs : ∀ hh i j, IsReal (scoreR q k hh i j)) (i : Fin 256) (n : Fin 1024) :
    finR (st4 q k v) wo (ValueIdx.ix2 i n)
      = ∑ hh : Fin 128, ∑ d : Fin 128, softAvg (scoreR q k hh i) (fun j => v (ValueIdx.ix4 (0 : Fin 1) j hh d)) * wo (ValueIdx.ix2 (at2 (a := 128) (b := 128) rfl hh d) n) := by
  unfold finR
  refine (ValueIdx.shapeCast_1ab_ab_apply (a := 256) (b := 1024) _ _ i n).trans ?_
  simp only [Host.dotGeneral]
  rw [Ideal.dotGeneral_apply]
  let D := dot_S1x256x16384_S16384x1024_S1x256x1024_2_0_01_1_n_n
  have hr : D.contr.rank = 1 := rfl
  have hs1 : D.contr.size ⟨0, by rw [hr]; exact Nat.one_pos⟩ = 16384 := rfl
  rw [← Equiv.sum_comp (ValueIdx.contrEquiv1 D 16384 hr hs1).symm, sum_blocks (n := 16384) (a := 128) (b := 128) rfl]
  refine Finset.sum_congr rfl fun hh _ => Finset.sum_congr rfl fun d _ => ?_
  have hk := ValueIdx.contrEquiv1_symm_val D 16384 hr hs1 (at2 (a := 128) (b := 128) rfl hh d)
  have el : D.lhsIdx (ValueIdx.ix3 (0 : Fin 1) i n) ((ValueIdx.contrEquiv1 D 16384 hr hs1).symm (at2 (a := 128) (b := 128) rfl hh d)) = ValueIdx.ix3 (0 : Fin 1) i (at2 (a := 128) (b := 128) rfl hh d) := by
    funext a; apply Fin.ext
    match a with
    | ⟨0, _⟩ => rfl
    | ⟨1, _⟩ => rfl
    | ⟨2, _⟩ => exact hk
  have er : D.rhsIdx (ValueIdx.ix3 (0 : Fin 1) i n) ((ValueIdx.contrEquiv1 D 16384 hr hs1).symm (at2 (a := 128) (b := 128) rfl hh d)) = ValueIdx.ix2 (at2 (a := 128) (b := 128) rfl hh d) n := by
    funext a; apply Fin.ext
    match a with
    | ⟨0, _⟩ => exact hk
    | ⟨1, _⟩ => rfl
  refine congr (congrArg _ ((congrArg _ el).trans ?_)) (congrArg wo er)
  refine (shapeCast_apply (s := S1x256x128x128) (t := S1x256x16384) _ _ (ValueIdx.ix3 (0 : Fin 1) i (at2 (a := 128) (b := 128) rfl hh d)) (ValueIdx.ix4 (0 : Fin 1) i hh d) ?_).trans ?_
  · rw [Shape.rowMajor_val_three, Shape.rowMajor_val_four]
    show ((0 * 256 + i.val) * 128 + hh.val) * 128 + d.val = (0 * 256 + i.val) * 16384 + (128 * hh.val + d.val)
    omega
  show Ideal.div ((st4 q k v).o (ValueIdx.ix4 (0 : Fin 1) i hh d)) (tR (st4 q k v).l (ValueIdx.ix4 (0 : Fin 1) i hh d)) = _
  rw [tR_apply]
  show Ideal.div ((st4 q k v).row hh i d).o ((st4 q k v).row hh i d).l = _
  rw [st4_row]
  exact run4_eq _ _ (hs hh i)

end Cert.ReferenceIdealProof

end
-- ==== Proof.ValueClaim.lean ====
/-
The kernel's output is the reference's: a device's heads are a block of the reference's, a device's slices of the two
weight matrices are blocks of the reference's, and the scale may be applied before or after the product with the keys.
-/
module

public import proofs.«01_k».proof.Defs
public import proofs.«01_k».proof.Proof.ValueKernel
public import proofs.«01_k».proof.Proof.ValueReference

@[expose] public section

noncomputable section

namespace Cert.Proof

open Idealize.ShloMosaic Idealize.ShloMosaic.TcCoe Cert.Attention
open scoped BigOperators

/-! ## Finite entries are real numbers -/

/-- An extended real whose absolute value lies below infinity is a real number. -/
theorem isReal_of_abs_lt {x : EReal} (h : max x (-x) < ⊤) : IsReal x := by
  induction x using EReal.rec with
  | bot => simp at h
  | coe r => exact ⟨r, rfl⟩
  | top => simp at h

/-- The word of infinity. -/
theorem ofBits_inf : Ideal.ofBits .f32 0x7F800000#32 = (⊤ : EReal) := by
  simp [Ideal.ofBits, Ideal.ieee]

/-- A word whose exponent is not all ones denotes a real number. -/
theorem ieee_isReal (b : BitVec 32) (h : (b.extractLsb' 23 8).toNat ≠ 2 ^ 8 - 1) : IsReal (Ideal.ieee 8 23 b) := by
  unfold Ideal.ieee
  dsimp only
  rw [if_neg h]
  by_cases h0 : (b.extractLsb' 23 8).toNat = 0
  · rw [if_pos h0]; exact ⟨_, rfl⟩
  · rw [if_neg h0]; exact ⟨_, rfl⟩

/-- The scale is a real number. -/
theorem scale_isReal : IsReal (Ideal.ofBits .f32 0x3DB504F3#32) :=
  ieee_isReal 0x3DB504F3#32 (by decide)

/-- An array whose absolute values all compare below infinity has real entries. -/
theorem isReal_of_cmp {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1)
    (i : s.Idx) : IsReal (x i) := by
  have h1 : BitVec.ofBool (decide (max (x i) (-(x i)) < Ideal.ofBits .f32 0x7F800000#32)) = 1#1 := congrFun h i
  rw [ofBits_inf] at h1
  refine isReal_of_abs_lt ?_
  by_contra hc
  rw [decide_eq_false hc] at h1
  exact absurd h1 (by decide)

/-! ## The blocks of the weight matrices -/

open Cert.KernelIdeal in
/-- Column `128 h + e` of device `p`'s block of the query weights is column `e` of head `8 p + h` of the whole matrix. -/
theorem block_wq (W : (⟨2, ![1024, 16384]⟩ : Shape).Idx → EReal) (p : Dev nD) (h : Fin 8) (k : Fin 1024) (e : Fin 128) :
    Layout.block ⟨2, ![1024, 1024]⟩ ⟨2, ![1024, 16384]⟩ 1 16 p W (by decide) (ValueIdx.ix2 k (at2 (a := 8) (b := 128) rfl h e))
      = W (ValueIdx.ix2 k (at2 (a := 128) (b := 128) rfl (Cert.KernelIdealProof.headOf p h) e)) := by
  refine congrArg W (funext fun a => Fin.ext ?_)
  match a with
  | 0 => rfl
  | 1 =>
    show p.val * 1024 + (128 * h.val + e.val) = 128 * (8 * p.val + h.val) + e.val
    omega

open Cert.KernelIdeal in
/-- Row `128 h + e` of device `p`'s block of the output weights is row `e` of head `8 p + h` of the whole matrix. -/
theorem block_wo (W : (⟨2, ![16384, 1024]⟩ : Shape).Idx → EReal) (p : Dev nD) (h : Fin 8) (n : Fin 1024) (e : Fin 128) :
    Layout.block ⟨2, ![1024, 1024]⟩ ⟨2, ![16384, 1024]⟩ 0 16 p W (by decide) (ValueIdx.ix2 (at2 (a := 8) (b := 128) rfl h e) n)
      = W (ValueIdx.ix2 (at2 (a := 128) (b := 128) rfl (Cert.KernelIdealProof.headOf p h) e) n) := by
  refine congrArg W (funext fun a => Fin.ext ?_)
  match a with
  | 0 =>
    show p.val * 1024 + (128 * h.val + e.val) = 128 * (8 * p.val + h.val) + e.val
    omega
  | 1 => rfl

/-- Every head belongs to a device. -/
theorem exists_headOf (hh : Fin 128) : ∃ (p : Dev Cert.KernelIdeal.nD) (h : Fin 8), hh = Cert.KernelIdealProof.headOf p h := by
  have := hh.isLt
  exact ⟨⟨hh.val / 8, show hh.val / 8 < 16 by omega⟩, ⟨hh.val % 8, by omega⟩,
    Fin.ext (show hh.val = 8 * (hh.val / 8) + hh.val % 8 by omega)⟩

/-- A sum over the heads, device by device. -/
theorem sum_heads (f : Fin 128 → EReal) :
    ∑ p : Dev Cert.KernelIdeal.nD, ∑ h : Fin 8, f (Cert.KernelIdealProof.headOf p h) = ∑ hh, f hh :=
  (sum_blocks (a := 16) (b := 8) rfl f).symm

/-! ## The equation -/

section value

variable (m : (ℓ : Loc Cert.KernelIdeal.nD Cert.KernelIdeal.τ Cert.KernelIdeal.sig) → Buf (Elt Ideal) ℓ)
  (x : FVec Ideal Cert.ReferenceIdeal.S1x256x1024 .f32) (wq : FVec Ideal Cert.ReferenceIdeal.S1024x16384 .f32)
  (k v : FVec Ideal Cert.ReferenceIdeal.S1x4096x128x128 .f32) (wo : FVec Ideal Cert.ReferenceIdeal.S16384x1024 .f32)

/-- The devices hold their parts of the reference's arrays. -/
structure Parts : Prop where
  x_eq : ∀ c : Dev Cert.KernelIdeal.nD, m ((c.tc : Thread Cert.KernelIdeal.nD Cert.KernelIdeal.τ).loc Cert.KernelIdeal.main_arg0) = x
  wq_eq : ∀ c : Dev Cert.KernelIdeal.nD, m ((c.tc : Thread Cert.KernelIdeal.nD Cert.KernelIdeal.τ).loc Cert.KernelIdeal.main_arg1)
    = Layout.block ⟨2, ![1024, 1024]⟩ ⟨2, ![1024, 16384]⟩ 1 16 c wq
  k_eq : ∀ c : Dev Cert.KernelIdeal.nD, m ((c.tc : Thread Cert.KernelIdeal.nD Cert.KernelIdeal.τ).loc Cert.KernelIdeal.main_arg2) = k
  v_eq : ∀ c : Dev Cert.KernelIdeal.nD, m ((c.tc : Thread Cert.KernelIdeal.nD Cert.KernelIdeal.τ).loc Cert.KernelIdeal.main_arg3) = v
  wo_eq : ∀ c : Dev Cert.KernelIdeal.nD, m ((c.tc : Thread Cert.KernelIdeal.nD Cert.KernelIdeal.τ).loc Cert.KernelIdeal.main_arg4)
    = Layout.block ⟨2, ![1024, 1024]⟩ ⟨2, ![16384, 1024]⟩ 0 16 c wo

/-- The arrays the scores are made of have real entries. -/
structure Reals : Prop where
  x_real : ∀ i, IsReal (x i)
  wq_real : ∀ i, IsReal (wq i)
  k_real : ∀ i, IsReal (k i)

variable {m x wq k v wo} (hp : Parts m x wq k v wo) (hr : Reals x wq k)

open Cert.ReferenceIdealProof Cert.KernelIdealProof

include hr in
/-- The reference's queries are real. -/
theorem qR_isReal (i : Fin 256) (hh e : Fin 128) : IsReal (qR x wq (ValueIdx.ix4 (0 : Fin 1) i hh e)) := by
  rw [qR_apply]
  exact IsReal.sum fun j => (hr.x_real _).mul (hr.wq_real _)

include hr in
/-- The reference's scores are real. -/
theorem scoreR_isReal (hh : Fin 128) (i : Fin 256) (j : Fin 4096) : IsReal (scoreR (qR x wq) k hh i j) :=
  (IsReal.sum fun e => (qR_isReal hr i hh e).mul (hr.k_real _)).mul scale_isReal

include hp in
/-- A device's scaled query is the reference's query of its head, scaled. -/
theorem qv_eq (p : Dev Cert.KernelIdeal.nD) (i : Fin 256) (h : Fin 8) (e : Fin 128) :
    qv m p (ValueIdx.ix2 i (at2 (a := 8) (b := 128) rfl h e)) = qR x wq (ValueIdx.ix4 (0 : Fin 1) i (headOf p h) e) * scaleR := by
  rw [qv_apply, qR_apply, xstg_eq, wqstg_eq, hp.x_eq, hp.wq_eq]
  refine congrArg (· * scaleR) (Finset.sum_congr rfl fun n _ => ?_)
  rw [block_wq]

include hp hr in
/-- A device's scores are the reference's of its head. -/
theorem score_eq (p : Dev Cert.KernelIdeal.nD) (i : Fin 256) (h : Fin 8) (j : Fin 4096) :
    ∑ e : Fin 128, qv m p (ValueIdx.ix2 i (at2 (a := 8) (b := 128) rfl h e)) * kblk m p h (ValueIdx.ix3 (0 : Fin 1) j e)
      = scoreR (qR x wq) k (headOf p h) i j := by
  have hk : ∀ e : Fin 128, kblk m p h (ValueIdx.ix3 (0 : Fin 1) j e) = k (ValueIdx.ix4 (0 : Fin 1) j (headOf p h) e) := fun e =>
    congrFun (hp.k_eq p) _
  refine (Finset.sum_congr rfl fun e _ => congrArg₂ (fun a b : EReal => a * b) (qv_eq hp p i h e) (hk e)).trans ?_
  exact scale_sum _ _ _ (fun e => qR_isReal hr i _ e) (fun e => hr.k_real _) scale_isReal

include hp hr in
/-- A device's attention output is the reference's of its head. -/
theorem head_eq (p : Dev Cert.KernelIdeal.nD) (i : Fin 256) (h : Fin 8) (e : Fin 128) :
    headPay m p h (ValueIdx.ix2 i e)
      = softAvg (scoreR (qR x wq) k (headOf p h) i) (fun j => v (ValueIdx.ix4 (0 : Fin 1) j (headOf p h) e)) := by
  refine (headFn_apply h (qv m p) (kblk m p h) (vblk m p h) i e).trans ?_
  exact congrArg₂ softAvg (funext fun j => score_eq hp hr p i h j) (funext fun j => congrFun (hp.v_eq p) _)

include hp hr in
/-- The kernel's output on every device is the reference's. -/
theorem out_eq (c : Dev Cert.KernelIdeal.nD) : outF m c = finR (st4 (qR x wq) k v) wo := by
  have key : ∀ (i : Fin 256) (n : Fin 1024), outF m c (ValueIdx.ix2 i n) = finR (st4 (qR x wq) k v) wo (ValueIdx.ix2 i n) := by
    intro i n
    refine (outF_apply m c i n).trans ?_
    rw [finR_apply _ _ _ _ (fun hh i j => scoreR_isReal hr hh i j), ← sum_heads]
    refine Finset.sum_congr rfl fun p _ => ?_
    refine (partF_apply m p _ _).trans ?_
    refine Finset.sum_congr rfl fun h _ => Finset.sum_congr rfl fun e _ => ?_
    rw [wostg_eq, hp.wo_eq, block_wo, head_eq hp hr]
  funext i
  rw [ValueIdx.eq_ix2 i]
  exact key (i 0) (i 1)

end value

/-! ## From the claim's hypotheses -/

/-- Every column of the whole query weights lies in some device's block. -/
theorem wq_isReal (W : (⟨2, ![1024, 16384]⟩ : Shape).Idx → EReal)
    (h : ∀ (p : Dev Cert.KernelIdeal.nD) (i : (⟨2, ![1024, 1024]⟩ : Shape).Idx),
      IsReal (Layout.block ⟨2, ![1024, 1024]⟩ ⟨2, ![1024, 16384]⟩ 1 16 p W (by decide) i))
    (i : (⟨2, ![1024, 16384]⟩ : Shape).Idx) : IsReal (W i) := by
  have key : ∀ (k : Fin 1024) (n : Fin 16384), IsReal (W (ValueIdx.ix2 k n)) := by
    intro k n
    have hn := n.isLt
    obtain ⟨p, hd, he⟩ := exists_headOf ⟨n.val / 128, by omega⟩
    have hcol : n = at2 (a := 128) (b := 128) rfl (Cert.KernelIdealProof.headOf p hd) ⟨n.val % 128, by omega⟩ := by
      rw [← he]
      exact Fin.ext (show n.val = 128 * (n.val / 128) + n.val % 128 by omega)
    rw [hcol]
    exact block_wq W p hd k _ ▸ h p _
  rw [ValueIdx.eq_ix2 i]
  exact key (i 0) (i 1)

attribute [local instance] Cert.KernelIdeal.Gen.facts

/-- The side conditions of the finiteness predicate on a device's blocks. -/
theorem facts_kernel : Cert.Pre_scores_finite_KernelIdeal.Facts := ⟨by decide, by decide, by decide⟩

/-- The side conditions of the finiteness predicate on the whole arrays. -/
theorem facts_reference : Cert.Pre_scores_finite_ReferenceIdeal.Facts := ⟨by decide, by decide, by decide⟩

attribute [local instance] facts_kernel

open Cert.ReferenceIdealProof in
/-- From blocks that are parts of whole arrays and are finite: the kernel's output is the reference's. -/
theorem out_eq_of_pre (m : (ℓ : Loc Cert.KernelIdeal.nD Cert.KernelIdeal.τ Cert.KernelIdeal.sig) → Buf (Elt Ideal) ℓ)
    (x : FVec Ideal Cert.ReferenceIdeal.S1x256x1024 .f32) (wq : FVec Ideal Cert.ReferenceIdeal.S1024x16384 .f32)
    (k v : FVec Ideal Cert.ReferenceIdeal.S1x4096x128x128 .f32) (wo : FVec Ideal Cert.ReferenceIdeal.S16384x1024 .f32)
    (hp : Parts m x wq k v wo) (hpre : Cert.Pre_KernelIdeal_scores_finite_KernelIdeal m) (c : Dev Cert.KernelIdeal.nD) :
    Cert.KernelIdealProof.outF m c = finR (st4 (qR x wq) k v) wo := by
  refine out_eq hp ⟨fun i => ?_, wq_isReal wq fun p i => ?_, fun i => ?_⟩ c
  · exact hp.x_eq c ▸ isReal_of_cmp (s := Cert.KernelIdeal.S1x256x1024) _ _ (hpre c).1 i
  · exact hp.wq_eq p ▸ isReal_of_cmp (s := Cert.KernelIdeal.S1024x1024) _ _ (hpre p).2.1 i
  · exact hp.k_eq c ▸ isReal_of_cmp (s := Cert.KernelIdeal.S1x4096x128x128) _ _ (hpre c).2.2 i

end Cert.Proof

end
-- ==== Proof.lean ====
/-
The certificate's claims, put together: the frames of the kernel at machine floats and at the ideal instance, the
reference's frame, the idealization, and the equality of the results at the ideal instance.
-/
module

public import proofs.«01_k».proof.Defs
public import proofs.«01_k».proof.Proof.Gen.ReferenceIdeal
public import proofs.«01_k».proof.Proof.Gen.ReferenceIdeal.Run
public import proofs.«01_k».proof.Proof.Same
public import proofs.«01_k».proof.Proof.KernelIdealLaunch
public import proofs.«01_k».proof.Proof.ValueClaim

@[expose] public section

noncomputable section

namespace Cert.Proof

open Idealize.ShloMosaic Idealize.SL.Sem Cert.Kernel

/-- The kernel at machine floats runs to the end on all sixteen devices, its arguments unchanged and every semaphore at zero. -/
theorem frame_kernel : Cert.quiescent_Kernel := fun m ρ _ =>
  frame_any (F := Bits) m ρ

/-- The kernel at the ideal instance runs to the end on all sixteen devices, its arguments unchanged and every semaphore at zero. -/
theorem frame_kernelIdeal : Cert.quiescent_KernelIdeal := fun m ρ _ =>
  (θ_run Cert.KernelIdeal.defs _ _).mono (fun _ h => ⟨fun c => (h.1 c).2, h.2⟩) (Cert.KernelIdealProof.run_end (F := Ideal) m ρ)

/-- The reference runs to the end, its arguments unchanged and every semaphore at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

attribute [local instance] Cert.KernelIdeal.Gen.facts Cert.ReferenceIdeal.Gen.facts facts_kernel facts_reference

/-- From arguments that are parts of whole arrays, those of the scores finite: every device of the kernel ends with the
    reference's result. -/
theorem algebraic : Cert.algebraic_KernelIdeal_ReferenceIdeal_pre_scores_finite_KernelIdeal := fun m g m' g' hpre hargs =>
  ⟨Cert.ReferenceIdeal.Value.res_main_v102 m' 0,
    (θ_run Cert.KernelIdeal.defs _ _).mono
      (fun r h c => ⟨(h.1 c).1.trans ((out_eq_of_pre m _ _ _ _ _
          ⟨fun c => (hargs c).1, fun c => (hargs c).2.1, fun c => (hargs c).2.2.1, fun c => (hargs c).2.2.2.1,
            fun c => (hargs c).2.2.2.2⟩ hpre c).trans (Cert.ReferenceIdealProof.res_eq m' 0).symm), (h.1 c).2⟩)
      (Cert.KernelIdealProof.run_end (F := Ideal) m g),
    (θ_run Cert.ReferenceIdeal.defs _ _).mono (fun r h => h 0) (Cert.ReferenceIdeal.Value.run (F := Ideal) m' g')⟩

/-- The claims, with the side conditions they are stated under. -/
theorem claim : Cert.Claim := ⟨Cert.Kernel.Gen.facts, Cert.KernelIdeal.Gen.facts, Cert.ReferenceIdeal.Gen.facts,
  facts_kernel, facts_reference, frame_kernel, frame_kernelIdeal, fun m ρ _ => frame_kernelIdeal m ρ trivial,
  frame_referenceIdeal, fun m ρ _ => frame_referenceIdeal m ρ trivial, trivial, algebraic⟩

end Cert.Proof

end
